-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "dead" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)) (v3 : (c : Dev Cert.Kernel4Ideal.nD) → Buf (Elt Ideal) ((c.tc : Thread Cert.Kernel4Ideal.nD Cert.Kernel4Ideal.τ).loc Cert.Kernel4Ideal.main_v36_4)) (v4 : (c : Dev Cert.Kernel4Ideal.nD) → Buf (Elt Ideal) ((c.tc : Thread Cert.Kernel4Ideal.nD Cert.Kernel4Ideal.τ).loc Cert.Kernel4Ideal.main_v36_5)) (v5 : (c : Dev Cert.Kernel4Ideal.nD) → Buf (Elt Ideal) ((c.tc : Thread Cert.Kernel4Ideal.nD Cert.Kernel4Ideal.τ).loc Cert.Kernel4Ideal.main_v36_6)) (v6 : (c : Dev Cert.Kernel4Ideal.nD) → Buf (Elt Ideal) ((c.tc : Thread Cert.Kernel4Ideal.nD Cert.Kernel4Ideal.τ).loc Cert.Kernel4Ideal.main_v36_7)) (v7 : (c : Dev Cert.Kernel4Ideal.nD) → Buf (Elt Ideal) ((c.tc : Thread Cert.Kernel4Ideal.nD Cert.Kernel4Ideal.τ).loc Cert.Kernel4Ideal.main_v36_8)) (v8 : (c : Dev Cert.Kernel4Ideal.nD) → Buf (Elt Ideal) ((c.tc : Thread Cert.Kernel4Ideal.nD Cert.Kernel4Ideal.τ).loc Cert.Kernel4Ideal.main_v36_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_v36_4) = v3 c
          ∧ r.2.mem ((c.tc : Thread Cert.Kernel4Ideal.nD Cert.Kernel4Ideal.τ).loc Cert.Kernel4Ideal.main_v36_5) = v4 c
          ∧ r.2.mem ((c.tc : Thread Cert.Kernel4Ideal.nD Cert.Kernel4Ideal.τ).loc Cert.Kernel4Ideal.main_v36_6) = v5 c
          ∧ r.2.mem ((c.tc : Thread Cert.Kernel4Ideal.nD Cert.Kernel4Ideal.τ).loc Cert.Kernel4Ideal.main_v36_7) = v6 c
          ∧ r.2.mem ((c.tc : Thread Cert.Kernel4Ideal.nD Cert.Kernel4Ideal.τ).loc Cert.Kernel4Ideal.main_v36_8) = v7 c
          ∧ r.2.mem ((c.tc : Thread Cert.Kernel4Ideal.nD Cert.Kernel4Ideal.τ).loc Cert.Kernel4Ideal.main_v36_9) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v36) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v39) = v6 c
          ∧ r.2.mem ((c.tc : Thread Cert.Reference4Ideal.nD Cert.Reference4Ideal.τ).loc Cert.Reference4Ideal.main_v40) = v7 c
          ∧ r.2.mem ((c.tc : Thread Cert.Reference4Ideal.nD Cert.Reference4Ideal.τ).loc Cert.Reference4Ideal.main_v41) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x4x128 : Shape := ⟨4, ![2, 8192, 4, 128]⟩
abbrev S2x8192x512 : Shape := ⟨3, ![2, 8192, 512]⟩
abbrev S2x256x512 : Shape := ⟨3, ![2, 256, 512]⟩
abbrev S8x256x128 : Shape := ⟨3, ![8, 256, 128]⟩
abbrev S8x256x1 : Shape := ⟨3, ![8, 256, 1]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S1x256x512 : Shape := ⟨3, ![1, 256, 512]⟩
abbrev S256x512 : Shape := ⟨2, ![256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x8192x4x128, .f32⟩
  | .hbm, ⟨3, _⟩ => ⟨S2x8192x4x128, .bf16⟩
  | .hbm, ⟨4, _⟩ => ⟨S2x8192x4x128, .bf16⟩
  | .hbm, ⟨5, _⟩ => ⟨S2x8192x4x128, .bf16⟩
  | .hbm, ⟨6, _⟩ => ⟨S2x8192x512, .bf16⟩
  | .hbm, ⟨7, _⟩ => ⟨S2x8192x512, .bf16⟩
  | .hbm, ⟨8, _⟩ => ⟨S2x8192x512, .bf16⟩
  | .hbm, ⟨9, _⟩ => ⟨S2x8192x512, .bf16⟩
  | .local _ .vmem, ⟨0, _⟩ => ⟨S2x256x512, .bf16⟩
  | .local _ .vmem, ⟨1, _⟩ => ⟨S2x256x512, .bf16⟩
  | .local _ .vmem, ⟨2, _⟩ => ⟨S2x8192x512, .bf16⟩
  | .local _ .vmem, ⟨3, _⟩ => ⟨S2x8192x512, .bf16⟩
  | .local _ .vmem, ⟨4, _⟩ => ⟨S2x256x512, .bf16⟩
  | .local _ .vmem, ⟨5, _⟩ => ⟨S2x256x512, .bf16⟩
  | .local _ .vmem, ⟨6, _⟩ => ⟨S8x256x128, .f32⟩
  | .local _ .vmem, ⟨7, _⟩ => ⟨S8x256x1, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let arg1 : BitVec 32 := BitVec.ofNat 32 (i 1).val
  let c256_i32 : BitVec 32 := 256#32
  let v23 : BitVec 32 := Scalar.muli arg1 c256_i32
  v23
def k0_off1 (i : grid0.Coords) : Fin 3 → Nat :=
  let c0_19 : Index := 0#32
  let arg1 : BitVec 32 := BitVec.ofNat 32 (i 1).val
  let c256_i32 : BitVec 32 := 256#32
  let v23 : BitVec 32 := Scalar.muli arg1 c256_i32
  let v24 : BitVec 32 := v23
  let v26 : Index := Scalar.indexCast v24
  let c0_20 : Index := 0#32
  ![0, v26.toNat, 0]
def k0_off2 (i : grid0.Coords) : Fin 3 → Nat :=
  let c1_21 : Index := 1#32
  let arg1 : BitVec 32 := BitVec.ofNat 32 (i 1).val
  let c256_i32 : BitVec 32 := 256#32
  let v23 : BitVec 32 := Scalar.muli arg1 c256_i32
  let v24 : BitVec 32 := v23
  let v29 : Index := Scalar.indexCast v24
  let c0_22 : Index := 0#32
  ![1, v29.toNat, 0]
def k0_mult2 (arg8 : BitVec 32) : BitVec 32 :=
  let c256_i32_246 : BitVec 32 := 256#32
  let v496 : BitVec 32 := Scalar.muli arg8 c256_i32_246
  v496

def k0_off3 (arg8 : BitVec 32) : Fin 3 → Nat :=
  let c0_247 : Index := 0#32
  let c256_i32_246 : BitVec 32 := 256#32
  let v496 : BitVec 32 := Scalar.muli arg8 c256_i32_246
  let v497 : BitVec 32 := v496
  let v498 : Index := Scalar.indexCast v497
  let c0_248 : Index := 0#32
  ![0, v498.toNat, 0]
def k0_off4 (arg8 : BitVec 32) : Fin 3 → Nat :=
  let c1_249 : Index := 1#32
  let c256_i32_246 : BitVec 32 := 256#32
  let v496 : BitVec 32 := Scalar.muli arg8 c256_i32_246
  let v497 : BitVec 32 := v496
  let v501 : Index := Scalar.indexCast v497
  let c0_250 : Index := 0#32
  ![1, v501.toNat, 0]

def k0_chk1 (arg8 : BitVec 32) : Prop :=
  (256 ∣ (k0_mult2 arg8).toNat) ∧
  (∀ a, (k0_off3 arg8) a + S1x256x512.size a ≤ S2x8192x512.size a) ∧
  (∀ a, (k0_off4 arg8) a + S1x256x512.size a ≤ S2x8192x512.size a)
theorem k0_mult2_dvd : ∀ (arg8 : BitVec 32) (k0_hw1 : k0_chk1 arg8), 256 ∣ (k0_mult2 arg8).toNat := fun arg8 k0_hw1 => k0_hw1.1
theorem k0_off3_inb : ∀ (arg8 : BitVec 32) (k0_hw1 : k0_chk1 arg8), ∀ a, (k0_off3 arg8) a + S1x256x512.size a ≤ S2x8192x512.size a := fun arg8 k0_hw1 => k0_hw1.2.1
theorem k0_off4_inb : ∀ (arg8 : BitVec 32) (k0_hw1 : k0_chk1 arg8), ∀ a, (k0_off4 arg8) a + S1x256x512.size a ≤ S2x8192x512.size a := fun arg8 k0_hw1 => k0_hw1.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊥
  | "neg_log2e" => some ((-((Real.log 2)⁻¹) : ℝ) : EReal)
  | _ => none
-- ==== ReferenceIdeal.lean ====
abbrev S2x8192x4x128 : Shape := ⟨4, ![2, 8192, 4, 128]⟩
abbrev S8192 : Shape := ⟨1, ![8192]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x128x8192 : Shape := ⟨4, ![2, 4, 128, 8192]⟩
abbrev S2x8192x512 : Shape := ⟨3, ![2, 8192, 512]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x8192x4x128, .f32⟩
  | .hbm, ⟨3, _⟩ => ⟨S8192, .i32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S2x4x8192x8192, .f32⟩
  | .hbm, ⟨15, _⟩ => ⟨S2x4x8192x8192, .f32⟩
  | .hbm, ⟨16, _⟩ => ⟨S2x4x8192x8192, .f32⟩
  | .hbm, ⟨17, _⟩ => ⟨S2x4x8192x8192, .f32⟩
  | .hbm, ⟨18, _⟩ => ⟨S2x4x8192x8192, .i1⟩
  | .hbm, ⟨19, _⟩ => ⟨S2x4x8192x8192, .f32⟩
  | .hbm, ⟨20, _⟩ => ⟨S2x4x8192x8192, .f32⟩
  | .hbm, ⟨21, _⟩ => ⟨S2x4x8192x8192, .f32⟩
  | .hbm, ⟨22, _⟩ => ⟨S2x4x8192x8192, .f32⟩
  | .hbm, ⟨23, _⟩ => ⟨S2x4x8192x8192, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S_, .f32⟩
  | .hbm, ⟨30, _⟩ => ⟨S2x4x8192x8192, .i1⟩
  | .hbm, ⟨31, _⟩ => ⟨S2x4x8192x8192, .f32⟩
  | .hbm, ⟨32, _⟩ => ⟨S2x4x8192x8192, .f32⟩
  | .hbm, ⟨33, _⟩ => ⟨S_, .f32⟩
  | .hbm, ⟨34, _⟩ => ⟨S_, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192x8192, .f32⟩
  | .hbm, ⟨40, _⟩ => ⟨S2x4x8192x8192, .f32⟩
  | .hbm, ⟨41, _⟩ => ⟨S2x4x8192x8192, .f32⟩
  | .hbm, ⟨42, _⟩ => ⟨S2x4x8192x8192, .f32⟩
  | .hbm, ⟨43, _⟩ => ⟨S2x4x8192x8192, .i1⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S_, .f32⟩
  | .hbm, ⟨56, _⟩ => ⟨S_, .f32⟩
  | .hbm, ⟨57, _⟩ => ⟨S2x4x8192x8192, .i1⟩
  | .hbm, ⟨58, _⟩ => ⟨S2x4x8192x8192, .f32⟩
  | .hbm, ⟨59, _⟩ => ⟨S2x4x8192x8192, .f32⟩
  | .hbm, ⟨60, _⟩ => ⟨S2x4x128x8192, .f32⟩
  | .hbm, ⟨61, _⟩ => ⟨S2x8192x4x128, .f32⟩
  | .hbm, ⟨62, _⟩ => ⟨S2x8192x512, .f32⟩
  | .hbm, ⟨63, _⟩ => ⟨S2x8192x512, .bf16⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_call2_cst : Ref sig .tc := ⟨.hbm, 33, rfl⟩
abbrev main_call2_v0 : Ref sig .tc := ⟨.hbm, 34, rfl⟩
abbrev main_v12 : Ref sig .tc := ⟨.hbm, 35, rfl⟩
abbrev main_v13 : Ref sig .tc := ⟨.hbm, 36, rfl⟩
abbrev main_call3_v0 : Ref sig .tc := ⟨.hbm, 37, rfl⟩
abbrev main_call3_call0_cst : Ref sig .tc := ⟨.hbm, 38, rfl⟩
abbrev main_call3_call0_v0 : Ref sig .tc := ⟨.hbm, 39, rfl⟩
abbrev main_call3_call0_v1 : Ref sig .tc := ⟨.hbm, 40, rfl⟩
abbrev main_call3_call0_v2 : Ref sig .tc := ⟨.hbm, 41, rfl⟩
abbrev main_call3_call0_v3 : Ref sig .tc := ⟨.hbm, 42, rfl⟩
abbrev main_call3_call0_v4 : Ref sig .tc := ⟨.hbm, 43, rfl⟩
abbrev main_call3_call0_v5 : Ref sig .tc := ⟨.hbm, 44, rfl⟩
abbrev main_call3_call0_v6 : Ref sig .tc := ⟨.hbm, 45, rfl⟩
abbrev main_call3_call0_v7 : Ref sig .tc := ⟨.hbm, 46, rfl⟩
abbrev main_call3_call0_v8 : Ref sig .tc := ⟨.hbm, 47, rfl⟩
abbrev main_call3_call0_v9 : Ref sig .tc := ⟨.hbm, 48, rfl⟩
abbrev main_call3_call0_v10 : Ref sig .tc := ⟨.hbm, 49, rfl⟩
abbrev main_call3_call0_v11 : Ref sig .tc := ⟨.hbm, 50, rfl⟩
abbrev main_call3_v1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x3072 : Shape := ⟨3, ![2, 8192, 3072]⟩
abbrev S2x8192x512 : Shape := ⟨3, ![2, 8192, 512]⟩
abbrev S2x2x8192x256 : Shape := ⟨4, ![2, 2, 8192, 256]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1024 : Shape := ⟨1, ![1024]⟩
abbrev S1x1024 : Shape := ⟨2, ![1, 1024]⟩
abbrev S16384x1024 : Shape := ⟨2, ![16384, 1024]⟩
abbrev S16384x3072 : Shape := ⟨2, ![16384, 3072]⟩
abbrev S16384x512 : Shape := ⟨2, ![16384, 512]⟩
abbrev S2x16384x256 : Shape := ⟨3, ![2, 16384, 256]⟩
abbrev S256x1024 : Shape := ⟨2, ![256, 1024]⟩
abbrev S256x3072 : Shape := ⟨2, ![256, 3072]⟩
abbrev S256x512 : Shape := ⟨2, ![256, 512]⟩
abbrev S1x256x256 : Shape := ⟨3, ![1, 256, 256]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩
abbrev S256x256 : Shape := ⟨2, ![256, 256]⟩

abbrev nBuf : Space → Nat
  | .hbm => 42
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x8192x3072, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x2x8192x256, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1024, .f32⟩
  | .hbm, ⟨17, _⟩ => ⟨S2x512x1024, .bf16⟩
  | .hbm, ⟨18, _⟩ => ⟨S2x512x1024, .bf16⟩
  | .hbm, ⟨19, _⟩ => ⟨S2x512x1024, .bf16⟩
  | .hbm, ⟨20, _⟩ => ⟨S2x1024x1024, .bf16⟩
  | .hbm, ⟨21, _⟩ => ⟨S2x1024x5632, .bf16⟩
  | .hbm, ⟨22, _⟩ => ⟨S2x2816x1024, .bf16⟩
  | .hbm, ⟨23, _⟩ => ⟨S2x1024x1024, .bf16⟩
  | .hbm, ⟨24, _⟩ => ⟨S2x256x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x3072, .f32⟩
  | .hbm, ⟨33, _⟩ => ⟨S2x8192x512, .bf16⟩
  | .hbm, ⟨34, _⟩ => ⟨S16384x512, .bf16⟩
  | .hbm, ⟨35, _⟩ => ⟨S2x8192x512, .bf16⟩
  | .hbm, ⟨36, _⟩ => ⟨S16384x512, .bf16⟩
  | .hbm, ⟨37, _⟩ => ⟨S2x8192x512, .bf16⟩
  | .hbm, ⟨38, _⟩ => ⟨S16384x512, .bf16⟩
  | .hbm, ⟨39, _⟩ => ⟨S1x1024, .f32⟩
  | .hbm, ⟨40, _⟩ => ⟨S2x16384x256, .f32⟩
  | .hbm, ⟨41, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x256x256, .f32⟩
  | .local _ .vmem, ⟨11, _⟩ => ⟨S1x256x256, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024, .f32⟩
  | .local _ .vmem, ⟨17, _⟩ => ⟨S1x1024x2816, .bf16⟩
  | .local _ .vmem, ⟨18, _⟩ => ⟨S1x1024x2816, .bf16⟩
  | .local _ .vmem, ⟨19, _⟩ => ⟨S1x2816x1024, .bf16⟩
  | .local _ .vmem, ⟨20, _⟩ => ⟨S1x1024, .f32⟩
  | .local _ .vmem, ⟨21, _⟩ => ⟨S1x1024x1024, .bf16⟩
  | .local _ .vmem, ⟨22, _⟩ => ⟨S1x256x1024, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
abbrev S2x8192x1024 : Shape := ⟨3, ![2, 8192, 1024]⟩
abbrev S2x8192x3072 : Shape := ⟨3, ![2, 8192, 3072]⟩
abbrev S2x8192x512 : Shape := ⟨3, ![2, 8192, 512]⟩
abbrev S2x2x8192x256 : Shape := ⟨4, ![2, 2, 8192, 256]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1024 : Shape := ⟨1, ![1024]⟩
abbrev S1x1024 : Shape := ⟨2, ![1, 1024]⟩
abbrev S16384x1024 : Shape := ⟨2, ![16384, 1024]⟩
abbrev S16384x3072 : Shape := ⟨2, ![16384, 3072]⟩
abbrev S16384x512 : Shape := ⟨2, ![16384, 512]⟩
abbrev S2x16384x256 : Shape := ⟨3, ![2, 16384, 256]⟩
abbrev S256x1024 : Shape := ⟨2, ![256, 1024]⟩
abbrev S256x3072 : Shape := ⟨2, ![256, 3072]⟩
abbrev S256x512 : Shape := ⟨2, ![256, 512]⟩
abbrev S1x256x256 : Shape := ⟨3, ![1, 256, 256]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩
abbrev S256x256 : Shape := ⟨2, ![256, 256]⟩

abbrev nBuf : Space → Nat
  | .hbm => 42
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x8192x3072, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x2x8192x256, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1024, .f32⟩
  | .hbm, ⟨17, _⟩ => ⟨S2x512x1024, .bf16⟩
  | .hbm, ⟨18, _⟩ => ⟨S2x512x1024, .bf16⟩
  | .hbm, ⟨19, _⟩ => ⟨S2x512x1024, .bf16⟩
  | .hbm, ⟨20, _⟩ => ⟨S2x1024x1024, .bf16⟩
  | .hbm, ⟨21, _⟩ => ⟨S2x1024x5632, .bf16⟩
  | .hbm, ⟨22, _⟩ => ⟨S2x2816x1024, .bf16⟩
  | .hbm, ⟨23, _⟩ => ⟨S2x1024x1024, .bf16⟩
  | .hbm, ⟨24, _⟩ => ⟨S2x256x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x3072, .f32⟩
  | .hbm, ⟨33, _⟩ => ⟨S2x8192x512, .bf16⟩
  | .hbm, ⟨34, _⟩ => ⟨S16384x512, .bf16⟩
  | .hbm, ⟨35, _⟩ => ⟨S2x8192x512, .bf16⟩
  | .hbm, ⟨36, _⟩ => ⟨S16384x512, .bf16⟩
  | .hbm, ⟨37, _⟩ => ⟨S2x8192x512, .bf16⟩
  | .hbm, ⟨38, _⟩ => ⟨S16384x512, .bf16⟩
  | .hbm, ⟨39, _⟩ => ⟨S1x1024, .f32⟩
  | .hbm, ⟨40, _⟩ => ⟨S2x16384x256, .f32⟩
  | .hbm, ⟨41, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x256x256, .f32⟩
  | .local _ .vmem, ⟨11, _⟩ => ⟨S1x256x256, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024, .f32⟩
  | .local _ .vmem, ⟨17, _⟩ => ⟨S1x1024x2816, .bf16⟩
  | .local _ .vmem, ⟨18, _⟩ => ⟨S1x1024x2816, .bf16⟩
  | .local _ .vmem, ⟨19, _⟩ => ⟨S1x2816x1024, .bf16⟩
  | .local _ .vmem, ⟨20, _⟩ => ⟨S1x1024, .f32⟩
  | .local _ .vmem, ⟨21, _⟩ => ⟨S1x1024x1024, .bf16⟩
  | .local _ .vmem, ⟨22, _⟩ => ⟨S1x256x1024, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2x8192x1024 : Shape := ⟨3, ![2, 8192, 1024]⟩
abbrev S2x8192x3072 : Shape := ⟨3, ![2, 8192, 3072]⟩
abbrev S2x8192x512 : Shape := ⟨3, ![2, 8192, 512]⟩
abbrev S2x2x8192x256 : Shape := ⟨4, ![2, 2, 8192, 256]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1024 : Shape := ⟨1, ![1024]⟩
abbrev S1x2x8192x256 : Shape := ⟨4, ![1, 2, 8192, 256]⟩
abbrev S2x8192x256 : Shape := ⟨3, ![2, 8192, 256]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S256x1024 : Shape := ⟨2, ![256, 1024]⟩
abbrev S_ : Shape := ⟨0, ![]⟩
abbrev S2x8192x3x1024 : Shape := ⟨4, ![2, 8192, 3, 1024]⟩
abbrev S2x8192x1x1024 : Shape := ⟨4, ![2, 8192, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 140
  | .vmem => 0
  | .smem => 0
  | _ => 0

abbrev hbmTy0_0 (i : Nat) : BufTy := match i % 128 with
  | 0 => ⟨S2x8192x1024, .f32⟩
  | 1 => ⟨S2x8192x3072, .f32⟩
  | 2 => ⟨S2x8192x512, .f32⟩
  | 3 => ⟨S2x8192x512, .f32⟩
  | 4 => ⟨S2x8192x512, .f32⟩
  | 5 => ⟨S2x2x8192x256, .f32⟩
  | 6 => ⟨S2x512x1024, .f32⟩
  | 7 => ⟨S2x512x1024, .f32⟩
  | 8 => ⟨S2x512x1024, .f32⟩
  | 9 => ⟨S2x1024x1024, .f32⟩
  | 10 => ⟨S2x1024, .f32⟩
  | 11 => ⟨S2x1024x5632, .f32⟩
  | 12 => ⟨S2x2816x1024, .f32⟩
  | 13 => ⟨S2x1024, .f32⟩
  | 14 => ⟨S2x1024x1024, .f32⟩
  | 15 => ⟨S2x256x1024, .f32⟩
  | 16 => ⟨S1024, .f32⟩
  | 17 => ⟨S1x2x8192x256, .f32⟩
  | 18 => ⟨S2x8192x256, .f32⟩
  | 19 => ⟨S1x512x1024, .f32⟩
  | 20 => ⟨S512x1024, .f32⟩
  | 21 => ⟨S1x512x1024, .f32⟩
  | 22 => ⟨S512x1024, .f32⟩
  | 23 => ⟨S1x512x1024, .f32⟩
  | 24 => ⟨S512x1024, .f32⟩
  | 25 => ⟨S1x1024x1024, .f32⟩
  | 26 => ⟨S1024x1024, .f32⟩
  | 27 => ⟨S1x1024, .f32⟩
  | 28 => ⟨S1024, .f32⟩
  | 29 => ⟨S1x1024x5632, .f32⟩
  | 30 => ⟨S1024x5632, .f32⟩
  | 31 => ⟨S1x2816x1024, .f32⟩
  | 32 => ⟨S2816x1024, .f32⟩
  | 33 => ⟨S1x1024, .f32⟩
  | 34 => ⟨S1024, .f32⟩
  | 35 => ⟨S1x1024x1024, .f32⟩
  | 36 => ⟨S1024x1024, .f32⟩
  | 37 => ⟨S1x256x1024, .f32⟩
  | 38 => ⟨S256x1024, .f32⟩
  | 39 => ⟨S2x8192x3072, .f32⟩
  | 40 => ⟨S2x8192x3072, .f32⟩
  | 41 => ⟨S_, .f32⟩
  | 42 => ⟨S2x8192x3072, .f32⟩
  | 43 => ⟨S2x8192x3072, .f32⟩
  | 44 => ⟨S_, .f32⟩
  | 45 => ⟨S2x8192x3072, .f32⟩
  | 46 => ⟨S2x8192x3072, .f32⟩
  | 47 => ⟨S2x8192x3x1024, .f32⟩
  | 48 => ⟨S2x8192x1x1024, .f32⟩
  | 49 => ⟨S2x8192x1024, .f32⟩
  | 50 => ⟨S2x8192x1024, .f32⟩
  | 51 => ⟨S2x8192x1024, .f32⟩
  | 52 => ⟨S2x8192x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S2x8192x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S_, .f32⟩
  | 66 => ⟨S2x8192, .f32⟩
  | 67 => ⟨S2x8192x1, .f32⟩
  | 68 => ⟨S_, .f32⟩
  | 69 => ⟨S2x8192x1, .f32⟩
  | 70 => ⟨S2x8192x1, .f32⟩
  | 71 => ⟨S_, .f32⟩
  | 72 => ⟨S2x8192x1, .f32⟩
  | 73 => ⟨S2x8192x1, .f32⟩
  | 74 => ⟨S2x8192x1, .f32⟩
  | 75 => ⟨S2x8192x1024, .f32⟩
  | 76 => ⟨S2x8192x1024, .f32⟩
  | 77 => ⟨S1x1x1024, .f32⟩
  | 78 => ⟨S2x8192x1024, .f32⟩
  | 79 => ⟨S2x8192x1024, .f32⟩
  | 80 => ⟨S2x8192x5632, .f32⟩
  | 81 => ⟨S2x8192x2816, .f32⟩
  | 82 => ⟨S2x8192x2816, .f32⟩
  | 83 => ⟨S2x8192x2816, .f32⟩
  | 84 => ⟨S2x8192x2816, .f32⟩
  | 85 => ⟨S_, .f32⟩
  | 86 => ⟨S2x8192x2816, .f32⟩
  | 87 => ⟨S2x8192x2816, .f32⟩
  | 88 => ⟨S_, .f32⟩
  | 89 => ⟨S2x8192x2816, .f32⟩
  | 90 => ⟨S2x8192x2816, .f32⟩
  | 91 => ⟨S2x8192x2816, .f32⟩
  | 92 => ⟨S2x8192x2816, .f32⟩
  | 93 => ⟨S2x8192x1024, .f32⟩
  | 94 => ⟨S2x8192x1024, .f32⟩
  | 95 => ⟨S2x8192x1024, .f32⟩
  | 96 => ⟨S_, .f32⟩
  | 97 => ⟨S2x8192, .f32⟩
  | 98 => ⟨S2x8192x1, .f32⟩
  | 99 => ⟨S_, .f32⟩
  | 100 => ⟨S2x8192x1, .f32⟩
  | 101 => ⟨S2x8192x1, .f32⟩
  | 102 => ⟨S_, .f32⟩
  | 103 => ⟨S2x8192x1, .f32⟩
  | 104 => ⟨S2x8192x1, .f32⟩
  | 105 => ⟨S2x8192x1, .f32⟩
  | 106 => ⟨S2x8192x1024, .f32⟩
  | 107 => ⟨S2x8192x1024, .f32⟩
  | 108 => ⟨S1x1x1024, .f32⟩
  | 109 => ⟨S2x8192x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S_, .f32⟩
  | 115 => ⟨S2x8192x1024, .f32⟩
  | 116 => ⟨S2x8192x1024, .f32⟩
  | 117 => ⟨S_, .f32⟩
  | 118 => ⟨S2x8192x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S2x8192x1024, .f32⟩
  | 124 => ⟨S_, .f32⟩
  | 125 => ⟨S2x8192, .f32⟩
  | 126 => ⟨S2x8192x1, .f32⟩
  | 127 => ⟨S_, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S_, .f32⟩
  | 3 => ⟨S2x8192x1, .f32⟩
  | 4 => ⟨S2x8192x1, .f32⟩
  | 5 => ⟨S2x8192x1, .f32⟩
  | 6 => ⟨S2x8192x1024, .f32⟩
  | 7 => ⟨S2x8192x1024, .f32⟩
  | 8 => ⟨S1x1x1024, .f32⟩
  | 9 => ⟨S2x8192x1024, .f32⟩
  | 10 => ⟨S2x8192x1024, .f32⟩
  | 11 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_1 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_4 : Ref sig .tc := ⟨.hbm, 96, rfl⟩
abbrev main_v66 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_7 : Ref sig .tc := ⟨.hbm, 114, rfl⟩
abbrev main_v81 : Ref sig .tc := ⟨.hbm, 115, rfl⟩
abbrev main_v82 : Ref sig .tc := ⟨.hbm, 116, rfl⟩
abbrev main_cst_8 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_9 : Ref sig .tc := ⟨.hbm, 124, rfl⟩
abbrev main_v89 : Ref sig .tc := ⟨.hbm, 125, rfl⟩
abbrev main_v90 : Ref sig .tc := ⟨.hbm, 126, rfl⟩
abbrev main_cst_10 : Ref sig .tc := ⟨.hbm, 127, rfl⟩
abbrev main_v91 : Ref sig .tc := ⟨.hbm, 128, rfl⟩
abbrev main_v92 : Ref sig .tc := ⟨.hbm, 129, rfl⟩
abbrev main_cst_11 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]
-- ==== Kernel3.lean ====
abbrev S32x16x1024 : Shape := ⟨3, ![32, 16, 1024]⟩
abbrev S32x16x3072 : Shape := ⟨3, ![32, 16, 3072]⟩
abbrev S32x16x512 : Shape := ⟨3, ![32, 16, 512]⟩
abbrev S2x32x16x256 : Shape := ⟨4, ![2, 32, 16, 256]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1024 : Shape := ⟨1, ![1024]⟩
abbrev S1x1024 : Shape := ⟨2, ![1, 1024]⟩
abbrev S512x1024 : Shape := ⟨2, ![512, 1024]⟩
abbrev S512x3072 : Shape := ⟨2, ![512, 3072]⟩
abbrev S512x512 : Shape := ⟨2, ![512, 512]⟩
abbrev S2x512x256 : Shape := ⟨3, ![2, 512, 256]⟩
abbrev S256x1024 : Shape := ⟨2, ![256, 1024]⟩
abbrev S256x3072 : Shape := ⟨2, ![256, 3072]⟩
abbrev S256x512 : Shape := ⟨2, ![256, 512]⟩
abbrev S1x256x256 : Shape := ⟨3, ![1, 256, 256]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩
abbrev S256x256 : Shape := ⟨2, ![256, 256]⟩

abbrev nBuf : Space → Nat
  | .hbm => 42
  | .vmem => 26
  | .smem => 0
  | _ => 0

abbrev bufTy : (tb : Table) → Fin (tcTables nBuf tb) → BufTy
  | .hbm, ⟨0, _⟩ => ⟨S32x16x1024, .f32⟩
  | .hbm, ⟨1, _⟩ => ⟨S32x16x3072, .f32⟩
  | .hbm, ⟨2, _⟩ => ⟨S32x16x512, .f32⟩
  | .hbm, ⟨3, _⟩ => ⟨S32x16x512, .f32⟩
  | .hbm, ⟨4, _⟩ => ⟨S32x16x512, .f32⟩
  | .hbm, ⟨5, _⟩ => ⟨S2x32x16x256, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024x1024, .f32⟩
  | .hbm, ⟨15, _⟩ => ⟨S2x256x1024, .f32⟩
  | .hbm, ⟨16, _⟩ => ⟨S1024, .f32⟩
  | .hbm, ⟨17, _⟩ => ⟨S2x512x1024, .bf16⟩
  | .hbm, ⟨18, _⟩ => ⟨S2x512x1024, .bf16⟩
  | .hbm, ⟨19, _⟩ => ⟨S2x512x1024, .bf16⟩
  | .hbm, ⟨20, _⟩ => ⟨S2x1024x1024, .bf16⟩
  | .hbm, ⟨21, _⟩ => ⟨S2x1024x5632, .bf16⟩
  | .hbm, ⟨22, _⟩ => ⟨S2x2816x1024, .bf16⟩
  | .hbm, ⟨23, _⟩ => ⟨S2x1024x1024, .bf16⟩
  | .hbm, ⟨24, _⟩ => ⟨S2x256x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S512x1024, .f32⟩
  | .hbm, ⟨32, _⟩ => ⟨S512x3072, .f32⟩
  | .hbm, ⟨33, _⟩ => ⟨S32x16x512, .bf16⟩
  | .hbm, ⟨34, _⟩ => ⟨S512x512, .bf16⟩
  | .hbm, ⟨35, _⟩ => ⟨S32x16x512, .bf16⟩
  | .hbm, ⟨36, _⟩ => ⟨S512x512, .bf16⟩
  | .hbm, ⟨37, _⟩ => ⟨S32x16x512, .bf16⟩
  | .hbm, ⟨38, _⟩ => ⟨S512x512, .bf16⟩
  | .hbm, ⟨39, _⟩ => ⟨S1x1024, .f32⟩
  | .hbm, ⟨40, _⟩ => ⟨S2x512x256, .f32⟩
  | .hbm, ⟨41, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x256x256, .f32⟩
  | .local _ .vmem, ⟨11, _⟩ => ⟨S1x256x256, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1024, .f32⟩
  | .local _ .vmem, ⟨17, _⟩ => ⟨S1x1024x2816, .bf16⟩
  | .local _ .vmem, ⟨18, _⟩ => ⟨S1x1024x2816, .bf16⟩
  | .local _ .vmem, ⟨19, _⟩ => ⟨S1x2816x1024, .bf16⟩
  | .local _ .vmem, ⟨20, _⟩ => ⟨S1x1024, .f32⟩
  | .local _ .vmem, ⟨21, _⟩ => ⟨S1x1024x1024, .bf16⟩
  | .local _ .vmem, ⟨22, _⟩ => ⟨S1x256x1024, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S32x16x1024 : Shape := ⟨3, ![32, 16, 1024]⟩
abbrev S32x16x3072 : Shape := ⟨3, ![32, 16, 3072]⟩
abbrev S32x16x512 : Shape := ⟨3, ![32, 16, 512]⟩
abbrev S2x32x16x256 : Shape := ⟨4, ![2, 32, 16, 256]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1024 : Shape := ⟨1, ![1024]⟩
abbrev S1x32x16x256 : Shape := ⟨4, ![1, 32, 16, 256]⟩
abbrev S32x16x256 : Shape := ⟨3, ![32, 16, 256]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S256x1024 : Shape := ⟨2, ![256, 1024]⟩
abbrev S_ : Shape := ⟨0, ![]⟩
abbrev S32x16x3x1024 : Shape := ⟨4, ![32, 16, 3, 1024]⟩
abbrev S32x16x1x1024 : Shape := ⟨4, ![32, 16, 1, 1024]⟩
abbrev S32x16 : Shape := ⟨2, ![32, 16]⟩
abbrev S32x16x1 : Shape := ⟨3, ![32, 16, 1]⟩
abbrev S1x1x1024 : Shape := ⟨3, ![1, 1, 1024]⟩
abbrev S32x16x5632 : Shape := ⟨3, ![32, 16, 5632]⟩
abbrev S32x16x2816 : Shape := ⟨3, ![32, 16, 2816]⟩

abbrev nBuf : Space → Nat
  | .hbm => 140
  | .vmem => 0
  | .smem => 0
  | _ => 0

abbrev hbmTy0_0 (i : Nat) : BufTy := match i % 128 with
  | 0 => ⟨S32x16x1024, .f32⟩
  | 1 => ⟨S32x16x3072, .f32⟩
  | 2 => ⟨S32x16x512, .f32⟩
  | 3 => ⟨S32x16x512, .f32⟩
  | 4 => ⟨S32x16x512, .f32⟩
  | 5 => ⟨S2x32x16x256, .f32⟩
  | 6 => ⟨S2x512x1024, .f32⟩
  | 7 => ⟨S2x512x1024, .f32⟩
  | 8 => ⟨S2x512x1024, .f32⟩
  | 9 => ⟨S2x1024x1024, .f32⟩
  | 10 => ⟨S2x1024, .f32⟩
  | 11 => ⟨S2x1024x5632, .f32⟩
  | 12 => ⟨S2x2816x1024, .f32⟩
  | 13 => ⟨S2x1024, .f32⟩
  | 14 => ⟨S2x1024x1024, .f32⟩
  | 15 => ⟨S2x256x1024, .f32⟩
  | 16 => ⟨S1024, .f32⟩
  | 17 => ⟨S1x32x16x256, .f32⟩
  | 18 => ⟨S32x16x256, .f32⟩
  | 19 => ⟨S1x512x1024, .f32⟩
  | 20 => ⟨S512x1024, .f32⟩
  | 21 => ⟨S1x512x1024, .f32⟩
  | 22 => ⟨S512x1024, .f32⟩
  | 23 => ⟨S1x512x1024, .f32⟩
  | 24 => ⟨S512x1024, .f32⟩
  | 25 => ⟨S1x1024x1024, .f32⟩
  | 26 => ⟨S1024x1024, .f32⟩
  | 27 => ⟨S1x1024, .f32⟩
  | 28 => ⟨S1024, .f32⟩
  | 29 => ⟨S1x1024x5632, .f32⟩
  | 30 => ⟨S1024x5632, .f32⟩
  | 31 => ⟨S1x2816x1024, .f32⟩
  | 32 => ⟨S2816x1024, .f32⟩
  | 33 => ⟨S1x1024, .f32⟩
  | 34 => ⟨S1024, .f32⟩
  | 35 => ⟨S1x1024x1024, .f32⟩
  | 36 => ⟨S1024x1024, .f32⟩
  | 37 => ⟨S1x256x1024, .f32⟩
  | 38 => ⟨S256x1024, .f32⟩
  | 39 => ⟨S32x16x3072, .f32⟩
  | 40 => ⟨S32x16x3072, .f32⟩
  | 41 => ⟨S_, .f32⟩
  | 42 => ⟨S32x16x3072, .f32⟩
  | 43 => ⟨S32x16x3072, .f32⟩
  | 44 => ⟨S_, .f32⟩
  | 45 => ⟨S32x16x3072, .f32⟩
  | 46 => ⟨S32x16x3072, .f32⟩
  | 47 => ⟨S32x16x3x1024, .f32⟩
  | 48 => ⟨S32x16x1x1024, .f32⟩
  | 49 => ⟨S32x16x1024, .f32⟩
  | 50 => ⟨S32x16x1024, .f32⟩
  | 51 => ⟨S32x16x1024, .f32⟩
  | 52 => ⟨S32x16x1x1024, .f32⟩
  | 53 => ⟨S32x16x1024, .f32⟩
  | 54 => ⟨S32x16x1024, .f32⟩
  | 55 => ⟨S32x16x1024, .f32⟩
  | 56 => ⟨S32x16x1024, .f32⟩
  | 57 => ⟨S32x16x1x1024, .f32⟩
  | 58 => ⟨S32x16x1024, .f32⟩
  | 59 => ⟨S32x16x1024, .f32⟩
  | 60 => ⟨S32x16x1024, .f32⟩
  | 61 => ⟨S32x16x1024, .f32⟩
  | 62 => ⟨S32x16x1024, .f32⟩
  | 63 => ⟨S32x16x1024, .f32⟩
  | 64 => ⟨S32x16x1024, .f32⟩
  | 65 => ⟨S_, .f32⟩
  | 66 => ⟨S32x16, .f32⟩
  | 67 => ⟨S32x16x1, .f32⟩
  | 68 => ⟨S_, .f32⟩
  | 69 => ⟨S32x16x1, .f32⟩
  | 70 => ⟨S32x16x1, .f32⟩
  | 71 => ⟨S_, .f32⟩
  | 72 => ⟨S32x16x1, .f32⟩
  | 73 => ⟨S32x16x1, .f32⟩
  | 74 => ⟨S32x16x1, .f32⟩
  | 75 => ⟨S32x16x1024, .f32⟩
  | 76 => ⟨S32x16x1024, .f32⟩
  | 77 => ⟨S1x1x1024, .f32⟩
  | 78 => ⟨S32x16x1024, .f32⟩
  | 79 => ⟨S32x16x1024, .f32⟩
  | 80 => ⟨S32x16x5632, .f32⟩
  | 81 => ⟨S32x16x2816, .f32⟩
  | 82 => ⟨S32x16x2816, .f32⟩
  | 83 => ⟨S32x16x2816, .f32⟩
  | 84 => ⟨S32x16x2816, .f32⟩
  | 85 => ⟨S_, .f32⟩
  | 86 => ⟨S32x16x2816, .f32⟩
  | 87 => ⟨S32x16x2816, .f32⟩
  | 88 => ⟨S_, .f32⟩
  | 89 => ⟨S32x16x2816, .f32⟩
  | 90 => ⟨S32x16x2816, .f32⟩
  | 91 => ⟨S32x16x2816, .f32⟩
  | 92 => ⟨S32x16x2816, .f32⟩
  | 93 => ⟨S32x16x1024, .f32⟩
  | 94 => ⟨S32x16x1024, .f32⟩
  | 95 => ⟨S32x16x1024, .f32⟩
  | 96 => ⟨S_, .f32⟩
  | 97 => ⟨S32x16, .f32⟩
  | 98 => ⟨S32x16x1, .f32⟩
  | 99 => ⟨S_, .f32⟩
  | 100 => ⟨S32x16x1, .f32⟩
  | 101 => ⟨S32x16x1, .f32⟩
  | 102 => ⟨S_, .f32⟩
  | 103 => ⟨S32x16x1, .f32⟩
  | 104 => ⟨S32x16x1, .f32⟩
  | 105 => ⟨S32x16x1, .f32⟩
  | 106 => ⟨S32x16x1024, .f32⟩
  | 107 => ⟨S32x16x1024, .f32⟩
  | 108 => ⟨S1x1x1024, .f32⟩
  | 109 => ⟨S32x16x1024, .f32⟩
  | 110 => ⟨S32x16x1024, .f32⟩
  | 111 => ⟨S32x16x1024, .f32⟩
  | 112 => ⟨S32x16x1024, .f32⟩
  | 113 => ⟨S32x16x1024, .f32⟩
  | 114 => ⟨S_, .f32⟩
  | 115 => ⟨S32x16x1024, .f32⟩
  | 116 => ⟨S32x16x1024, .f32⟩
  | 117 => ⟨S_, .f32⟩
  | 118 => ⟨S32x16x1024, .f32⟩
  | 119 => ⟨S32x16x1024, .f32⟩
  | 120 => ⟨S32x16x1024, .f32⟩
  | 121 => ⟨S32x16x1024, .f32⟩
  | 122 => ⟨S32x16x1024, .f32⟩
  | 123 => ⟨S32x16x1024, .f32⟩
  | 124 => ⟨S_, .f32⟩
  | 125 => ⟨S32x16, .f32⟩
  | 126 => ⟨S32x16x1, .f32⟩
  | 127 => ⟨S_, .f32⟩
  | _ => ⟨S32x16x1024, .f32⟩

abbrev hbmTy0_1 (i : Nat) : BufTy := match i % 128 with
  | 0 => ⟨S32x16x1, .f32⟩
  | 1 => ⟨S32x16x1, .f32⟩
  | 2 => ⟨S_, .f32⟩
  | 3 => ⟨S32x16x1, .f32⟩
  | 4 => ⟨S32x16x1, .f32⟩
  | 5 => ⟨S32x16x1, .f32⟩
  | 6 => ⟨S32x16x1024, .f32⟩
  | 7 => ⟨S32x16x1024, .f32⟩
  | 8 => ⟨S1x1x1024, .f32⟩
  | 9 => ⟨S32x16x1024, .f32⟩
  | 10 => ⟨S32x16x1024, .f32⟩
  | 11 => ⟨S512x1024, .f32⟩
  | _ => ⟨S32x16x1024, .f32⟩

abbrev hbmTy (i : Nat) : BufTy := match i / 128 with
  | 0 => hbmTy0_0 i
  | 1 => hbmTy0_1 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_1 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_4 : Ref sig .tc := ⟨.hbm, 96, rfl⟩
abbrev main_v66 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_7 : Ref sig .tc := ⟨.hbm, 114, rfl⟩
abbrev main_v81 : Ref sig .tc := ⟨.hbm, 115, rfl⟩
abbrev main_v82 : Ref sig .tc := ⟨.hbm, 116, rfl⟩
abbrev main_cst_8 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_9 : Ref sig .tc := ⟨.hbm, 124, rfl⟩
abbrev main_v89 : Ref sig .tc := ⟨.hbm, 125, rfl⟩
abbrev main_v90 : Ref sig .tc := ⟨.hbm, 126, rfl⟩
abbrev main_cst_10 : Ref sig .tc := ⟨.hbm, 127, rfl⟩
abbrev main_v91 : Ref sig .tc := ⟨.hbm, 128, rfl⟩
abbrev main_v92 : Ref sig .tc := ⟨.hbm, 129, rfl⟩
abbrev main_cst_11 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]
-- ==== Kernel4.lean ====
abbrev S32x16x1024 : Shape := ⟨3, ![32, 16, 1024]⟩
abbrev S2x32x3x1536 : Shape := ⟨4, ![2, 32, 3, 1536]⟩
abbrev S2x1024 : Shape := ⟨2, ![2, 1024]⟩
abbrev S2x1024x7688 : Shape := ⟨3, ![2, 1024, 7688]⟩
abbrev S2x4x1536 : Shape := ⟨3, ![2, 4, 1536]⟩
abbrev S2x512 : Shape := ⟨2, ![2, 512]⟩
abbrev S2x4x128x128 : Shape := ⟨4, ![2, 4, 128, 128]⟩
abbrev S2x4x128 : Shape := ⟨3, ![2, 4, 128]⟩
abbrev S2x1024x2048 : Shape := ⟨3, ![2, 1024, 2048]⟩
abbrev S2x1024x5632 : Shape := ⟨3, ![2, 1024, 5632]⟩
abbrev S2x1024x8 : Shape := ⟨3, ![2, 1024, 8]⟩
abbrev S_ : Shape := ⟨0, ![]⟩
abbrev S2x1024x128 : Shape := ⟨3, ![2, 1024, 128]⟩
abbrev S2x1024x7808 : Shape := ⟨3, ![2, 1024, 7808]⟩
abbrev S1x4x1536 : Shape := ⟨3, ![1, 4, 1536]⟩
abbrev S4x1536 : Shape := ⟨2, ![4, 1536]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S4x16x16 : Shape := ⟨3, ![4, 16, 16]⟩
abbrev S1x4x1x16x1x16 : Shape := ⟨6, ![1, 4, 1, 16, 1, 16]⟩
abbrev S1x4x8x16x8x16 : Shape := ⟨6, ![1, 4, 8, 16, 8, 16]⟩
abbrev S1x4x128 : Shape := ⟨3, ![1, 4, 128]⟩
abbrev S4x128 : Shape := ⟨2, ![4, 128]⟩
abbrev S4x16 : Shape := ⟨2, ![4, 16]⟩
abbrev S16x4 : Shape := ⟨2, ![16, 4]⟩
abbrev S16x4x128 : Shape := ⟨3, ![16, 4, 128]⟩
abbrev S16x512 : Shape := ⟨2, ![16, 512]⟩
abbrev S1x16x1x512 : Shape := ⟨4, ![1, 16, 1, 512]⟩
abbrev S8x16x1x512 : Shape := ⟨4, ![8, 16, 1, 512]⟩
abbrev S128x512 : Shape := ⟨2, ![128, 512]⟩
abbrev S1x32x3x1536 : Shape := ⟨4, ![1, 32, 3, 1536]⟩
abbrev S32x3x1536 : Shape := ⟨3, ![32, 3, 1536]⟩
abbrev S32x8x1536 : Shape := ⟨3, ![32, 8, 1536]⟩
abbrev S512x1024 : Shape := ⟨2, ![512, 1024]⟩
abbrev S1x1024 : Shape := ⟨2, ![1, 1024]⟩
abbrev S1024 : Shape := ⟨1, ![1024]⟩
abbrev S512x1536 : Shape := ⟨2, ![512, 1536]⟩
abbrev S512x512 : Shape := ⟨2, ![512, 512]⟩
abbrev S512x128 : Shape := ⟨2, ![512, 128]⟩
abbrev S2048x128 : Shape := ⟨2, ![2048, 128]⟩
abbrev S512x3072 : Shape := ⟨2, ![512, 3072]⟩
abbrev S256x1024 : Shape := ⟨2, ![256, 1024]⟩
abbrev S1x1024x2048 : Shape := ⟨3, ![1, 1024, 2048]⟩
abbrev S1x1024x128 : Shape := ⟨3, ![1, 1024, 128]⟩
abbrev S1x1024x1024 : Shape := ⟨3, ![1, 1024, 1024]⟩
abbrev S1x1024x1536 : Shape := ⟨3, ![1, 1024, 1536]⟩
abbrev S1x8x1536 : Shape := ⟨3, ![1, 8, 1536]⟩
abbrev S256x1536 : Shape := ⟨2, ![256, 1536]⟩
abbrev S256x512 : Shape := ⟨2, ![256, 512]⟩
abbrev S256x128 : Shape := ⟨2, ![256, 128]⟩
abbrev S1024x128 : Shape := ⟨2, ![1024, 128]⟩
abbrev S256x3072 : Shape := ⟨2, ![256, 3072]⟩
abbrev S8x1536 : Shape := ⟨2, ![8, 1536]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 60
  | .vmem => 38
  | .smem => 0
  | _ => 0

abbrev bufTy : (tb : Table) → Fin (tcTables nBuf tb) → BufTy
  | .hbm, ⟨0, _⟩ => ⟨S32x16x1024, .f32⟩
  | .hbm, ⟨1, _⟩ => ⟨S2x32x3x1536, .f32⟩
  | .hbm, ⟨2, _⟩ => ⟨S2x1024, .f32⟩
  | .hbm, ⟨3, _⟩ => ⟨S2x1024x7688, .f32⟩
  | .hbm, ⟨4, _⟩ => ⟨S2x4x1536, .f32⟩
  | .hbm, ⟨5, _⟩ => ⟨S2x512, .f32⟩
  | .hbm, ⟨6, _⟩ => ⟨S2x512, .f32⟩
  | .hbm, ⟨7, _⟩ => ⟨S2x4x128x128, .f32⟩
  | .hbm, ⟨8, _⟩ => ⟨S2x4x128, .f32⟩
  | .hbm, ⟨9, _⟩ => ⟨S2x1024x7688, .bf16⟩
  | .hbm, ⟨10, _⟩ => ⟨S2x1024x2048, .bf16⟩
  | .hbm, ⟨11, _⟩ => ⟨S2x1024x5632, .bf16⟩
  | .hbm, ⟨12, _⟩ => ⟨S2x1024x8, .bf16⟩
  | .hbm, ⟨13, _⟩ => ⟨S_, .i32⟩
  | .hbm, ⟨14, _⟩ => ⟨S_, .bf16⟩
  | .hbm, ⟨15, _⟩ => ⟨S2x1024x128, .bf16⟩
  | .hbm, ⟨16, _⟩ => ⟨S2x1024x7808, .bf16⟩
  | .hbm, ⟨17, _⟩ => ⟨S1x4x1536, .f32⟩
  | .hbm, ⟨18, _⟩ => ⟨S4x1536, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S1x4x128x128, .f32⟩
  | .hbm, ⟨26, _⟩ => ⟨S4x128x128, .f32⟩
  | .hbm, ⟨27, _⟩ => ⟨S4x16x16, .f32⟩
  | .hbm, ⟨28, _⟩ => ⟨S1x4x1x16x1x16, .f32⟩
  | .hbm, ⟨29, _⟩ => ⟨S1x4x8x16x8x16, .f32⟩
  | .hbm, ⟨30, _⟩ => ⟨S4x128x128, .f32⟩
  | .hbm, ⟨31, _⟩ => ⟨S1x4x128, .f32⟩
  | .hbm, ⟨32, _⟩ => ⟨S4x128, .f32⟩
  | .hbm, ⟨33, _⟩ => ⟨S4x16, .f32⟩
  | .hbm, ⟨34, _⟩ => ⟨S16x4, .f32⟩
  | .hbm, ⟨35, _⟩ => ⟨S16x4x128, .f32⟩
  | .hbm, ⟨36, _⟩ => ⟨S16x512, .f32⟩
  | .hbm, ⟨37, _⟩ => ⟨S1x16x1x512, .f32⟩
  | .hbm, ⟨38, _⟩ => ⟨S8x16x1x512, .f32⟩
  | .hbm, ⟨39, _⟩ => ⟨S128x512, .f32⟩
  | .hbm, ⟨40, _⟩ => ⟨S1x32x3x1536, .f32⟩
  | .hbm, ⟨41, _⟩ => ⟨S32x3x1536, .f32⟩
  | .hbm, ⟨42, _⟩ => ⟨S_, .i32⟩
  | .hbm, ⟨43, _⟩ => ⟨S_, .f32⟩
  | .hbm, ⟨44, _⟩ => ⟨S32x8x1536, .f32⟩
  | .hbm, ⟨45, _⟩ => ⟨S512x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S512x1536, .f32⟩
  | .hbm, ⟨50, _⟩ => ⟨S512x512, .f32⟩
  | .hbm, ⟨51, _⟩ => ⟨S512x128, .f32⟩
  | .hbm, ⟨52, _⟩ => ⟨S512x512, .bf16⟩
  | .hbm, ⟨53, _⟩ => ⟨S512x512, .bf16⟩
  | .hbm, ⟨54, _⟩ => ⟨S512x512, .bf16⟩
  | .hbm, ⟨55, _⟩ => ⟨S512x512, .bf16⟩
  | .hbm, ⟨56, _⟩ => ⟨S2048x128, .f32⟩
  | .hbm, ⟨57, _⟩ => ⟨S2048x128, .f32⟩
  | .hbm, ⟨58, _⟩ => ⟨S512x3072, .f32⟩
  | .hbm, ⟨59, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x2048, .bf16⟩
  | .local _ .vmem, ⟨4, _⟩ => ⟨S1x1024x128, .bf16⟩
  | .local _ .vmem, ⟨5, _⟩ => ⟨S1x1024x1024, .bf16⟩
  | .local _ .vmem, ⟨6, _⟩ => ⟨S1x1024x1536, .bf16⟩
  | .local _ .vmem, ⟨7, _⟩ => ⟨S1x1024x1536, .bf16⟩
  | .local _ .vmem, ⟨8, _⟩ => ⟨S1x1024x1536, .bf16⟩
  | .local _ .vmem, ⟨9, _⟩ => ⟨S1x512, .f32⟩
  | .local _ .vmem, ⟨10, _⟩ => ⟨S1x512, .f32⟩
  | .local _ .vmem, ⟨11, _⟩ => ⟨S4x128x128, .f32⟩
  | .local _ .vmem, ⟨12, _⟩ => ⟨S128x512, .f32⟩
  | .local _ .vmem, ⟨13, _⟩ => ⟨S1x8x1536, .f32⟩
  | .local _ .vmem, ⟨14, _⟩ => ⟨S4x1536, .f32⟩
  | .local _ .vmem, ⟨15, _⟩ => ⟨S256x1536, .f32⟩
  | .local _ .vmem, ⟨16, _⟩ => ⟨S256x1536, .f32⟩
  | .local _ .vmem, ⟨17, _⟩ => ⟨S256x512, .f32⟩
  | .local _ .vmem, ⟨18, _⟩ => ⟨S256x512, .f32⟩
  | .local _ .vmem, ⟨19, _⟩ => ⟨S256x128, .f32⟩
  | .local _ .vmem, ⟨20, _⟩ => ⟨S256x128, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S256x3072, .f32⟩
  | .local _ .vmem, ⟨34, _⟩ => ⟨S256x3072, .f32⟩
  | .local _ .vmem, ⟨35, _⟩ => ⟨S256x512, .f32⟩
  | .local _ .vmem, ⟨36, _⟩ => ⟨S256x512, .f32⟩
  | .local _ .vmem, ⟨37, _⟩ => ⟨S8x1536, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_0 : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev main_v36_5 : Ref sig .tc := ⟨.hbm, 54, rfl⟩
abbrev main_v36_6 : Ref sig .tc := ⟨.hbm, 55, rfl⟩
abbrev main_v36_7 : Ref sig .tc := ⟨.hbm, 56, rfl⟩
abbrev main_v36_8 : Ref sig .tc := ⟨.hbm, 57, rfl⟩
abbrev main_v36_9 : Ref sig .tc := ⟨.hbm, 58, rfl⟩
abbrev main_v36_10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c60_i32 : BitVec 32 := 60#32
  let c0_i32_1 : BitVec 32 := 0#32
  ![c0_i32.toNat, c0_i32_0.toNat, c60_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x3072 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference4Ideal.lean ====
abbrev S32x16x1024 : Shape := ⟨3, ![32, 16, 1024]⟩
abbrev S2x32x3x1536 : Shape := ⟨4, ![2, 32, 3, 1536]⟩
abbrev S2x1024 : Shape := ⟨2, ![2, 1024]⟩
abbrev S2x1024x7688 : Shape := ⟨3, ![2, 1024, 7688]⟩
abbrev S2x4x1536 : Shape := ⟨3, ![2, 4, 1536]⟩
abbrev S2x512 : Shape := ⟨2, ![2, 512]⟩
abbrev S2x4x128x128 : Shape := ⟨4, ![2, 4, 128, 128]⟩
abbrev S2x4x128 : Shape := ⟨3, ![2, 4, 128]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1x1024x7688 : Shape := ⟨3, ![1, 1024, 7688]⟩
abbrev S1024x7688 : Shape := ⟨2, ![1024, 7688]⟩
abbrev S32x16x7688 : Shape := ⟨3, ![32, 16, 7688]⟩
abbrev S32x16x1536 : Shape := ⟨3, ![32, 16, 1536]⟩
abbrev S32x16x512 : Shape := ⟨3, ![32, 16, 512]⟩
abbrev S32x16x4 : Shape := ⟨3, ![32, 16, 4]⟩
abbrev S32x16x3072 : Shape := ⟨3, ![32, 16, 3072]⟩
abbrev S32x16x8 : Shape := ⟨3, ![32, 16, 8]⟩
abbrev S512x8 : Shape := ⟨2, ![512, 8]⟩
abbrev S512x128 : Shape := ⟨2, ![512, 128]⟩
abbrev S512x1536 : Shape := ⟨2, ![512, 1536]⟩
abbrev S512x512 : Shape := ⟨2, ![512, 512]⟩
abbrev S2048x128 : Shape := ⟨2, ![2048, 128]⟩
abbrev S512x3072 : Shape := ⟨2, ![512, 3072]⟩

abbrev nBuf : Space → Nat
  | .hbm => 56
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S2x32x3x1536, .f32⟩
  | .hbm, ⟨2, _⟩ => ⟨S2x1024, .f32⟩
  | .hbm, ⟨3, _⟩ => ⟨S2x1024x7688, .f32⟩
  | .hbm, ⟨4, _⟩ => ⟨S2x4x1536, .f32⟩
  | .hbm, ⟨5, _⟩ => ⟨S2x512, .f32⟩
  | .hbm, ⟨6, _⟩ => ⟨S2x512, .f32⟩
  | .hbm, ⟨7, _⟩ => ⟨S2x4x128x128, .f32⟩
  | .hbm, ⟨8, _⟩ => ⟨S2x4x128, .f32⟩
  | .hbm, ⟨9, _⟩ => ⟨S1x1024, .f32⟩
  | .hbm, ⟨10, _⟩ => ⟨S1024, .f32⟩
  | .hbm, ⟨11, _⟩ => ⟨S32x16x1024, .f32⟩
  | .hbm, ⟨12, _⟩ => ⟨S_, .f32⟩
  | .hbm, ⟨13, _⟩ => ⟨S32x16, .f32⟩
  | .hbm, ⟨14, _⟩ => ⟨S32x16x1, .f32⟩
  | .hbm, ⟨15, _⟩ => ⟨S_, .f32⟩
  | .hbm, ⟨16, _⟩ => ⟨S32x16x1, .f32⟩
  | .hbm, ⟨17, _⟩ => ⟨S32x16x1, .f32⟩
  | .hbm, ⟨18, _⟩ => ⟨S_, .f32⟩
  | .hbm, ⟨19, _⟩ => ⟨S32x16x1, .f32⟩
  | .hbm, ⟨20, _⟩ => ⟨S32x16x1, .f32⟩
  | .hbm, ⟨21, _⟩ => ⟨S32x16x1, .f32⟩
  | .hbm, ⟨22, _⟩ => ⟨S32x16x1024, .f32⟩
  | .hbm, ⟨23, _⟩ => ⟨S32x16x1024, .f32⟩
  | .hbm, ⟨24, _⟩ => ⟨S1x1x1024, .f32⟩
  | .hbm, ⟨25, _⟩ => ⟨S32x16x1024, .f32⟩
  | .hbm, ⟨26, _⟩ => ⟨S32x16x1024, .f32⟩
  | .hbm, ⟨27, _⟩ => ⟨S1x1024x7688, .f32⟩
  | .hbm, ⟨28, _⟩ => ⟨S1024x7688, .f32⟩
  | .hbm, ⟨29, _⟩ => ⟨S32x16x7688, .f32⟩
  | .hbm, ⟨30, _⟩ => ⟨S32x16x1536, .f32⟩
  | .hbm, ⟨31, _⟩ => ⟨S32x16x512, .f32⟩
  | .hbm, ⟨32, _⟩ => ⟨S32x16x4, .f32⟩
  | .hbm, ⟨33, _⟩ => ⟨S32x16x4, .f32⟩
  | .hbm, ⟨34, _⟩ => ⟨S32x16x1024, .f32⟩
  | .hbm, ⟨35, _⟩ => ⟨S32x16x1536, .f32⟩
  | .hbm, ⟨36, _⟩ => ⟨S32x16x3072, .f32⟩
  | .hbm, ⟨37, _⟩ => ⟨S32x16x512, .f32⟩
  | .hbm, ⟨38, _⟩ => ⟨S32x16x512, .f32⟩
  | .hbm, ⟨39, _⟩ => ⟨S32x16x512, .f32⟩
  | .hbm, ⟨40, _⟩ => ⟨S32x16x8, .f32⟩
  | .hbm, ⟨41, _⟩ => ⟨S512x8, .f32⟩
  | .hbm, ⟨42, _⟩ => ⟨S_, .i32⟩
  | .hbm, ⟨43, _⟩ => ⟨S_, .f32⟩
  | .hbm, ⟨44, _⟩ => ⟨S512x128, .f32⟩
  | .hbm, ⟨45, _⟩ => ⟨S512x1536, .f32⟩
  | .hbm, ⟨46, _⟩ => ⟨S512x512, .f32⟩
  | .hbm, ⟨47, _⟩ => ⟨S512x512, .f32⟩
  | .hbm, ⟨48, _⟩ => ⟨S512x512, .bf16⟩
  | .hbm, ⟨49, _⟩ => ⟨S512x512, .f32⟩
  | .hbm, ⟨50, _⟩ => ⟨S512x512, .bf16⟩
  | .hbm, ⟨51, _⟩ => ⟨S512x512, .f32⟩
  | .hbm, ⟨52, _⟩ => ⟨S512x512, .bf16⟩
  | .hbm, ⟨53, _⟩ => ⟨S2048x128, .f32⟩
  | .hbm, ⟨54, _⟩ => ⟨S2048x128, .f32⟩
  | .hbm, ⟨55, _⟩ => ⟨S512x3072, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.KI.Chain.lean ====
/-
  The arithmetic of the stick-breaking attention kernel, chain by chain.

  The kernel works on eight chains at once, one for each (sample, head) pair of the block: chain `c` is sample
  `c / 4`, head `c % 4`. This file names what the kernel computes for one chain — the scores of 256 queries against
  256 keys, the logarithm of the probability of passing a key over, the sum of those over the later keys of the
  block, the weights and the weighted sum of the values — first for the diagonal block of keys (masked), then for an
  earlier block, and the state the loop over earlier blocks carries: the eight weighted sums, the eight running
  logarithms and the largest of those.
-/
module

public import proofs.«01_k».proof.Proof.Gen.KernelIdeal
public import proofs.«01_k».proof.Proof.Gen.KernelIdeal.Skeleton
public import Idealize.ShloMosaic.Lib.Pipeline.FrameBody

@[expose] public section

noncomputable section

namespace Cert.Proof.KI

open Cert.KernelIdeal Cert.KernelIdeal.Gen
open Idealize.ShloMosaic Idealize.ShloMosaic.TcCoe
open Idealize.SL Idealize.SL.Sem

variable {F : FTy → Type} [FloatOps F] [Named F]

/-! ## The rectangles -/

theorem inbA : ∀ (c : Fin 8) a, (![c.val, 0, 0] : Fin 3 → Nat) a + S1x256x128.size a ≤ S8x256x128.size a := by decide
theorem inbC : ∀ (c : Fin 8) a, (![c.val, 0, 0] : Fin 3 → Nat) a + S1x256x1.size a ≤ S8x256x1.size a := by decide
theorem inbQ : ∀ (c : Fin 8) a, (![c.val / 4, 0, 128 * (c.val % 4)] : Fin 3 → Nat) a + S1x256x128.size a ≤ S2x256x512.size a := by decide
theorem inbH : ∀ c : Fin 8, S256x512.Slices ![0, 128 * (c.val % 4)] S256x128 := by decide

/-- Chain `c`'s slot of the weighted sums, of the running logarithms, and its tile of a block of queries or results. -/
abbrev rectA (c : Fin 8) : Rect S8x256x128 := Rect.unit (s := S8x256x128) ![c.val, 0, 0] S1x256x128.size (inbA c)
abbrev rectC (c : Fin 8) : Rect S8x256x1 := Rect.unit (s := S8x256x1) ![c.val, 0, 0] S1x256x1.size (inbC c)
abbrev rectQ (c : Fin 8) : Rect S2x256x512 := Rect.unit (s := S2x256x512) ![c.val / 4, 0, 128 * (c.val % 4)] S1x256x128.size (inbQ c)

/-- Every block number below 32 names a block inside the keys and the values. -/
theorem chk : ∀ j : Fin 32, k0_chk1 (BitVec.ofNat 32 j.val) := by decide +kernel

/-- The rows of block `j`, all heads, of each of the two samples. -/
abbrev rectK0 (j : Fin 32) : Rect S2x8192x512 := Rect.unit (s := S2x8192x512) (k0_off3 (BitVec.ofNat 32 j.val)) S1x256x512.size (k0_off3_inb _ (chk j))
abbrev rectK1 (j : Fin 32) : Rect S2x8192x512 := Rect.unit (s := S2x8192x512) (k0_off4 (BitVec.ofNat 32 j.val)) S1x256x512.size (k0_off4_inb _ (chk j))

/-! ## Tiles -/

/-- Chain `c`'s 256 queries of a block. -/
def qT (x : Vec F S2x256x512 .bf16) (c : Fin 8) : FVec F S256x128 .bf16 :=
  shapeCast S256x128 (View.ld x (rectQ c)) shapeCasts_S1x256x128_S256x128

/-- Block `j` of the keys (or the values) of sample `s`, all heads. -/
def slab (x : Vec F S2x8192x512 .bf16) (j : Fin 32) : Fin 2 → FVec F S256x512 .bf16
  | 0 => shapeCast S256x512 (View.ld x (rectK0 j)) shapeCasts_S1x256x512_S256x512
  | 1 => shapeCast S256x512 (View.ld x (rectK1 j)) shapeCasts_S1x256x512_S256x512

/-- Chain `c`'s sample. -/
def smp : Fin 8 → Fin 2
  | 0 => 0 | 1 => 0 | 2 => 0 | 3 => 0 | 4 => 1 | 5 => 1 | 6 => 1 | 7 => 1

/-- Chain `c`'s 256 keys (or values) of block `j`. -/
def kT (x : Vec F S2x8192x512 .bf16) (j : Fin 32) (c : Fin 8) : FVec F S256x128 .bf16 :=
  extractStridedSlice S256x128 ![0, 128 * (c.val % 4)] (slab x j (smp c)) (inbH c)

/-! ## One chain -/

/-- The scaled scores of the queries against the keys. -/
def scores (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- `softplus` of a score. -/
def softp (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "neg_log2e" 0xBFB8AA3B#32))))))

/-- The logarithm of the probability of passing the key over. -/
def logf (z : FVec F S256x256 .f32) : FVec F S256x256 .f32 :=
  subf (broadcast S256x256 (Scalar.ofBits .f32 0x00000000#32)) (softp z)

/-- The sum of `x` over the later keys of the block, `x` split into a leading part and the rest. -/
def after (x : FVec F S256x256 .f32) : FVec F S256x256 .f32 :=
  addf (matmul dot_S256x256_S256x256_S256x256_1_0_0_1_n_n none (truncf .bf16 x bitsLt_bf16_f32) k0_pay7 (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) k0_pay7 (constant S256x256 .f32 0x00000000#32))

/-- The weights of a block given the logarithms to sum. -/
def weight (z x : FVec F S256x256 .f32) : FVec F S256x256 .f32 := exp (addf (subf z (softp z)) (after x))

/-- The weighted sum of the block's values, scaled by the probability of reaching the block. -/
def contrib (car : FVec F S256x1 .f32) (p : FVec F S256x256 .f32) (v : FVec F S256x128 .bf16) : FVec F S256x128 .f32 :=
  mulf (broadcastTo S256x128 (exp car) broadcasts_S256x1_S256x128)
    (matmul dot_S256x256_S256x128_S256x128_1_0_0_1_n_n none (truncf .bf16 p bitsLt_bf16_f32) v (constant S256x128 .f32 0x00000000#32))

/-- The sum of `x` over the block's keys. -/
def rowsum (x : FVec F S256x256 .f32) : FVec F S256x1 .f32 :=
  shapeCast S256x1 (multiReduction .add [1] S256 x 0x00000000#32 reduces_S256x256_S256 (.inl rfl) rfl) shapeCasts_S256_S256x1

/-- On the diagonal block the keys at or after the query count for nothing. -/
def logfD (z : FVec F S256x256 .f32) : FVec F S256x256 .f32 :=
  select k0_pay17 (logf z) (broadcast S256x256 (Scalar.ofBits .f32 0x00000000#32))
def weightD (z : FVec F S256x256 .f32) : FVec F S256x256 .f32 :=
  select k0_pay17 (weight z (logfD z)) (broadcast S256x256 (Scalar.ofBits .f32 0x00000000#32))

/-- The largest of a column of running logarithms, -/
def colmax (x : FVec F S256x1 .f32) : F .f32 :=
  extractAt ![0, 0, 0] (shapeCast S1x1x1 (multiReduction .maximumf [1, 2] S1 (shapeCast S1x256x1 x shapeCasts_S256x1_S1x256x1) 0xFF800000#32
    reduces_S1x256x1_S1 (.inl rfl) rfl) shapeCasts_S1_S1x1x1) inpos_S1x1x1_p0_0_0

/-- and of the eight columns. -/
def live (g : Fin 8 → FVec F S256x1 .f32) : F .f32 :=
  Scalar.maximumf (Scalar.maximumf (Scalar.maximumf (Scalar.maximumf (Scalar.maximumf (Scalar.maximumf (Scalar.maximumf
    (colmax (g 0)) (colmax (g 1))) (colmax (g 2))) (colmax (g 3))) (colmax (g 4))) (colmax (g 5))) (colmax (g 6))) (colmax (g 7))

/-! ## The two scratch buffers -/

/-- The weighted sums buffer holding `g c` in slot `c`, -/
def putA (g : Fin 8 → FVec F S256x128 .f32) : Vec F S8x256x128 .f32 :=
  View.canon (Val := Elt F) (e := .f32) [⟨rectA 7, shapeCast S1x256x128 (g 7) shapeCasts_S256x128_S1x256x128⟩, ⟨rectA 6, shapeCast S1x256x128 (g 6) shapeCasts_S256x128_S1x256x128⟩,
    ⟨rectA 5, shapeCast S1x256x128 (g 5) shapeCasts_S256x128_S1x256x128⟩, ⟨rectA 4, shapeCast S1x256x128 (g 4) shapeCasts_S256x128_S1x256x128⟩,
    ⟨rectA 3, shapeCast S1x256x128 (g 3) shapeCasts_S256x128_S1x256x128⟩, ⟨rectA 2, shapeCast S1x256x128 (g 2) shapeCasts_S256x128_S1x256x128⟩,
    ⟨rectA 1, shapeCast S1x256x128 (g 1) shapeCasts_S256x128_S1x256x128⟩, ⟨rectA 0, shapeCast S1x256x128 (g 0) shapeCasts_S256x128_S1x256x128⟩]

/-- and the running logarithms buffer. -/
def putC (g : Fin 8 → FVec F S256x1 .f32) : Vec F S8x256x1 .f32 :=
  View.canon (Val := Elt F) (e := .f32) [⟨rectC 7, shapeCast S1x256x1 (g 7) shapeCasts_S256x1_S1x256x1⟩, ⟨rectC 6, shapeCast S1x256x1 (g 6) shapeCasts_S256x1_S1x256x1⟩,
    ⟨rectC 5, shapeCast S1x256x1 (g 5) shapeCasts_S256x1_S1x256x1⟩, ⟨rectC 4, shapeCast S1x256x1 (g 4) shapeCasts_S256x1_S1x256x1⟩,
    ⟨rectC 3, shapeCast S1x256x1 (g 3) shapeCasts_S256x1_S1x256x1⟩, ⟨rectC 2, shapeCast S1x256x1 (g 2) shapeCasts_S256x1_S1x256x1⟩,
    ⟨rectC 1, shapeCast S1x256x1 (g 1) shapeCasts_S256x1_S1x256x1⟩, ⟨rectC 0, shapeCast S1x256x1 (g 0) shapeCasts_S256x1_S1x256x1⟩]

/-- The block of results holding `g c` in chain `c`'s tile. -/
def putO (g : Fin 8 → FVec F S256x128 .bf16) : Vec F S2x256x512 .bf16 :=
  View.canon (Val := Elt F) (e := .bf16) [⟨rectQ 7, shapeCast S1x256x128 (g 7) shapeCasts_S256x128_S1x256x128⟩, ⟨rectQ 6, shapeCast S1x256x128 (g 6) shapeCasts_S256x128_S1x256x128⟩,
    ⟨rectQ 5, shapeCast S1x256x128 (g 5) shapeCasts_S256x128_S1x256x128⟩, ⟨rectQ 4, shapeCast S1x256x128 (g 4) shapeCasts_S256x128_S1x256x128⟩,
    ⟨rectQ 3, shapeCast S1x256x128 (g 3) shapeCasts_S256x128_S1x256x128⟩, ⟨rectQ 2, shapeCast S1x256x128 (g 2) shapeCasts_S256x128_S1x256x128⟩,
    ⟨rectQ 1, shapeCast S1x256x128 (g 1) shapeCasts_S256x128_S1x256x128⟩, ⟨rectQ 0, shapeCast S1x256x128 (g 0) shapeCasts_S256x128_S1x256x128⟩]

/-- What slot `c` of each holds. -/
def getA (X : Vec F S8x256x128 .f32) (c : Fin 8) : FVec F S256x128 .f32 :=
  shapeCast S256x128 (View.ld X (rectA c)) shapeCasts_S1x256x128_S256x128
def getC (X : Vec F S8x256x1 .f32) (c : Fin 8) : FVec F S256x1 .f32 :=
  shapeCast S256x1 (View.ld X (rectC c)) shapeCasts_S1x256x1_S256x1

/-! ## The loop over earlier blocks -/

variable (F) in
/-- What the loop carries: the two buffers and the largest running logarithm. -/
structure St where
  A : Vec F S8x256x128 .f32
  C : Vec F S8x256x1 .f32
  l : F .f32

/-- The eight weighted sums and running logarithms after block `j`, -/
def accS (q : Fin 8 → FVec F S256x128 .bf16) (k v : Vec F S2x8192x512 .bf16) (j : Fin 32) (s : St F) (c : Fin 8) : FVec F S256x128 .f32 :=
  addf (getA s.A c) (contrib (getC s.C c) (weight (scores (q c) (kT k j c)) (logf (scores (q c) (kT k j c)))) (kT v j c))
def carS (q : Fin 8 → FVec F S256x128 .bf16) (k : Vec F S2x8192x512 .bf16) (j : Fin 32) (s : St F) (c : Fin 8) : FVec F S256x1 .f32 :=
  addf (getC s.C c) (rowsum (logf (scores (q c) (kT k j c))))

/-- and the state after it. -/
def step (q : Fin 8 → FVec F S256x128 .bf16) (k v : Vec F S2x8192x512 .bf16) (j : Fin 32) (s : St F) : St F :=
  ⟨putA (accS q k v j s), putC (carS q k j s), live (carS q k j s)⟩

/-- The loop with at most `n` blocks to run, from block `n - 1` down: a block is taken while some running logarithm
    is above the threshold. -/
def loopRun (q : Fin 8 → FVec F S256x128 .bf16) (k v : Vec F S2x8192x512 .bf16) : (n : ℕ) → n ≤ 32 → St F → St F
  | 0, _, s => s
  | n + 1, h, s => if Scalar.cmpf .ogt s.l (Named.named κ "dead" 0xC2D00000#32) = 1#1 then
      loopRun q k v n (Nat.le_of_succ_le h) (step q k v ⟨n, h⟩ s) else s

/-- The diagonal block's weighted sums and running logarithms, -/
def accD (q : Fin 8 → FVec F S256x128 .bf16) (k v : Vec F S2x8192x512 .bf16) (j : Fin 32) (c : Fin 8) : FVec F S256x128 .f32 :=
  contrib k0_pay16 (weightD (scores (q c) (kT k j c))) (kT v j c)
def carD (q : Fin 8 → FVec F S256x128 .bf16) (k : Vec F S2x8192x512 .bf16) (j : Fin 32) (c : Fin 8) : FVec F S256x1 .f32 :=
  rowsum (logfD (scores (q c) (kT k j c)))

/-- the state after it, -/
def start (q : Fin 8 → FVec F S256x128 .bf16) (k v : Vec F S2x8192x512 .bf16) (j : Fin 32) : St F :=
  ⟨putA (accD q k v j), putC (carD q k j), live (carD q k j)⟩

/-- and the block of results for block `j` of the queries. -/
def out (x : Vec F S2x256x512 .bf16) (k v : Vec F S2x8192x512 .bf16) (j : Fin 32) : Vec F S2x256x512 .bf16 :=
  putO fun c => truncf .bf16 (getA (loopRun (qT x) k v j.val j.isLt.le (start (qT x) k v j)).A c) bitsLt_bf16_f32

end Cert.Proof.KI

end
-- ==== Proof.KI.Loop.lean ====
/-
  The loop of the attention kernel over the earlier blocks of keys, met through a specification by the number of
  blocks it may still take: from any state of the two scratch buffers it ends, at the state `loopRun` names.
-/
module

public import proofs.«01_k».proof.Proof.KI.Chain
public import proofs.«01_k».proof.Proof.Gen.KernelIdeal.Points
public import proofs.«01_k».proof.Proof.Gen.KernelIdeal.Launch
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

/-- The loop's variants: the blocks it may still take. -/
abbrev 𝒱₀ : Variants := Variants.nat

/-! ## Counters -/

/-- The counter before block `n - 1`, as the loop steps it. -/
abbrev ctr (n : ℕ) : BitVec 32 := Scalar.subi (BitVec.ofNat 32 n) 1#32

theorem ctr_succ : ∀ n : Fin 32, ctr (n.val + 1) = BitVec.ofNat 32 n.val := by decide +kernel
theorem sge_succ : ∀ n : Fin 32, Scalar.cmpi .sge (BitVec.ofNat 32 n.val) 0#32 = 1#1 := by decide +kernel
theorem sge_zero : Scalar.cmpi .sge (ctr 0) 0#32 = 0#1 := by decide
theorem andi_one : ∀ b : BitVec 1, Scalar.andi 1#1 b = b := by decide
theorem andi_zero : ∀ b : BitVec 1, ¬ Scalar.andi 0#1 b = 1#1 := by decide

/-! ## The pieces cover -/

theorem coverA (p7 p6 p5 p4 p3 p2 p1 p0 : FVec F S1x256x128 .f32) (y : S8x256x128.Idx) :
    ∃ pc ∈ ([⟨rectA 7, p7⟩, ⟨rectA 6, p6⟩, ⟨rectA 5, p5⟩, ⟨rectA 4, p4⟩, ⟨rectA 3, p3⟩, ⟨rectA 2, p2⟩, ⟨rectA 1, p1⟩, ⟨rectA 0, p0⟩] : List (View.Piece (Elt F) S8x256x128 .f32)), y ∈ pc.1.set :=
  View.cover_of_tiled ([⟨rectA 7, p7⟩, ⟨rectA 6, p6⟩, ⟨rectA 5, p5⟩, ⟨rectA 4, p4⟩, ⟨rectA 3, p3⟩, ⟨rectA 2, p2⟩, ⟨rectA 1, p1⟩, ⟨rectA 0, p0⟩] : List (View.Piece (Elt F) S8x256x128 .f32)) S1x256x128.size (by rfl) y

theorem coverC (p7 p6 p5 p4 p3 p2 p1 p0 : FVec F S1x256x1 .f32) (y : S8x256x1.Idx) :
    ∃ pc ∈ ([⟨rectC 7, p7⟩, ⟨rectC 6, p6⟩, ⟨rectC 5, p5⟩, ⟨rectC 4, p4⟩, ⟨rectC 3, p3⟩, ⟨rectC 2, p2⟩, ⟨rectC 1, p1⟩, ⟨rectC 0, p0⟩] : List (View.Piece (Elt F) S8x256x1 .f32)), y ∈ pc.1.set :=
  View.cover_of_tiled ([⟨rectC 7, p7⟩, ⟨rectC 6, p6⟩, ⟨rectC 5, p5⟩, ⟨rectC 4, p4⟩, ⟨rectC 3, p3⟩, ⟨rectC 2, p2⟩, ⟨rectC 1, p1⟩, ⟨rectC 0, p0⟩] : List (View.Piece (Elt F) S8x256x1 .f32)) S1x256x1.size (by rfl) y

theorem coverO (p7 p6 p5 p4 p3 p2 p1 p0 : FVec F S1x256x128 .bf16) (y : S2x256x512.Idx) :
    ∃ pc ∈ ([⟨rectQ 7, p7⟩, ⟨rectQ 6, p6⟩, ⟨rectQ 5, p5⟩, ⟨rectQ 4, p4⟩, ⟨rectQ 3, p3⟩, ⟨rectQ 2, p2⟩, ⟨rectQ 1, p1⟩, ⟨rectQ 0, p0⟩] : List (View.Piece (Elt F) S2x256x512 .bf16)), y ∈ pc.1.set :=
  View.cover_of_tiled ([⟨rectQ 7, p7⟩, ⟨rectQ 6, p6⟩, ⟨rectQ 5, p5⟩, ⟨rectQ 4, p4⟩, ⟨rectQ 3, p3⟩, ⟨rectQ 2, p2⟩, ⟨rectQ 1, p1⟩, ⟨rectQ 0, p0⟩] : List (View.Piece (Elt F) S2x256x512 .bf16)) S1x256x128.size (by rfl) y

section Label

variable (c : Dev nD) (i : grid0.Coords)
  (arg7 : Memref sig .tc .vmem S8x256x1 .f32) (harg7 : arg7.IsWhole)
  (arg3 : Memref sig .tc .vmem S2x8192x512 .bf16) (harg3 : arg3.IsWhole)
  (arg4 : Memref sig .tc .vmem S2x8192x512 .bf16) (harg4 : arg4.IsWhole)
  (arg6 : Memref sig .tc .vmem S8x256x128 .f32) (harg6 : arg6.IsWhole)
  (q : Fin 8 → FVec F S256x128 .bf16) (k v : Vec F S2x8192x512 .bf16)

/-- The four buffers the loop reads and writes: the keys, the values and the two scratch buffers. -/
def held (s : St F) : sProp 𝕄 :=
  iprop(owns (c : Thread nD τ) arg3 fullShare k ∗ owns (c : Thread nD τ) arg4 fullShare v
    ∗ owns (c : Thread nD τ) arg6 fullShare s.A ∗ owns (c : Thread nD τ) arg7 fullShare s.C)

/-- The loop with at most `n` blocks to run from state `s`: it gives the buffers back at `loopRun`'s state. -/
def spec (n : ℕ) (hn : n ≤ 32) (s : St F) : sWPT 𝕄 (BitVec 32 × F .f32) := do
  sWPT.consume (held c arg7 arg3 arg4 arg6 k v s)
  let r ← sWPT.arbitrary
  sWPT.produce (held c arg7 arg3 arg4 arg6 k v (loopRun q k v n hn s))
  pure r

theorem spec_apply (n : ℕ) (hn : n ≤ 32) (s : St F) (K : BitVec 32 × F .f32 → sProp 𝕄) :
    spec c arg7 arg3 arg4 arg6 q k v n hn s K
      = iprop(held c arg7 arg3 arg4 arg6 k v s ∗ ∀ r : BitVec 32 × F .f32, (held c arg7 arg3 arg4 arg6 k v (loopRun q k v n hn s) -∗ K r)) := rfl

set_option maxHeartbeats 0 in
/-- The loop meets its specification, by induction on the number of blocks it may still take. -/
theorem spec_le (E : Set ℕ) : ∀ (n : ℕ) (hn : n ≤ 32) (s : St F) (K : BitVec 32 × F .f32 → sProp 𝕄),
    spec c arg7 arg3 arg4 arg6 q k v n hn s K
      ⊢ wp frame (wpE (defs₀ (F := F)) 𝒱₀ (c : Thread nD τ) (some n)) E
          (defs₀ (F := F) .tc 1 ⟨i, arg7, harg7, arg3, harg3, arg4, harg4, q 0, q 1, q 2, q 3, q 4, q 5, q 6, q 7, k0_pay7, arg6, harg6, ctr n, s.l⟩) K := by
  intro n
  induction n with
  | zero =>
    intro hn s K
    rw [spec_apply]
    show _ ⊢ wp frame (wpE (defs₀ (F := F)) 𝒱₀ (c : Thread nD τ) (some 0)) E
      (cc0_while1 i arg7 harg7 arg3 harg3 arg4 harg4 (q 0) (q 1) (q 2) (q 3) (q 4) (q 5) (q 6) (q 7) k0_pay7 arg6 harg6 (ctr 0) s.l) K
    simp only [cc0_while1_eq_skeleton]; unfold cc0_while1_skel
    simp only [sge_zero, andi_zero, ↓reduceIte, Prog.pure_eq_ret]
    iintro ⟨H, Hk⟩
    rw [wp_ret]; imodintro
    iapply Hk
    simp only [loopRun]; iexact H
  | succ n ih =>
    intro hn s K
    rw [spec_apply]
    show _ ⊢ wp frame (wpE (defs₀ (F := F)) 𝒱₀ (c : Thread nD τ) (some (n + 1))) E
      (cc0_while1 i arg7 harg7 arg3 harg3 arg4 harg4 (q 0) (q 1) (q 2) (q 3) (q 4) (q 5) (q 6) (q 7) k0_pay7 arg6 harg6 (ctr (n + 1)) s.l) K
    rw [ctr_succ ⟨n, hn⟩]
    simp only [cc0_while1_eq_skeleton]; unfold cc0_while1_skel
    dsimp only
    rw [sge_succ ⟨n, hn⟩, andi_one]
    by_cases hl : Scalar.cmpf .ogt s.l (Named.named κ "dead" 0xC2D00000#32 : F .f32) = 1#1
    · simp only [hl, ↓reduceIte]
      obtain ⟨A, C, l⟩ := s
      have hrun : loopRun q k v (n + 1) hn ⟨A, C, l⟩ = loopRun q k v n (Nat.le_of_succ_le hn) (step q k v ⟨n, hn⟩ ⟨A, C, l⟩) := by
        simp only [loopRun, hl, ↓reduceIte]
      rw [hrun]
      unfold held owns
      iintro ⟨⟨⟨%f3, %hf3, H3⟩, ⟨%f4, %hf4, H4⟩, ⟨%f6, %hf6, H6⟩, ⟨%f7, %hf7, H7⟩⟩, Hk⟩
      have hchk : k0_chk1 (BitVec.ofNat 32 n) := chk ⟨n, hn⟩
      dsimp only at hf6 hf7
      subst hf3 hf4 hf6 hf7
      sl_exec
      have e9 : k0_pay6 (spec_le.sl.v494 c arg7 f7) (spec_le.sl.v781 c arg3 q n f3 hchk)
                (spec_le.sl.v870 c arg7 arg3 q n f3 f7 hchk) (spec_le.sl.v877 c arg7 arg3 q n f3 f7 hchk)
          = (step q (View.read (Elt F) arg3.view f3) (View.read (Elt F) arg4.view f4) ⟨n, hn⟩ ⟨View.read (Elt F) arg6.view f6, View.read (Elt F) arg7.view f7, l⟩).l := rfl
      have e8 : spec_le.sl.v495 n = ctr n := rfl
      rw [e8, e9]
      iapply (wp_call_spec 𝒱₀ (c : Thread nD τ) (some (n + 1)) E
        (spec c arg7 arg3 arg4 arg6 q (View.read (Elt F) arg3.view f3) (View.read (Elt F) arg4.view f4) n (Nat.le_of_succ_le hn) _) n
        (fun u hu => by cases hu; exact Nat.lt_succ_self n) (ih (Nat.le_of_succ_le hn) _))
      rw [spec_apply]; unfold held owns
      isplitl [H3 H4 H6 H7]
      · isplitl [H3]; · iexists f3; isplitr; · ipureintro; rfl
                        iexact H3
        isplitl [H4]; · iexists f4; isplitr; · ipureintro; rfl
                        iexact H4
        isplitl [H6]
        · iexists _; isplitr
          swap; · iexact H6
          ipureintro
          refine (View.read_writes_eq_canon _ _ _ ?_).trans ?_
          · exact coverA _ _ _ _ _ _ _ _
          · rfl
        · iexists _; isplitr
          swap; · iexact H7
          ipureintro
          refine (View.read_writes_eq_canon _ _ _ ?_).trans ?_
          · exact coverC _ _ _ _ _ _ _ _
          · rfl
      iintro %r H
      rw [wp_ret]; imodintro
      iapply Hk
      iexact H
    · simp only [hl, ↓reduceIte, Prog.pure_eq_ret]
      iintro ⟨H, Hk⟩
      rw [wp_ret]; imodintro
      iapply Hk
      simp only [loopRun, hl, ↓reduceIte]; iexact H

end Label

end Cert.Proof.KI

end
-- ==== Proof.KI.Body.lean ====
/-
  The whole body of the attention kernel on whole buffers: from the block of queries, the keys and the values it
  leaves the block of results `out` names, whatever the scratch buffers held.
-/
module

public import proofs.«01_k».proof.Proof.KI.Loop

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

/-- The block of queries a grid point works on. -/
def qb (i : grid0.Coords) : Fin 32 := ⟨(i 1).val, lt_of_lt_of_eq (i 1).isLt (by decide)⟩

set_option maxHeartbeats 0 in
/-- The body on whole buffers leaves the block of results `out` names and gives everything else back as it was. -/
theorem sound_kernel (c : Dev nD) (i : grid0.Coords)
    (arg2 : Memref sig .tc .vmem S2x256x512 .bf16) (harg2 : arg2.IsWhole)
    (arg3 : Memref sig .tc .vmem S2x8192x512 .bf16) (harg3 : arg3.IsWhole)
    (arg4 : Memref sig .tc .vmem S2x8192x512 .bf16) (harg4 : arg4.IsWhole)
    (arg5 : Memref sig .tc .vmem S2x256x512 .bf16) (harg5 : arg5.IsWhole)
    (arg6 : Memref sig .tc .vmem S8x256x128 .f32) (harg6 : arg6.IsWhole)
    (arg7 : Memref sig .tc .vmem S8x256x1 .f32) (harg7 : arg7.IsWhole)
    (x : Vec F S2x256x512 .bf16) (k v : Vec F S2x8192x512 .bf16) (K : PUnit → sProp 𝕄) :
    iprop(owns (c : Thread nD τ) arg2 fullShare x ∗ owns (c : Thread nD τ) arg3 fullShare k ∗ owns (c : Thread nD τ) arg4 fullShare v
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare k ∗ owns (c : Thread nD τ) arg4 fullShare v
            ∗ owns (c : Thread nD τ) arg5 fullShare (out x k v (qb i)) ∗ (∃ d, owns (c : Thread nD τ) arg6 fullShare d) ∗ (∃ d, owns (c : Thread nD τ) arg7 fullShare d)) -∗ K ⟨⟩))
      ⊢ wp frame (wpE (defs₀ (F := F)) 𝒱₀ (c : Thread nD τ) none) Set.univ
          (cc0_sb_prompt i arg2 harg2 arg3 harg3 arg4 harg4 arg5 harg5 arg6 harg6 arg7 harg7) K := by
  simp only [cc0_sb_prompt_eq_skeleton]; unfold cc0_sb_prompt_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec
  have e8 : sound_kernel.sl.v429 i = ctr (qb i).val := rfl
  have e9 : sound_kernel.sl.v428 c i arg2 arg3 f2 f3
      = (start (qT (View.read (Elt F) arg2.view f2)) (View.read (Elt F) arg3.view f3) (View.read (Elt F) arg4.view f4) (qb i)).l := rfl
  rw [e8, e9]
  iapply (wp_call_spec 𝒱₀ (c : Thread nD τ) none Set.univ
    (spec c arg7 arg3 arg4 arg6 (qT (View.read (Elt F) arg2.view f2)) (View.read (Elt F) arg3.view f3) (View.read (Elt F) arg4.view f4)
      (qb i).val (qb i).isLt.le (start (qT (View.read (Elt F) arg2.view f2)) (View.read (Elt F) arg3.view f3) (View.read (Elt F) arg4.view f4) (qb i)))
    (qb i).val (fun u hu => nomatch hu) (spec_le c i arg7 harg7 arg3 harg3 arg4 harg4 arg6 harg6 _ _ _ Set.univ (qb i).val (qb i).isLt.le _))
  rw [spec_apply]
  have hout : out (View.read (Elt F) arg2.view f2) (View.read (Elt F) arg3.view f3) (View.read (Elt F) arg4.view f4) (qb i)
      = putO fun c => truncf .bf16 (getA (loopRun (qT (View.read (Elt F) arg2.view f2)) (View.read (Elt F) arg3.view f3) (View.read (Elt F) arg4.view f4)
        (qb i).val (qb i).isLt.le (start (qT (View.read (Elt F) arg2.view f2)) (View.read (Elt F) arg3.view f3) (View.read (Elt F) arg4.view f4) (qb i))).A c) bitsLt_bf16_f32 := rfl
  rw [hout]
  generalize (loopRun (F := F) _ _ _ _ _ _) = R
  obtain ⟨RA, RC, RL⟩ := R
  unfold held owns
  dsimp only
  isplitl [H3 H4 H6 H7]
  · isplitl [H3]; · iexists f3; isplitr; · ipureintro; rfl
                    iexact H3
    isplitl [H4]; · iexists f4; isplitr; · ipureintro; rfl
                    iexact H4
    isplitl [H6]
    · iexists _; isplitr
      swap; · iexact H6
      ipureintro
      refine (View.read_writes_eq_canon _ _ _ ?_).trans ?_
      · exact coverA _ _ _ _ _ _ _ _
      · rfl
    · iexists _; isplitr
      swap; · iexact H7
      ipureintro
      refine (View.read_writes_eq_canon _ _ _ ?_).trans ?_
      · exact coverC _ _ _ _ _ _ _ _
      · rfl
  iintro %r ⟨⟨%g3, %hg3, H3⟩, ⟨%g4, %hg4, H4⟩, ⟨%g6, %hg6, H6⟩, ⟨%g7, %hg7, H7⟩⟩
  subst hg6 hg7
  sl_exec
  sl_step
  iapply Hk
  isplitl [H2]; · iexists f2; isplitr; · ipureintro; rfl
                  iexact H2
  isplitl [H3]; · iexists g3; isplitr; · ipureintro; exact hg3
                  iexact H3
  isplitl [H4]; · iexists g4; isplitr; · ipureintro; exact hg4
                  iexact H4
  isplitl [H5]
  · iexists _; isplitr
    swap; · iexact H5
    ipureintro
    refine (View.read_writes_eq_canon _ _ _ ?_).trans ?_
    · exact coverO _ _ _ _ _ _ _ _
    · rfl
  isplitl [H6]
  · iexists _, g6; isplitr; · ipureintro; rfl
    iexact H6
  · iexists _, g7; isplitr; · ipureintro; rfl
    iexact H7

end Cert.Proof.KI

end
-- ==== Proof.KI.Run.lean ====
/-
  The launch of the attention kernel: its proof data, the body at every grid point, the run of the whole program and
  its frame.
-/
module

public import proofs.«01_k».proof.Proof.KI.Body
public import Idealize.ShloMosaic.Lib.StableHlo.Run
public import Idealize.ShloMosaic.Lib.Pipeline.FrameBody
public import Idealize.ShloMosaic.Lib.Claim

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch begins: after the host operations. -/
abbrev V (c : Dev nD) (b : Ref sig .tc) : Buf (Elt F) ((c : Thread nD τ).loc b) := StableHlo.after hostOps0 (fun b => m (c, b)) b

/-- None of the host operations allocates a buffer. -/
theorem hostOps0_fresh : (hostOps0 : List (HloOp τ sig (Elt F))).Forall fun op => op.fresh = ∅ := ⟨rfl, rfl, rfl, rfl, rfl, rfl⟩

theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

/-- The host operations leave the arguments as they are. -/
theorem V_arg0 (c : Dev nD) : V m c main_arg0 = m ((c : Thread nD τ).loc main_arg0) := by
  simp only [V, hostOps0]; after_results
theorem V_arg1 (c : Dev nD) : V m c main_arg1 = m ((c : Thread nD τ).loc main_arg1) := by
  simp only [V, hostOps0]; after_results
theorem V_arg2 (c : Dev nD) : V m c main_arg2 = m ((c : Thread nD τ).loc main_arg2) := by
  simp only [V, hostOps0]; after_results

/-- The arguments are no array of the pipeline. -/
theorem rest0 : (main_arg0 : Ref sig .tc) ∈ Pipeline.restRefs sig spec0 := Pipeline.mem_restRefs_of main_arg0 (by decide) (by decide)
theorem rest1 : (main_arg1 : Ref sig .tc) ∈ Pipeline.restRefs sig spec0 := Pipeline.mem_restRefs_of main_arg1 (by decide) (by decide)
theorem rest2 : (main_arg2 : Ref sig .tc) ∈ Pipeline.restRefs sig spec0 := Pipeline.mem_restRefs_of main_arg2 (by decide) (by decide)

/-- Window `w`'s block at point `t`, read off its array as the launch finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-! ## The proof data -/

/-- The block of results of grid point `t`. -/
def res (c : Dev nD) (t : Fin (cfg0 (F := F)).N) : Vec F S2x256x512 .bf16 :=
  out (iblk m c 0 t) (iblk m c 1 t) (iblk m c 2 t) (qb (grid0.coords t))

/-- The pipeline's proof data: the arrays as the host operations leave them, each input block left in place, the
    result block of each point at `res`, the two scratch buffers at anything between points. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = res m c t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The invariant between points: the two scratch buffers at some contents, the generator register at some state. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, inv_eq]
  iintro ⟨⟨⟨H6, H7⟩, Hr⟩, Ho, ⟨%d0, H0⟩, ⟨%d1, H1⟩, ⟨%d2, H2⟩, ⟨%d3, H3⟩⟩
  iapply (sound_kernel c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  iintro ⟨H0, H1, H2, H3, H6, H7⟩
  isplitl [H6 H7 Hr]
  · isplitl [H6 H7]
    · isplitl [H6]; · iexact H6
      iexact H7
    iexact Hr
  isplitl [Ho]; · iexact Ho
  isplitl [H0]; · iexact H0
  isplitl [H1]; · iexact H1
  isplitl [H2]; · iexact H2
  iexact H3

theorem defs₀_row (t : Fin (cfg0 (F := F)).N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every array of the pipeline ends at what the proof data say, every other buffer as the launch found it,
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 rest0).trans (V_arg0 m c),
      ((h c).2 main_arg1 rest1).trans (V_arg1 m c),
      ((h c).2 main_arg2 rest2).trans (V_arg2 m c)⟩) (run_main m ρ)

/-- The frame: the program ends, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.KI

end
-- ==== Proof.Val.Softplus.lean ====
/-
  Extended-real facts the stick-breaking attention rests on: `softplus` at the infinities and at the reals, the
  exponential of a sum, a sum with an infinite term, and the exact reading of a logarithm split into a rounded part
  and the rest.
-/
module

public import Idealize.ShloMosaic.PureOps.Ideal
public import Idealize.ShloMosaic.PureOps.Ideal.Laws

@[expose] public section

noncomputable section

namespace Cert.Proof.Stick

open Idealize.ShloMosaic

/-- `softplus z = max z 0 + log (1 + exp (-|z|))`. -/
def sp (z : EReal) : EReal := max z 0 + Ideal.log (1 + Ideal.exp (-(max z (-z))))

theorem sp_coe (r : ℝ) : sp r = ((max r 0 + Real.log (1 + Real.exp (-|r|)) : ℝ) : EReal) := by
  have h1 : (max (r : EReal) (-(r : EReal))) = ((|r| : ℝ) : EReal) := by
    rw [abs_eq_max_neg, EReal.coe_strictMono.monotone.map_max]; rfl
  have h2 : (1 : EReal) + ((Real.exp (-|r|) : ℝ) : EReal) = ((1 + Real.exp (-|r|) : ℝ) : EReal) := rfl
  have hp : ¬ (1 + Real.exp (-|r|) ≤ 0) := by have := Real.exp_pos (-|r|); linarith
  have h3 : max (r : EReal) 0 = ((max r 0 : ℝ) : EReal) := by
    rw [EReal.coe_strictMono.monotone.map_max]; rfl
  unfold sp
  rw [h1, ← EReal.coe_neg, Ideal.exp_coe, h2, Ideal.log_coe, if_neg hp, h3, EReal.coe_add]

theorem log_one : Ideal.log 1 = 0 := by
  have : Ideal.log ((1 : ℝ) : EReal) = 0 := by
    rw [Ideal.log_coe, if_neg (by norm_num), Real.log_one]; rfl
  simpa using this

theorem sp_top : sp ⊤ = ⊤ := by
  simp [sp, log_one]

theorem sp_bot : sp ⊥ = 0 := by
  simp [sp, log_one]

theorem sp_nonneg (z : EReal) : 0 ≤ sp z := by
  induction z using EReal.rec with
  | bot => rw [sp_bot]
  | top => rw [sp_top]; exact le_top
  | coe r =>
    rw [sp_coe]
    have h : 0 ≤ Real.log (1 + Real.exp (-|r|)) := Real.log_nonneg (by have := Real.exp_pos (-|r|); linarith)
    exact_mod_cast add_nonneg (le_max_right _ _) h

/-- `z - softplus z = -softplus (-z)` at a real. -/
theorem coe_sub_sp (r : ℝ) : (r : EReal) - sp r = -sp (-(r : EReal)) := by
  rw [← EReal.coe_neg r, sp_coe, sp_coe, abs_neg, ← EReal.coe_sub, ← EReal.coe_neg]
  congr 1
  rcases le_total 0 r with h | h
  · rw [max_eq_left h, max_eq_right (by linarith)]; ring
  · rw [max_eq_right h, max_eq_left (by linarith)]; ring

theorem sub_sp_nonpos (z : EReal) : z - sp z ≤ 0 := by
  induction z using EReal.rec with
  | bot => simp [sp_bot]
  | top => simp [sp_top]
  | coe r => rw [coe_sub_sp, EReal.neg_le_zero]; exact sp_nonneg _

theorem neg_sp_nonpos (z : EReal) : -sp z ≤ 0 := by rw [EReal.neg_le_zero]; exact sp_nonneg z

theorem exp_nonneg (x : EReal) : 0 ≤ Ideal.exp x := by
  induction x using EReal.rec with
  | bot => simp
  | top => simp
  | coe r => rw [Ideal.exp_coe]; exact_mod_cast (Real.exp_pos r).le

theorem exp_ne_top {x : EReal} (h : x ≤ 0) : Ideal.exp x ≠ ⊤ := by
  induction x using EReal.rec with
  | bot => simp
  | top => simp at h
  | coe r => rw [Ideal.exp_coe]; exact EReal.coe_ne_top _

theorem exp_zero : Ideal.exp 0 = 1 := by
  rw [← EReal.coe_zero, Ideal.exp_coe, Real.exp_zero]; rfl

theorem exp_add {x y : EReal} (hx : x ≤ 0) (hy : y ≤ 0) : Ideal.exp (x + y) = Ideal.exp x * Ideal.exp y := by
  induction x using EReal.rec with
  | bot => simp
  | top => simp at hx
  | coe r =>
    induction y using EReal.rec with
    | bot => simp
    | top => simp at hy
    | coe s => rw [← EReal.coe_add, Ideal.exp_coe, Ideal.exp_coe, Ideal.exp_coe, Real.exp_add, EReal.coe_mul]

/-- The power of two the kernel takes is the exponential. -/
theorem exp2_neg_log2 {a : EReal} (ha : 0 ≤ a) {s : EReal} (hs : s = ((-(Real.log 2)⁻¹ : ℝ) : EReal)) :
    Ideal.exp2 (a * s) = Ideal.exp (-a) := by
  have hl : 0 < (Real.log 2)⁻¹ := inv_pos.mpr (Real.log_pos (by norm_num))
  subst hs
  induction a using EReal.rec with
  | bot => simp at ha
  | top =>
    rw [EReal.top_mul_coe_of_neg (by linarith)]
    simp
  | coe r =>
    rw [← EReal.coe_mul, Ideal.exp2_coe, ← EReal.coe_neg, Ideal.exp_coe]
    congr 1
    show (2 : ℝ) ^ (r * -(Real.log 2)⁻¹) = _
    rw [Real.rpow_def_of_pos (by norm_num)]
    congr 1
    have : Real.log 2 ≠ 0 := (Real.log_pos (by norm_num)).ne'
    field_simp

/-- Taking back the key's own logarithm from the running sum leaves the sum over the later keys. -/
theorem weight_eq (z : EReal) {S : EReal} (hS : S ≤ 0) :
    Ideal.exp (-sp (-z) + ((-sp z + S) - (-sp z))) = Ideal.exp ((z - sp z) + S) := by
  induction z using EReal.rec with
  | bot => simp [sp_top]
  | top => simp [sp_top]
  | coe r =>
    rw [coe_sub_sp, sp_coe r, ← EReal.coe_neg]
    congr 2
    induction S using EReal.rec with
    | bot => simp
    | top => simp at hS
    | coe s =>
      generalize max r 0 + Real.log (1 + Real.exp (-|r|)) = a
      rw [← EReal.coe_neg a, ← EReal.coe_add, ← EReal.coe_sub]
      congr 1
      ring

theorem sum_nonpos {ι : Type*} (s : Finset ι) (f : ι → EReal) (h : ∀ i, f i ≤ 0) : ∑ i ∈ s, f i ≤ 0 :=
  Finset.sum_nonpos fun i _ => h i

theorem sum_eq_bot {ι : Type*} {s : Finset ι} {f : ι → EReal} {i : ι} (hi : i ∈ s) (h : f i = ⊥) : ∑ j ∈ s, f j = ⊥ := by
  classical
  rw [← Finset.add_sum_erase s f hi, h, EReal.bot_add]

/-- A nonnegative factor that is not `⊤` goes under a sum. -/
theorem mul_sum_of_nonneg {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- A family of logarithms, summed over a set as its part plus the rest, is summed exactly. -/
theorem split_sum {ι : Type*} [Fintype ι] (L : ι → EReal) (hL : ∀ i, L i ≤ 0) (p : ι → Prop) [DecidablePred p]
    (tri : ι → EReal) (ht : ∀ i, tri i = if p i then 1 else 0) :
    ∑ i, L i * tri i + ∑ i, (L i - L i) * tri i = ∑ i, if p i then L i else 0 := by
  have h1 : ∑ i, L i * tri i = ∑ i, if p i then L i else 0 := Finset.sum_congr rfl fun i _ => by
    rw [ht]; split <;> simp
  rw [h1]
  by_cases hb : ∃ i, p i ∧ L i = ⊥
  · obtain ⟨i, hp, hi⟩ := hb
    rw [sum_eq_bot (Finset.mem_univ i) (by rw [if_pos hp, hi]), EReal.bot_add]
  · have h2 : ∑ i, (L i - L i) * tri i = 0 := Finset.sum_eq_zero fun i _ => by
      rw [ht]
      by_cases hp : p i
      · have hne : L i ≠ ⊥ := fun h => hb ⟨i, hp, h⟩
        have hnt : L i ≠ ⊤ := fun h => by have := hL i; rw [h] at this; simp at this
        rw [EReal.sub_self hnt hne, zero_mul]
      · rw [if_neg hp, mul_zero]
    rw [h2, add_zero]

end Cert.Proof.Stick

end
-- ==== Proof.Val.Row.lean ====
/-
  One row of the stick-breaking attention, its 8192 keys in 32 blocks of 256: the weights, the sums over the blocks
  from a given one on, and how the kernel's block step carries those sums one block further.
-/
module

public import proofs.«01_k».proof.Proof.Val.Softplus

@[expose] public section

noncomputable section

namespace Cert.Proof.Stick

open Idealize.ShloMosaic

/-! ## Sums over the blocks from the `n`-th on -/

def tail (f : Fin 32 → EReal) (n : ℕ) : EReal := ∑ b : Fin 32, if n ≤ b.val then f b else 0

theorem tail_zero (f : Fin 32 → EReal) : tail f 0 = ∑ b, f b := by simp [tail]

theorem tail_succ (f : Fin 32 → EReal) {n : ℕ} (h : n < 32) : tail f n = f ⟨n, h⟩ + tail f (n + 1) := by
  have e : f ⟨n, h⟩ = ∑ b : Fin 32, if (⟨n, h⟩ : Fin 32) = b then f b else 0 := by
    rw [Finset.sum_ite_eq]; simp
  unfold tail
  rw [e, ← Finset.sum_add_distrib]
  refine Finset.sum_congr rfl fun b _ => ?_
  by_cases h1 : (⟨n, h⟩ : Fin 32) = b
  · have h1' : n = b.val := congrArg Fin.val h1
    rw [if_pos h1, if_pos (by omega), if_neg (by omega), add_zero]
  · have h1' : n ≠ b.val := fun q => h1 (Fin.ext q)
    rw [if_neg h1, zero_add]
    by_cases h2 : n ≤ b.val
    · rw [if_pos h2, if_pos (by omega)]
    · rw [if_neg h2, if_neg (by omega)]

theorem tail_eq_zero (f : Fin 32 → EReal) {n : ℕ} (h : ∀ b : Fin 32, n ≤ b.val → f b = 0) : tail f n = 0 :=
  Finset.sum_eq_zero fun b _ => by
    by_cases hb : n ≤ b.val
    · rw [if_pos hb, h b hb]
    · rw [if_neg hb]

theorem tail_nonpos (f : Fin 32 → EReal) (h : ∀ b, f b ≤ 0) (n : ℕ) : tail f n ≤ 0 :=
  sum_nonpos _ _ fun b => by split; exacts [h b, le_refl _]

/-- Once a sum from block `n` on is `⊥`, so is every longer one. -/
theorem tail_bot (f : Fin 32 → EReal) {n : ℕ} (hn : tail f n = ⊥) : ∀ b : ℕ, b ≤ n → n ≤ 32 → tail f b = ⊥ := by
  intro b hb h32
  induction hb using Nat.decreasingInduction with
  | self => exact hn
  | of_succ k hk ih => rw [tail_succ f (by omega), ih, EReal.add_bot]

/-! ## The row -/

/-- The key `(b, t)` comes before the query `(i, r)`. -/
abbrev Earlier (i : Fin 32) (r : Fin 256) (b : Fin 32) (t : Fin 256) : Prop := b < i ∨ (b = i ∧ t < r)

section
variable (i : Fin 32) (r : Fin 256) (z v : Fin 32 → Fin 256 → EReal)

/-- The logarithm of the probability of passing the key over; a key at or after the query is passed over for free. -/
def lf (b : Fin 32) (t : Fin 256) : EReal := if Earlier i r b t then -sp (z b t) else 0

/-- A block's logarithms together, -/
def blk (b : Fin 32) : EReal := ∑ t, lf i r z b t
/-- those of the block's keys after `t`. -/
def inner (b : Fin 32) (t : Fin 256) : EReal := ∑ t', if t < t' then lf i r z b t' else 0

/-- The key's weight, -/
def wt (b : Fin 32) (t : Fin 256) : EReal :=
  if Earlier i r b t then Ideal.exp ((z b t - sp (z b t)) + (inner i r z b t + tail (blk i r z) (b.val + 1))) else 0
/-- and the block's weighted sum. -/
def ws (b : Fin 32) : EReal := ∑ t, wt i r z b t * v b t

theorem lf_nonpos (b : Fin 32) (t : Fin 256) : lf i r z b t ≤ 0 := by
  unfold lf; split; exacts [neg_sp_nonpos _, le_refl _]
theorem blk_nonpos (b : Fin 32) : blk i r z b ≤ 0 := sum_nonpos _ _ fun t => lf_nonpos i r z b t
theorem inner_nonpos (b : Fin 32) (t : Fin 256) : inner i r z b t ≤ 0 :=
  sum_nonpos _ _ fun t' => by split; exacts [lf_nonpos i r z b t', le_refl _]

/-- Later blocks than the query's give nothing. -/
theorem blk_later (b : Fin 32) (h : i < b) : blk i r z b = 0 :=
  Finset.sum_eq_zero fun t _ => if_neg fun q => by rcases q with q | q <;> [skip; have := q.1] <;> omega
theorem ws_later (b : Fin 32) (h : i < b) : ws i r z v b = 0 :=
  Finset.sum_eq_zero fun t _ => by
    rw [wt, if_neg (fun q => by rcases q with q | q <;> [skip; have := q.1] <;> omega), zero_mul]

theorem blk_tail_later : tail (blk i r z) (i.val + 1) = 0 := tail_eq_zero _ fun b hb => blk_later i r z b (by omega)
theorem ws_tail_later : tail (ws i r z v) (i.val + 1) = 0 := tail_eq_zero _ fun b hb => ws_later i r z v b (by omega)

/-- Once the logarithms from block `n` on sum to `⊥`, no earlier block weighs anything. -/
theorem ws_dead {n : ℕ} (hn : n ≤ 32) (h : tail (blk i r z) n = ⊥) : tail (ws i r z v) n = tail (ws i r z v) 0 := by
  have hz : ∀ b : Fin 32, b.val < n → ws i r z v b = 0 := fun b hb => Finset.sum_eq_zero fun t _ => by
    rw [wt]
    split
    · rw [tail_bot _ h _ (by omega) hn, EReal.add_bot, EReal.add_bot, Ideal.exp_bot, zero_mul]
    · rw [zero_mul]
  unfold tail
  refine Finset.sum_congr rfl fun b _ => ?_
  by_cases hb : n ≤ b.val
  · rw [if_pos hb, if_pos (Nat.zero_le _)]
  · rw [if_neg hb, if_pos (Nat.zero_le _), hz b (by omega)]

/-- The block step: the probability of reaching the block times its own weighted sum. -/
theorem ws_eq (b : Fin 32) :
    ws i r z v b = Ideal.exp (tail (blk i r z) (b.val + 1))
      * ∑ t, (if Earlier i r b t then Ideal.exp ((z b t - sp (z b t)) + inner i r z b t) else 0) * v b t := by
  have hC := tail_nonpos _ (blk_nonpos i r z) (b.val + 1)
  rw [mul_sum_of_nonneg _ _ (exp_nonneg _) (exp_ne_top hC)]
  refine Finset.sum_congr rfl fun t _ => ?_
  rw [wt, ← mul_assoc]
  congr 1
  split
  · rw [← add_assoc, exp_add (add_nonpos (sub_sp_nonpos _) (inner_nonpos i r z b t)) hC, mul_comm]
  · rw [mul_zero]

/-! ## The same row with its keys in one run -/

/-- Key `(b, t)`'s number. -/
def key (b : Fin 32) (t : Fin 256) : Fin 8192 := ⟨256 * b.val + t.val, by omega⟩

theorem sum_keys (f : Fin 8192 → EReal) : ∑ p, f p = ∑ b, ∑ t, f (key b t) := by
  rw [← Fintype.sum_prod_type' (fun b t => f (key b t))]
  refine (Fintype.sum_equiv (finProdFinEquiv (m := 32) (n := 256)) _ _ fun x => ?_).symm
  congr 1
  exact Fin.ext (by simp [key, finProdFinEquiv]; omega)

theorem earlier_iff (b : Fin 32) (t : Fin 256) : key b t < key i r ↔ Earlier i r b t := by
  simp only [key, Fin.lt_def, Earlier, Fin.ext_iff]; omega

/-- The logarithms of all the keys after one: those of its block after it and those of the later blocks. -/
theorem sum_after (l : Fin 8192 → EReal) (hl : ∀ b t, l (key b t) = lf i r z b t) (b : Fin 32) (t : Fin 256) :
    (∑ p, if key b t < p then l p else 0) = inner i r z b t + tail (blk i r z) (b.val + 1) := by
  rw [sum_keys]
  have e : inner i r z b t = ∑ b' : Fin 32, if b = b' then inner i r z b' t else 0 := by rw [Finset.sum_ite_eq]; simp
  unfold tail
  rw [e, ← Finset.sum_add_distrib]
  refine Finset.sum_congr rfl fun b' _ => ?_
  have hk : ∀ t', (key b t < key b' t') ↔ Earlier b' t' b t := fun t' => earlier_iff b' t' b t
  by_cases h1 : b = b'
  · subst h1
    rw [if_pos rfl, if_neg (by omega), add_zero]
    refine Finset.sum_congr rfl fun t' _ => ?_
    rw [hl]
    refine if_congr ((hk t').trans ⟨fun q => ?_, fun q => .inr ⟨rfl, q⟩⟩) rfl rfl
    rcases q with q | q
    · exact absurd q (lt_irrefl _)
    · exact q.2
  · rw [if_neg h1, zero_add]
    by_cases h2 : b < b'
    · rw [if_pos (by omega)]
      exact Finset.sum_congr rfl fun t' _ => by rw [if_pos ((hk t').mpr (.inl h2)), hl]
    · rw [if_neg (by omega)]
      exact Finset.sum_eq_zero fun t' _ => if_neg fun q => by
        rcases (hk t').mp q with q | q
        · exact h2 q
        · exact h1 q.1

/-- The row as a plain sum over its keys is the sum over all the blocks. -/
theorem row_eq (zz vv l T w : Fin 8192 → EReal) (hz : ∀ b t, zz (key b t) = z b t) (hv : ∀ b t, vv (key b t) = v b t)
    (hl : ∀ p, l p = if p < key i r then -sp (zz p) else 0)
    (hT : ∀ p, T p = l p + ∑ p', if p < p' then l p' else 0)
    (hw : ∀ p, w p = if p < key i r then Ideal.exp (-sp (-zz p) + (T p - l p)) else 0) :
    ∑ p, vv p * w p = tail (ws i r z v) 0 := by
  have hl' : ∀ b t, l (key b t) = lf i r z b t := fun b t => by
    rw [hl, hz, lf]; exact if_congr (earlier_iff i r b t) rfl rfl
  rw [tail_zero, sum_keys]
  refine Finset.sum_congr rfl fun b _ => Finset.sum_congr rfl fun t _ => ?_
  rw [hv, mul_comm, hw, wt, hT, sum_after i r z l hl', hl', hz, lf]
  congr 1
  by_cases h : Earlier i r b t
  · rw [if_pos ((earlier_iff i r b t).mpr h), if_pos h, if_pos h,
      weight_eq _ (add_nonpos (inner_nonpos i r z b t) (tail_nonpos _ (blk_nonpos i r z) _))]
  · rw [if_neg (fun q => h ((earlier_iff i r b t).mp q)), if_neg h]

end

end Cert.Proof.Stick

end
-- ==== Proof.Val.Suffix.lean ====
/-
  The sum over a window of the whole length of the last axis, padded high: from each position, its own entry and all later ones.
-/
module

public import proofs.«01_k».proof.Proof.Val.Row
public import Idealize.ShloMosaic.Lib.Pointwise

@[expose] public section

noncomputable section

namespace Cert.Proof.Stick

open Idealize.ShloMosaic

theorem foldl_add {ι : Type} (g : ι → EReal) (l : List ι) (v : EReal) : l.foldl (fun r n => r + g n) v = v + (l.map g).sum := by
  induction l generalizing v with
  | nil => simp
  | cons a l ih => simp [ih, add_assoc]

/-- The entries `e, e+1, …` of a row of `M` are entry `e` and the later ones. -/
theorem sum_shift {M : ℕ} (l : Fin M → EReal) (e : Fin M) :
    (∑ t : Fin M, if h : e.val + t.val < M then l ⟨e.val + t.val, h⟩ else 0) = l e + ∑ p : Fin M, if e < p then l p else 0 := by
  set F : ℕ → EReal := fun n => if h : n < M then l ⟨n, h⟩ else 0 with hF
  have h1 : (∑ t : Fin M, if h : e.val + t.val < M then l ⟨e.val + t.val, h⟩ else 0) = ∑ n ∈ Finset.Ico e.val M, F n := by
    refine (Fin.sum_univ_eq_sum_range (fun n => F (e.val + n)) M).trans ?_
    rw [Finset.range_eq_Ico, Finset.sum_Ico_add F 0 M e.val]
    refine (Finset.sum_subset (fun n hn => ?_) fun n hn hn' => ?_).symm
    · rw [Finset.mem_Ico] at hn ⊢; omega
    · rw [Finset.mem_Ico] at hn hn'
      exact dif_neg (by omega)
  have h2 : (∑ p : Fin M, if e < p then l p else 0) = ∑ n ∈ Finset.Ico (e.val + 1) M, F n := by
    have h3 : (∑ p : Fin M, if e < p then l p else 0) = ∑ p : Fin M, if e.val < p.val then F p.val else 0 :=
      Finset.sum_congr rfl fun p _ => by simp only [hF, p.isLt, dif_pos, Fin.lt_def]
    rw [h3, Fin.sum_univ_eq_sum_range (fun n => if e.val < n then F n else 0) M, ← Finset.sum_filter]
    refine Finset.sum_congr (Finset.ext fun n => ?_) fun _ _ => rfl
    rw [Finset.mem_filter, Finset.mem_range, Finset.mem_Ico]; omega
  rw [h1, h2, Finset.sum_eq_sum_Ico_succ_bot e.isLt]
  simp [hF]

theorem suffix_at {A B C N M : ℕ} (hM : N + 1 = M) (x : (⟨4, ![A, B, C, M]⟩ : Shape).Idx → EReal)
    (h : (⟨4, ![A, B, C, M]⟩ : Shape).ReduceWindows (![1, 1, 1, M] : Fin 4 → ℕ) ![1, 1, 1, 1] ![0, 0, 0, 0] ![0, 0, 0, N] ⟨4, ![A, B, C, M]⟩)
    (a : Fin A) (b : Fin B) (c : Fin C) (e : Fin M) :
    Ideal.hostReduceWindowAdd (![1, 1, 1, M] : Fin 4 → ℕ) ![1, 1, 1, 1] ![0, 0, 0, 0] ![0, 0, 0, N] h x 0 (ix4 a b c e)
      = x (ix4 a b c e) + ∑ p : Fin M, if e < p then x (ix4 a b c p) else 0 := by
  refine Eq.trans ?_ (sum_shift (fun p => x (ix4 a b c p)) e)
  unfold Ideal.hostReduceWindowAdd Host.reduceWindow
  dsimp only
  refine (foldl_add (ι := Fin (⟨4, ![1, 1, 1, M]⟩ : Shape).numel) _ _ _).trans ?_
  rw [zero_add, ← Fin.sum_univ_def]
  refine Eq.trans (Finset.sum_congr rfl fun n _ => ?_) ((Equiv.sum_comp (⟨4, ![1, 1, 1, M]⟩ : Shape).rowMajor.symm (fun y : (⟨4, ![1, 1, 1, M]⟩ : Shape).Idx =>
    if hin : ∀ i : Fin 4, (![0, 0, 0, 0] : Fin 4 → ℕ) i ≤ (ix4 a b c e i).val * (![1, 1, 1, 1] : Fin 4 → ℕ) i + (y i).val
        ∧ (ix4 a b c e i).val * (![1, 1, 1, 1] : Fin 4 → ℕ) i + (y i).val - (![0, 0, 0, 0] : Fin 4 → ℕ) i < (⟨4, ![A, B, C, M]⟩ : Shape).size i then
      x (fun i => ⟨(ix4 a b c e i).val * (![1, 1, 1, 1] : Fin 4 → ℕ) i + (y i).val - (![0, 0, 0, 0] : Fin 4 → ℕ) i, (hin i).2⟩) else 0)).trans ?_)
  · by_cases hin : ∀ i : Fin 4, (![0, 0, 0, 0] : Fin 4 → ℕ) i ≤ (ix4 a b c e i).val * (![1, 1, 1, 1] : Fin 4 → ℕ) i + ((⟨4, ![1, 1, 1, M]⟩ : Shape).rowMajor.symm n i).val
        ∧ (ix4 a b c e i).val * (![1, 1, 1, 1] : Fin 4 → ℕ) i + ((⟨4, ![1, 1, 1, M]⟩ : Shape).rowMajor.symm n i).val - (![0, 0, 0, 0] : Fin 4 → ℕ) i < (⟨4, ![A, B, C, M]⟩ : Shape).size i
    · rw [dif_pos hin]
      exact dif_pos hin
    · rw [dif_neg hin]
      exact dif_neg hin
  rw [sum_idx4]
  simp only [Fin.sum_univ_one]
  refine Finset.sum_congr rfl fun t _ => ?_
  by_cases ht : e.val + t.val < M
  · rw [dif_pos ht, dif_pos]
    · refine congrArg x (funext fun i => Fin.ext ?_)
      match i with
      | ⟨0, _⟩ => simp [ix4]
      | ⟨1, _⟩ => simp [ix4]
      | ⟨2, _⟩ => simp [ix4]
      | ⟨3, _⟩ => simp [ix4]
    · intro i
      match i with
      | ⟨0, _⟩ => simp [ix4]
      | ⟨1, _⟩ => simp [ix4]
      | ⟨2, _⟩ => simp [ix4]
      | ⟨3, _⟩ => simpa [ix4] using ht
  · rw [dif_neg ht, dif_neg]
    intro hin
    exact ht (by simpa [ix4] using (hin 3).2)

end Cert.Proof.Stick

end
-- ==== Proof.KI.At.lean ====
/-
  The kernel's chain read at an element, on the extended reals, and the state of its loop: after block `n` the two
  buffers hold the weighted sums and the sums of logarithms over the blocks from `n` on.
-/
module

public import proofs.«01_k».proof.Proof.KI.Chain
public import proofs.«01_k».proof.Proof.Val.Row
public import Idealize.ShloMosaic.Lib.Pointwise
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.WordCmp
open Cert.Proof.Stick

/-! ## The operations at an element -/

theorem neg_log2e_value : (Named.named (F := Ideal) κ "neg_log2e" (φ := .f32) 0xBFB8AA3B#32 : EReal) = ((-(Real.log 2)⁻¹ : ℝ) : EReal) :=
  IdealRules.named_const.ideal_named_scalar _ _ _ _ rfl

theorem dead_value : (Named.named (F := Ideal) κ "dead" (φ := .f32) 0xC2D00000#32 : EReal) = ⊥ :=
  IdealRules.named_const.ideal_named_scalar _ _ _ _ rfl

theorem scores_at (q k : FVec Ideal S256x128 .bf16) (r t : Fin 256) :
    scores q k (ix2 r t) = (∑ d : Fin 128, q (ix2 r d) * k (ix2 t d)) * Ideal.ofBits .f32 0x3DB504F3#32 := by
  pointwise [scores]

theorem softp_at (z : FVec Ideal S256x256 .f32) (r t : Fin 256) : softp z (ix2 r t) = sp (z (ix2 r t)) := by
  pointwise [softp]
  have h : 0 ≤ max (z (ix2 r t)) (-(z (ix2 r t))) := by
    rcases le_total 0 (z (ix2 r t)) with h | h
    · exact le_max_of_le_left h
    · exact le_max_of_le_right (by rwa [EReal.neg_nonneg])
  have e : FloatOps.exp2 (F := Ideal) (φ := .f32) (FloatOps.absf (z (ix2 r t)) * Named.named κ "neg_log2e" 0xBFB8AA3B#32)
      = Ideal.exp (-(max (z (ix2 r t)) (-(z (ix2 r t))))) := exp2_neg_log2 h neg_log2e_value
  rw [sp, ← e]

theorem logf_at (z : FVec Ideal S256x256 .f32) (r t : Fin 256) : logf z (ix2 r t) = -sp (z (ix2 r t)) := by
  pointwise [logf]
  rw [softp_at, zero_sub]

theorem slt_select {α : Type} (a b : Fin 256) (x y : α) :
    Scalar.select (IntOp.cmpi .slt (BitVec.ofNat 32 a.val) (BitVec.ofNat 32 b.val)) x y = if a < b then x else y := by
  rw [cmpi_slt_ofNat (by omega) (by omega)]
  by_cases h : a < b
  · rw [if_pos h, show decide (a.val < b.val) = true by simpa using h]; rfl
  · rw [if_neg h, show decide (a.val < b.val) = false by simpa using h]; rfl

theorem tri_value (a b : Fin 256) :
    FloatOps.sitofp (F := Ideal) FTy.f32 (BitVec.setWidth 32 (IntOp.cmpi .sgt (BitVec.ofNat 32 a.val) (BitVec.ofNat 32 b.val)))
      = if b < a then (1 : EReal) else 0 := by
  rw [cmpi_sgt_ofNat (by omega) (by omega)]
  show (((BitVec.setWidth 32 _).toInt : ℝ) : EReal) = _
  by_cases h : b < a
  · rw [if_pos h, show decide (b.val < a.val) = true by simpa using h]; simp
  · rw [if_neg h, show decide (b.val < a.val) = false by simpa using h]; simp

theorem after_at (x : FVec Ideal S256x256 .f32) (r t : Fin 256) (hx : ∀ t', x (ix2 r t') ≤ 0) :
    after x (ix2 r t) = ∑ t' : Fin 256, if t < t' then x (ix2 r t') else 0 := by
  pointwise [after, k0_pay7]
  exact split_sum (fun t' => x (ix2 r t')) hx (fun t' => t < t') _ fun t' => tri_value t' t

theorem weight_at (z x : FVec Ideal S256x256 .f32) (r t : Fin 256) (hx : ∀ t', x (ix2 r t') ≤ 0) :
    weight z x (ix2 r t)
      = Ideal.exp ((z (ix2 r t) - sp (z (ix2 r t))) + ∑ t' : Fin 256, if t < t' then x (ix2 r t') else 0) := by
  pointwise [weight]
  rw [softp_at, after_at x r t hx]

theorem contrib_at (car : FVec Ideal S256x1 .f32) (p : FVec Ideal S256x256 .f32) (v : FVec Ideal S256x128 .bf16) (r : Fin 256) (d : Fin 128) :
    contrib car p v (ix2 r d) = Ideal.exp (car (ix2 r 0)) * ∑ t : Fin 256, p (ix2 r t) * v (ix2 t d) := by
  pointwise [contrib]

theorem rowsum_at (x : FVec Ideal S256x256 .f32) (r : Fin 256) (u : Fin 1) : rowsum x (ix2 r u) = ∑ t : Fin 256, x (ix2 r t) := by
  pointwise [rowsum]

theorem logfD_at (z : FVec Ideal S256x256 .f32) (r t : Fin 256) : logfD z (ix2 r t) = if t < r then -sp (z (ix2 r t)) else 0 := by
  pointwise [logfD, k0_pay17]
  rw [slt_select, logf_at]

theorem logfD_nonpos (z : FVec Ideal S256x256 .f32) (r t : Fin 256) : logfD z (ix2 r t) ≤ 0 := by
  rw [logfD_at]; split; exacts [neg_sp_nonpos _, le_refl _]

theorem weightD_at (z : FVec Ideal S256x256 .f32) (r t : Fin 256) :
    weightD z (ix2 r t) = if t < r then
      Ideal.exp ((z (ix2 r t) - sp (z (ix2 r t))) + ∑ t' : Fin 256, if t < t' then logfD z (ix2 r t') else 0) else 0 := by
  pointwise [weightD, k0_pay17]
  rw [slt_select, weight_at _ _ _ _ fun t' => logfD_nonpos z r t']

theorem zero_carry (r : Fin 256) : (k0_pay16 : FVec Ideal S256x1 .f32) (ix2 r 0) = 0 := by
  pointwise [k0_pay16]

/-- No running logarithm exceeds its column's maximum. -/
theorem le_colmax (x : FVec Ideal S256x1 .f32) (r : Fin 256) : x (ix2 r 0) ≤ colmax x := by
  unfold colmax
  pointwise
  exact (Finset.le_fold_max _).mpr (.inr ⟨(r, 0), Finset.mem_univ _, le_refl _⟩)

theorem le_live (g : Fin 8 → FVec Ideal S256x1 .f32) (c : Fin 8) : colmax (g c) ≤ live g := by
  show colmax (g c) ≤ max (max (max (max (max (max (max (colmax (g 0)) (colmax (g 1))) (colmax (g 2))) (colmax (g 3))) (colmax (g 4)))
    (colmax (g 5))) (colmax (g 6))) (colmax (g 7))
  fin_cases c <;> simp

/-- When the largest running logarithm is `⊥`, so is every one. -/
theorem dead_all (g : Fin 8 → FVec Ideal S256x1 .f32) (h : live g = ⊥) (c : Fin 8) (r : Fin 256) : g c (ix2 r 0) = ⊥ :=
  le_bot_iff.mp (((le_colmax (g c) r).trans (le_live g c)).trans h.le)

/-! ## The buffers' slots -/

theorem disjA {c c' : Fin 8} (h : c ≠ c') : Disjoint (rectA c).set (rectA c').set :=
  Rect.unit_disjoint (s := S8x256x128) (0 : Fin 3) (by
    have : c.val ≠ c'.val := fun q => h (Fin.ext q)
    show c.val + 1 ≤ c'.val ∨ c'.val + 1 ≤ c.val
    omega)
theorem disjC {c c' : Fin 8} (h : c ≠ c') : Disjoint (rectC c).set (rectC c').set :=
  Rect.unit_disjoint (s := S8x256x1) (0 : Fin 3) (by
    have : c.val ≠ c'.val := fun q => h (Fin.ext q)
    show c.val + 1 ≤ c'.val ∨ c'.val + 1 ≤ c.val
    omega)
theorem disjQ {c c' : Fin 8} (h : c ≠ c') : Disjoint (rectQ c).set (rectQ c').set := by
  have hne : c.val ≠ c'.val := fun q => h (Fin.ext q)
  by_cases h4 : c.val / 4 = c'.val / 4
  · exact Rect.unit_disjoint (s := S2x256x512) (2 : Fin 3) (by
      show 128 * (c.val % 4) + 128 ≤ 128 * (c'.val % 4) ∨ 128 * (c'.val % 4) + 128 ≤ 128 * (c.val % 4)
      omega)
  · exact Rect.unit_disjoint (s := S2x256x512) (0 : Fin 3) (by
      show c.val / 4 + 1 ≤ c'.val / 4 ∨ c'.val / 4 + 1 ≤ c.val / 4
      omega)

theorem canon_skip {Val : EltTy → Type} [∀ e, Nonempty (Val e)] {s : Shape} {e : EltTy} (r' : Rect s) (w : r'.shape.Idx → Val e)
    (L : List (View.Piece Val s e)) (r : Rect s) (x : r.shape.Idx) (h : Disjoint r.set r'.set) :
    View.canon (⟨r', w⟩ :: L) (r.emb x) = View.canon L (r.emb x) :=
  View.canon_cons_of_not_mem ⟨r', w⟩ L fun hm => Finset.disjoint_left.mp h (r.idx_mem x) hm

/-- Eight writes at disjoint rectangles: each is still there. -/
theorem canon_eight {Val : EltTy → Type} [∀ e, Nonempty (Val e)] {s : Shape} {e : EltTy} (R : Fin 8 → Rect s)
    (w : (c : Fin 8) → (R c).shape.Idx → Val e)
    (hd : ∀ c c', c ≠ c' → Disjoint (R c).set (R c').set) (c : Fin 8) (x : (R c).shape.Idx) :
    View.canon (Val := Val) (e := e) [⟨R 7, w 7⟩, ⟨R 6, w 6⟩, ⟨R 5, w 5⟩, ⟨R 4, w 4⟩, ⟨R 3, w 3⟩, ⟨R 2, w 2⟩, ⟨R 1, w 1⟩, ⟨R 0, w 0⟩]
      ((R c).emb x) = w c x := by
  by_cases h : c = 7
  · subst h; exact View.canon_cons_emb (R 7) (w 7) _ x
  refine (canon_skip (R 7) (w 7) _ (R c) x (hd c 7 h)).trans ?_
  by_cases h6 : c = 6
  · subst h6; exact View.canon_cons_emb (R 6) (w 6) _ x
  refine (canon_skip (R 6) (w 6) _ (R c) x (hd c 6 h6)).trans ?_
  by_cases h5 : c = 5
  · subst h5; exact View.canon_cons_emb (R 5) (w 5) _ x
  refine (canon_skip (R 5) (w 5) _ (R c) x (hd c 5 h5)).trans ?_
  by_cases h4 : c = 4
  · subst h4; exact View.canon_cons_emb (R 4) (w 4) _ x
  refine (canon_skip (R 4) (w 4) _ (R c) x (hd c 4 h4)).trans ?_
  by_cases h3 : c = 3
  · subst h3; exact View.canon_cons_emb (R 3) (w 3) _ x
  refine (canon_skip (R 3) (w 3) _ (R c) x (hd c 3 h3)).trans ?_
  by_cases h2 : c = 2
  · subst h2; exact View.canon_cons_emb (R 2) (w 2) _ x
  refine (canon_skip (R 2) (w 2) _ (R c) x (hd c 2 h2)).trans ?_
  by_cases h1 : c = 1
  · subst h1; exact View.canon_cons_emb (R 1) (w 1) _ x
  refine (canon_skip (R 1) (w 1) _ (R c) x (hd c 1 h1)).trans ?_
  obtain rfl : c = 0 := by omega
  exact View.canon_cons_emb (R 0) (w 0) _ x

def wA (g : Fin 8 → FVec Ideal S256x128 .f32) (c : Fin 8) : (rectA c).shape.Idx → Elt Ideal .f32 :=
  shapeCast S1x256x128 (g c) shapeCasts_S256x128_S1x256x128
theorem putA_eq (g : Fin 8 → FVec Ideal S256x128 .f32) : putA g = View.canon (Val := Elt Ideal) (e := .f32)
    [⟨rectA 7, wA g 7⟩, ⟨rectA 6, wA g 6⟩, ⟨rectA 5, wA g 5⟩, ⟨rectA 4, wA g 4⟩, ⟨rectA 3, wA g 3⟩,
      ⟨rectA 2, wA g 2⟩, ⟨rectA 1, wA g 1⟩, ⟨rectA 0, wA g 0⟩] := rfl
theorem putA_emb (g : Fin 8 → FVec Ideal S256x128 .f32) (c : Fin 8) (x : (rectA c).shape.Idx) : putA g ((rectA c).emb x) = wA g c x := by
  rw [putA_eq]
  exact canon_eight (Val := Elt Ideal) rectA (wA g) (fun _ _ h => disjA h) c x
theorem ld_putA (g : Fin 8 → FVec Ideal S256x128 .f32) (c : Fin 8) :
    View.ld (Val := Elt Ideal) (e' := .f32) (putA g) (rectA c) = wA g c :=
  funext fun x => putA_emb g c x

def wC (g : Fin 8 → FVec Ideal S256x1 .f32) (c : Fin 8) : (rectC c).shape.Idx → Elt Ideal .f32 :=
  shapeCast S1x256x1 (g c) shapeCasts_S256x1_S1x256x1
theorem putC_eq (g : Fin 8 → FVec Ideal S256x1 .f32) : putC g = View.canon (Val := Elt Ideal) (e := .f32)
    [⟨rectC 7, wC g 7⟩, ⟨rectC 6, wC g 6⟩, ⟨rectC 5, wC g 5⟩, ⟨rectC 4, wC g 4⟩, ⟨rectC 3, wC g 3⟩,
      ⟨rectC 2, wC g 2⟩, ⟨rectC 1, wC g 1⟩, ⟨rectC 0, wC g 0⟩] := rfl
theorem putC_emb (g : Fin 8 → FVec Ideal S256x1 .f32) (c : Fin 8) (x : (rectC c).shape.Idx) : putC g ((rectC c).emb x) = wC g c x := by
  rw [putC_eq]
  exact canon_eight (Val := Elt Ideal) rectC (wC g) (fun _ _ h => disjC h) c x
theorem ld_putC (g : Fin 8 → FVec Ideal S256x1 .f32) (c : Fin 8) :
    View.ld (Val := Elt Ideal) (e' := .f32) (putC g) (rectC c) = wC g c :=
  funext fun x => putC_emb g c x

def wO (g : Fin 8 → FVec Ideal S256x128 .bf16) (c : Fin 8) : (rectQ c).shape.Idx → Elt Ideal .bf16 :=
  shapeCast S1x256x128 (g c) shapeCasts_S256x128_S1x256x128
theorem putO_eq (g : Fin 8 → FVec Ideal S256x128 .bf16) : putO g = View.canon (Val := Elt Ideal) (e := .bf16)
    [⟨rectQ 7, wO g 7⟩, ⟨rectQ 6, wO g 6⟩, ⟨rectQ 5, wO g 5⟩, ⟨rectQ 4, wO g 4⟩, ⟨rectQ 3, wO g 3⟩,
      ⟨rectQ 2, wO g 2⟩, ⟨rectQ 1, wO g 1⟩, ⟨rectQ 0, wO g 0⟩] := rfl
theorem putO_emb (g : Fin 8 → FVec Ideal S256x128 .bf16) (c : Fin 8) (x : (rectQ c).shape.Idx) : putO g ((rectQ c).emb x) = wO g c x := by
  rw [putO_eq]
  exact canon_eight (Val := Elt Ideal) rectQ (wO g) (fun _ _ h => disjQ h) c x
theorem ld_putO (g : Fin 8 → FVec Ideal S256x128 .bf16) (c : Fin 8) :
    View.ld (Val := Elt Ideal) (e' := .bf16) (putO g) (rectQ c) = wO g c :=
  funext fun x => putO_emb g c x

theorem there_back_A (x : FVec Ideal S256x128 .f32) :
    shapeCast S256x128 (shapeCast S1x256x128 x shapeCasts_S256x128_S1x256x128) shapeCasts_S1x256x128_S256x128 = x := by
  funext j
  idx_vars j
  pointwise
theorem there_back_C (x : FVec Ideal S256x1 .f32) :
    shapeCast S256x1 (shapeCast S1x256x1 x shapeCasts_S256x1_S1x256x1) shapeCasts_S1x256x1_S256x1 = x := by
  funext j
  idx_vars j
  pointwise
theorem getA_putA (g : Fin 8 → FVec Ideal S256x128 .f32) (c : Fin 8) : getA (putA g) c = g c := by
  rw [getA, ld_putA, wA, there_back_A]
theorem getC_putC (g : Fin 8 → FVec Ideal S256x1 .f32) (c : Fin 8) : getC (putC g) c = g c := by
  rw [getC, ld_putC, wC, there_back_C]

/-! ## The loop -/

section
variable (q : Fin 8 → FVec Ideal S256x128 .bf16) (k v : Vec Ideal S2x8192x512 .bf16) (i : Fin 32)

/-- Chain `c`'s scores of query row `r`, and its values at column `d`. -/
def zrow (c : Fin 8) (r : Fin 256) (b : Fin 32) (t : Fin 256) : EReal := scores (q c) (kT k b c) (ix2 r t)
def vcol (c : Fin 8) (d : Fin 128) (b : Fin 32) (t : Fin 256) : EReal := kT v b c (ix2 t d)

/-- After block `n`: the sums over the blocks from `n` on. -/
structure Inv (n : ℕ) (s : St Ideal) : Prop where
  A : ∀ c r d, getA s.A c (ix2 r d) = tail (ws i r (zrow q k c r) (vcol v c d)) n
  C : ∀ c r, getC s.C c (ix2 r 0) = tail (blk i r (zrow q k c r)) n
  l : s.l = live (getC s.C)

theorem lf_full {r : Fin 256} {b : Fin 32} (h : b < i) (z : Fin 32 → Fin 256 → EReal) (t : Fin 256) : lf i r z b t = -sp (z b t) :=
  if_pos (.inl h)
theorem earlier_diag {r t : Fin 256} : Earlier i r i t ↔ t < r :=
  ⟨fun h => by rcases h with h | h; exacts [absurd h (lt_irrefl _), h.2], fun h => .inr ⟨rfl, h⟩⟩
theorem lf_diag {r : Fin 256} (z : Fin 32 → Fin 256 → EReal) (t : Fin 256) : lf i r z i t = if t < r then -sp (z i t) else 0 :=
  if_congr (earlier_diag i) rfl rfl

theorem accS_at (j : Fin 32) (s : St Ideal) (c : Fin 8) (r : Fin 256) (d : Fin 128) : accS q k v j s c (ix2 r d)
    = getA s.A c (ix2 r d) + Ideal.exp (getC s.C c (ix2 r 0)) * ∑ t : Fin 256,
        weight (scores (q c) (kT k j c)) (logf (scores (q c) (kT k j c))) (ix2 r t) * kT v j c (ix2 t d) :=
  congrArg (getA s.A c (ix2 r d) + ·) (contrib_at _ _ _ r d)
theorem carS_at (j : Fin 32) (s : St Ideal) (c : Fin 8) (r : Fin 256) : carS q k j s c (ix2 r 0)
    = getC s.C c (ix2 r 0) + ∑ t : Fin 256, logf (scores (q c) (kT k j c)) (ix2 r t) :=
  congrArg (getC s.C c (ix2 r 0) + ·) (rowsum_at _ r 0)
theorem accD_at (j : Fin 32) (c : Fin 8) (r : Fin 256) (d : Fin 128) : accD q k v j c (ix2 r d)
    = Ideal.exp ((k0_pay16 : FVec Ideal S256x1 .f32) (ix2 r 0)) * ∑ t : Fin 256,
        weightD (scores (q c) (kT k j c)) (ix2 r t) * kT v j c (ix2 t d) := contrib_at _ _ _ r d
theorem carD_at (j : Fin 32) (c : Fin 8) (r : Fin 256) : carD q k j c (ix2 r 0)
    = ∑ t : Fin 256, logfD (scores (q c) (kT k j c)) (ix2 r t) := rowsum_at _ r 0

/-- An earlier block's weights and logarithms, read at an element. -/
theorem weight_full {r : Fin 256} {b : Fin 32} (h : b < i) (c : Fin 8) (t : Fin 256) :
    weight (scores (q c) (kT k b c)) (logf (scores (q c) (kT k b c))) (ix2 r t)
      = if Earlier i r b t then Ideal.exp ((zrow q k c r b t - sp (zrow q k c r b t)) + inner i r (zrow q k c r) b t) else 0 := by
  rw [weight_at _ _ _ _ (fun t' => by rw [logf_at]; exact neg_sp_nonpos _), if_pos (Or.inl h)]
  refine congrArg (fun S => Ideal.exp ((zrow q k c r b t - sp (zrow q k c r b t)) + S)) (Finset.sum_congr rfl fun t' _ => ?_)
  rw [logf_at, lf_full i h]
  rfl
theorem logf_full {r : Fin 256} {b : Fin 32} (h : b < i) (c : Fin 8) (t : Fin 256) :
    logf (scores (q c) (kT k b c)) (ix2 r t) = lf i r (zrow q k c r) b t := by
  rw [logf_at, lf_full i h]
  rfl

/-- The diagonal block's. -/
theorem logf_diag {r : Fin 256} (c : Fin 8) (t : Fin 256) :
    logfD (scores (q c) (kT k i c)) (ix2 r t) = lf i r (zrow q k c r) i t := by
  rw [logfD_at, lf_diag]
  rfl
theorem weight_diag {r : Fin 256} (c : Fin 8) (t : Fin 256) :
    weightD (scores (q c) (kT k i c)) (ix2 r t)
      = if Earlier i r i t then Ideal.exp ((zrow q k c r i t - sp (zrow q k c r i t)) + inner i r (zrow q k c r) i t) else 0 := by
  rw [weightD_at]
  refine if_congr (earlier_diag i).symm ?_ rfl
  refine congrArg (fun S => Ideal.exp ((zrow q k c r i t - sp (zrow q k c r i t)) + S)) (Finset.sum_congr rfl fun t' _ => ?_)
  rw [logf_diag]

theorem step_eq (j : Fin 32) (s : St Ideal) : step q k v j s = ⟨putA (accS q k v j s), putC (carS q k j s), live (carS q k j s)⟩ := rfl
theorem start_eq : start q k v i = ⟨putA (accD q k v i), putC (carD q k i), live (carD q k i)⟩ := rfl
theorem step_A (j : Fin 32) (s : St Ideal) (c : Fin 8) : getA (step q k v j s).A c = accS q k v j s c := by
  rw [step_eq]; dsimp only; rw [getA_putA]
theorem step_C (j : Fin 32) (s : St Ideal) (c : Fin 8) : getC (step q k v j s).C c = carS q k j s c := by
  rw [step_eq]; dsimp only; rw [getC_putC]
theorem start_A (c : Fin 8) : getA (start q k v i).A c = accD q k v i c := by
  rw [start_eq]; dsimp only; rw [getA_putA]
theorem start_C (c : Fin 8) : getC (start q k v i).C c = carD q k i c := by
  rw [start_eq]; dsimp only; rw [getC_putC]
theorem step_l (j : Fin 32) (s : St Ideal) : (step q k v j s).l = live (getC (step q k v j s).C) := by
  rw [show getC (step q k v j s).C = carS q k j s from funext (step_C q k v j s), step_eq]
theorem start_l : (start q k v i).l = live (getC (start q k v i).C) := by
  rw [show getC (start q k v i).C = carD q k i from funext (start_C q k v i), start_eq]

theorem inv_step {n : ℕ} (h : n < i.val) (h32 : n < 32) {s : St Ideal} (hs : Inv q k v i (n + 1) s) :
    Inv q k v i n (step q k v ⟨n, h32⟩ s) where
  A c r d := by
    rw [step_A, accS_at, hs.A, hs.C, tail_succ _ h32, add_comm, ws_eq]
    refine congrArg (· + _) (congrArg _ (Finset.sum_congr rfl fun t _ => ?_))
    rw [weight_full q k i (show (⟨n, h32⟩ : Fin 32) < i from h), vcol]
  C c r := by
    rw [step_C, carS_at, hs.C, tail_succ _ h32, add_comm]
    exact congrArg (· + _) (Finset.sum_congr rfl fun t _ => logf_full q k i (show (⟨n, h32⟩ : Fin 32) < i from h) c t)
  l := step_l q k v ⟨n, h32⟩ s

theorem inv_start : Inv q k v i i.val (start q k v i) where
  A c r d := by
    rw [start_A, accD_at, zero_carry, tail_succ _ i.isLt, ws_tail_later, add_zero, Fin.eta, ws_eq, blk_tail_later]
    refine congrArg _ (Finset.sum_congr rfl fun t _ => ?_)
    rw [weight_diag, vcol]
  C c r := by
    rw [start_C, carD_at, tail_succ _ i.isLt, blk_tail_later, add_zero, Fin.eta]
    exact Finset.sum_congr rfl fun t _ => logf_diag q k i c t
  l := start_l q k v i

/-- However early the loop stops, the weighted sums it leaves are those over all the blocks. -/
theorem loop_value : ∀ (n : ℕ) (hn : n ≤ 32) (_ : n ≤ i.val) (s : St Ideal), Inv q k v i n s → ∀ c r d,
    getA (loopRun q k v n hn s).A c (ix2 r d) = tail (ws i r (zrow q k c r) (vcol v c d)) 0
  | 0, _, _, s, hs, c, r, d => hs.A c r d
  | n + 1, hn, hi, s, hs, c, r, d => by
    unfold loopRun
    split
    · exact loop_value n _ (by omega) _ (inv_step q k v i (by omega) hn hs) c r d
    · rename_i hlive
      have hl : live (getC s.C) = ⊥ := by
        rw [← hs.l]
        by_contra hne
        refine hlive ?_
        show BitVec.ofBool (decide ((Named.named (F := Ideal) κ "dead" (φ := .f32) 0xC2D00000#32 : EReal) < s.l)) = 1#1
        rw [dead_value, decide_eq_true (bot_lt_iff_ne_bot.mpr hne)]
        rfl
      rw [hs.A]
      exact ws_dead i r _ _ hn ((hs.C c r).symm.trans (dead_all _ hl c r))

/-- The block of results, read at chain `c`'s tile. -/
theorem out_at (x : Vec Ideal S2x256x512 .bf16) (c : Fin 8) (r : Fin 256) (d : Fin 128) :
    View.ld (out x k v i) (rectQ c) (ix3 0 r d) = tail (ws i r (zrow (qT x) k c r) (vcol v c d)) 0 := by
  rw [out, ld_putO, wO]
  pointwise
  exact loop_value (qT x) k v i _ _ (le_refl _) _ (inv_start _ _ _ _) c r d
end

end Cert.Proof.KI

end
-- ==== Proof.KI.Array.lean ====
/-
  From the block of results at a grid point to the whole result array: every element is the attention of its query,
  read off the three arguments.
-/
module

public import proofs.«01_k».proof.Proof.KI.Run
public import proofs.«01_k».proof.Proof.KI.At
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Pipeline
open Idealize.SL.Sem
open Cert.Proof.Stick

theorem squeeze128 (y : S1x256x128.Idx → EReal) (r : Fin 256) (d : Fin 128) :
    shapeCast S256x128 y shapeCasts_S1x256x128_S256x128 (ix2 r d) = y (ix3 0 r d) := by pointwise
theorem squeeze512 (y : S1x256x512.Idx → EReal) (r : Fin 256) (d : Fin 512) :
    shapeCast S256x512 y shapeCasts_S1x256x512_S256x512 (ix2 r d) = y (ix3 0 r d) := by pointwise

/-- Chain `c`'s queries at a row and a lane. -/
theorem qT_at (x : Vec Ideal S2x256x512 .bf16) (c : Fin 8) (r : Fin 256) (d : Fin 128) :
    qT x c (ix2 r d) = x (ix3 ⟨c.val / 4, by omega⟩ r ⟨128 * (c.val % 4) + d.val, by omega⟩) := by
  refine (squeeze128 (View.ld x (rectQ c)) r d).trans ?_
  refine congrArg x (funext fun a => Fin.ext ?_)
  match a with
  | ⟨0, _⟩ => show c.val / 4 + 1 * 0 = c.val / 4; omega
  | ⟨1, _⟩ => show 0 + 1 * r.val = r.val; omega
  | ⟨2, _⟩ => show 128 * (c.val % 4) + 1 * d.val = 128 * (c.val % 4) + d.val; omega

theorem off3 : ∀ (j : Fin 32) a, k0_off3 (BitVec.ofNat 32 j.val) a = (![0, 256 * j.val, 0] : Fin 3 → ℕ) a := by decide +kernel
theorem off4 : ∀ (j : Fin 32) a, k0_off4 (BitVec.ofNat 32 j.val) a = (![1, 256 * j.val, 0] : Fin 3 → ℕ) a := by decide +kernel

/-- A block of keys at a row and a lane is the array at the block's row. -/
theorem slab_at (x : Vec Ideal S2x8192x512 .bf16) (j : Fin 32) (s : Fin 2) (t : Fin 256) (n : Fin 512) :
    slab x j s (ix2 t n) = x (ix3 s (key j t) n) := by
  match s with
  | 0 =>
    refine (squeeze512 (View.ld x (rectK0 j)) t n).trans ?_
    refine congrArg x (funext fun a => Fin.ext ?_)
    refine (congrArg (· + 1 * (ix3 (0 : Fin 1) t n a).val) (off3 j a)).trans ?_
    match a with
    | ⟨0, _⟩ => rfl
    | ⟨1, _⟩ => show 256 * j.val + 1 * t.val = 256 * j.val + t.val; omega
    | ⟨2, _⟩ => show 0 + 1 * n.val = n.val; omega
  | 1 =>
    refine (squeeze512 (View.ld x (rectK1 j)) t n).trans ?_
    refine congrArg x (funext fun a => Fin.ext ?_)
    refine (congrArg (· + 1 * (ix3 (0 : Fin 1) t n a).val) (off4 j a)).trans ?_
    match a with
    | ⟨0, _⟩ => rfl
    | ⟨1, _⟩ => show 256 * j.val + 1 * t.val = 256 * j.val + t.val; omega
    | ⟨2, _⟩ => show 0 + 1 * n.val = n.val; omega

theorem smp_eq : ∀ c : Fin 8, smp c = ⟨c.val / 4, by omega⟩ := by decide

theorem kT_at (x : Vec Ideal S2x8192x512 .bf16) (b : Fin 32) (c : Fin 8) (t : Fin 256) (d : Fin 128) :
    kT x b c (ix2 t d) = x (ix3 ⟨c.val / 4, by omega⟩ (key b t) ⟨128 * (c.val % 4) + d.val, by omega⟩) := by
  pointwise [kT]
  rw [slab_at, smp_eq]

variable (m : (ℓ : Loc nD τ sig) → Buf (Elt Ideal) ℓ)

/-- An entry of the array the queries are read from is an entry of the argument. -/
theorem V_v3 (c : Dev nD) (s : Fin 2) (p : Fin 8192) (n : Fin 512) :
    V m c main_v3 (ix3 s p n) = m ((c : Thread nD τ).loc main_arg0) (ix4 s p ⟨n.val / 128, by omega⟩ ⟨n.val % 128, by omega⟩) := by
  have e : V m c main_v3 = shapeCast S2x8192x512 (truncf FTy.bf16 (m ((c : Thread nD τ).loc main_arg0) : FVec Ideal S2x8192x4x128 .f32) bitsLt_bf16_f32 : FVec Ideal S2x8192x4x128 .bf16) shapeCasts_S2x8192x4x128_S2x8192x512 := by
    simp only [V, hostOps0]; after_results; rfl
  rw [e]
  pointwise
theorem V_v4 (c : Dev nD) (s : Fin 2) (p : Fin 8192) (n : Fin 512) :
    V m c main_v4 (ix3 s p n) = m ((c : Thread nD τ).loc main_arg1) (ix4 s p ⟨n.val / 128, by omega⟩ ⟨n.val % 128, by omega⟩) := by
  have e : V m c main_v4 = shapeCast S2x8192x512 (truncf FTy.bf16 (m ((c : Thread nD τ).loc main_arg1) : FVec Ideal S2x8192x4x128 .f32) bitsLt_bf16_f32 : FVec Ideal S2x8192x4x128 .bf16) shapeCasts_S2x8192x4x128_S2x8192x512 := by
    simp only [V, hostOps0]; after_results; rfl
  rw [e]
  pointwise
theorem V_v5 (c : Dev nD) (s : Fin 2) (p : Fin 8192) (n : Fin 512) :
    V m c main_v5 (ix3 s p n) = m ((c : Thread nD τ).loc main_arg2) (ix4 s p ⟨n.val / 128, by omega⟩ ⟨n.val % 128, by omega⟩) := by
  have e : V m c main_v5 = shapeCast S2x8192x512 (truncf FTy.bf16 (m ((c : Thread nD τ).loc main_arg2) : FVec Ideal S2x8192x4x128 .f32) bitsLt_bf16_f32 : FVec Ideal S2x8192x4x128 .bf16) shapeCasts_S2x8192x4x128_S2x8192x512 := by
    simp only [V, hostOps0]; after_results; rfl
  rw [e]
  pointwise

theorem idx : ∀ t : Fin grid0.N, (win0_0.index t = ![0, t.val, 0] ∧ win0_1.index t = ![0, 0, 0] ∧ win0_2.index t = ![0, 0, 0]
    ∧ win0_3.index t = ![0, t.val, 0]) ∧ qb (grid0.coords t) = ⟨t.val, lt_of_lt_of_eq t.isLt (by decide)⟩ := by decide +kernel

/-- Block `t` of the queries. -/
theorem iblk0 (c : Dev nD) (t : Fin (cfg0 (F := Ideal)).N) (s : Fin 2) (r : Fin 256) (n : Fin 512) :
    iblk m c 0 t (ix3 s r n) = V m c main_v3 (ix3 s (key (qb (grid0.coords t)) r) n) := by
  unfold iblk
  rw [(idx t).2]
  blk_ext [(idx t).1]
  show t.val * 256 + r.val = 256 * t.val + r.val
  omega
theorem iblk1 (c : Dev nD) (t : Fin (cfg0 (F := Ideal)).N) (s : Fin 2) (r : Fin 8192) (n : Fin 512) :
    iblk m c 1 t (ix3 s r n) = V m c main_v4 (ix3 s r n) := by
  unfold iblk
  blk_ext [(idx t).1]
theorem iblk2 (c : Dev nD) (t : Fin (cfg0 (F := Ideal)).N) (s : Fin 2) (r : Fin 8192) (n : Fin 512) :
    iblk m c 2 t (ix3 s r n) = V m c main_v5 (ix3 s r n) := by
  unfold iblk
  blk_ext [(idx t).1]

/-- The scaled scores of one query against the keys, block by block. -/
def score (q k : S2x8192x4x128.Idx → EReal) (s : Fin 2) (h : Fin 4) (p : Fin 8192) (b : Fin 32) (t : Fin 256) : EReal :=
  (∑ e : Fin 128, q (ix4 s p h e) * k (ix4 s (key b t) h e)) * Ideal.ofBits .f32 0x3DB504F3#32

/-- Stick-breaking attention of one query, one head and one lane, block of keys by block of keys. -/
def att (q k v : S2x8192x4x128.Idx → EReal) (s : Fin 2) (h : Fin 4) (i : Fin 32) (r : Fin 256) (d : Fin 128) : EReal :=
  tail (ws i r (score q k s h (key i r)) (fun b t => v (ix4 s (key b t) h d))) 0

/-- The block of results at a grid point, at a chain, a row and a lane. -/
theorem res_at (c : Dev nD) (t : Fin (cfg0 (F := Ideal)).N) (ch : Fin 8) (r : Fin 256) (d : Fin 128) :
    res m c t (ix3 ⟨ch.val / 4, by omega⟩ r ⟨128 * (ch.val % 4) + d.val, by omega⟩)
      = att (m ((c : Thread nD τ).loc main_arg0)) (m ((c : Thread nD τ).loc main_arg1)) (m ((c : Thread nD τ).loc main_arg2))
          ⟨ch.val / 4, by omega⟩ ⟨ch.val % 4, by omega⟩ (qb (grid0.coords t)) r d := by
  have h1 (n : Fin 128) : (⟨(128 * (ch.val % 4) + n.val) / 128, by omega⟩ : Fin 4) = ⟨ch.val % 4, by omega⟩ := Fin.ext (by show (128 * (ch.val % 4) + n.val) / 128 = ch.val % 4; omega)
  have h2 (n : Fin 128) : (⟨(128 * (ch.val % 4) + n.val) % 128, by omega⟩ : Fin 128) = n := Fin.ext (by show (128 * (ch.val % 4) + n.val) % 128 = n.val; omega)
  refine Eq.trans ?_ ((out_at (iblk m c 1 t) (iblk m c 2 t) (qb (grid0.coords t)) (iblk m c 0 t) ch r d).trans ?_)
  · refine congrArg (res m c t) (funext fun a => Fin.ext ?_)
    match a with
    | ⟨0, _⟩ => rfl
    | ⟨1, _⟩ => show r.val = 0 + 1 * r.val; omega
    | ⟨2, _⟩ => show 128 * (ch.val % 4) + d.val = 128 * (ch.val % 4) + 1 * d.val; omega
  · have hz : zrow (qT (iblk m c 0 t)) (iblk m c 1 t) ch r = score (m ((c : Thread nD τ).loc main_arg0)) (m ((c : Thread nD τ).loc main_arg1))
        ⟨ch.val / 4, by omega⟩ ⟨ch.val % 4, by omega⟩ (key (qb (grid0.coords t)) r) := by
      funext b t'
      unfold zrow score
      rw [scores_at]
      refine congrArg (· * _) (Finset.sum_congr rfl fun e _ => ?_)
      rw [qT_at, kT_at, iblk0, iblk1, V_v3, V_v4, h1, h2]
    have hv : vcol (iblk m c 2 t) ch d = fun b t' => m ((c : Thread nD τ).loc main_arg2) (ix4 ⟨ch.val / 4, by omega⟩ (key b t') ⟨ch.val % 4, by omega⟩ d) := by
      funext b t'
      unfold vcol
      rw [kT_at, iblk2, V_v5, h1, h2]
    rw [hz, hv]
    rfl

/-- The result array: at sample `s`, position `p` and lane `n` the attention of head `n / 128` at lane `n % 128`. -/
def attArr (q k v : S2x8192x4x128.Idx → EReal) : S2x8192x512.Idx → EReal := fun j =>
  att q k v ⟨(j 0).val, (j 0).isLt⟩ ⟨(j 2).val / 128, by have : (j 2).val < 512 := (j 2).isLt; omega⟩
    ⟨(j 1).val / 256, by have : (j 1).val < 8192 := (j 1).isLt; omega⟩ ⟨(j 1).val % 256, by omega⟩ ⟨(j 2).val % 128, by omega⟩

theorem final (c : Dev nD) : (dats m 0 c).arrAt 3 (cfg0 (F := Ideal)).N
    = attArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hq := (idx t).2
  obtain ⟨s, r, n, rfl⟩ : ∃ (s : Fin 2) (r : Fin 256) (n : Fin 512), y = ix3 s r n := ⟨y 0, y 1, y 2, (ix3_eta y).symm⟩
  have hr := res_at m c t ⟨4 * s.val + n.val / 128, by omega⟩ r ⟨n.val % 128, by omega⟩
  blk_simp [idx t]
  rw [after0_3]
  rw [hq] at hr
  refine Eq.trans (congrArg (res m c t) ?_) (hr.trans ?_)
  · refine funext fun a => Fin.ext ?_
    match a with
    | ⟨0, _⟩ => show s.val = (4 * s.val + n.val / 128) / 4; omega
    | ⟨1, _⟩ => rfl
    | ⟨2, _⟩ => show n.val = 128 * ((4 * s.val + n.val / 128) % 4) + n.val % 128; omega
  · have e0 : (((win0_3.blk t).view.emb (ix3 s r n)) 0 : ℕ) = s.val := by blk_simp [(idx t).1]
    have e1 : (((win0_3.blk t).view.emb (ix3 s r n)) 1 : ℕ) = t.val * 256 + r.val := by blk_simp [(idx t).1]
    have e2 : (((win0_3.blk t).view.emb (ix3 s r n)) 2 : ℕ) = n.val := by blk_simp [(idx t).1]
    unfold attArr
    congr 1 <;> refine Fin.ext ?_ <;> dsimp only
    · rw [e0]; omega
    · rw [e2]; omega
    · rw [e1]; omega
    · rw [e1]; omega
    · rw [e2]

end Cert.Proof.KI

end
-- ==== Proof.Val.Ref.lean ====
/-
  The reference's result, element by element: the whole row of keys at once, with the mask, the suffix sums and the weights as the
  problem writes them, and that sum regrouped block by block.
-/
module

public import proofs.«01_k».proof.Proof.Val.Suffix
public import proofs.«01_k».proof.Proof.KI.Array
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.Stick

/-- The scaled scores. -/
def zs (q k : FVec Ideal S2x8192x4x128 .f32) : FVec Ideal S2x4x8192x8192 .f32 :=
  mulf (Host.dotGeneral dot_S2x8192x4x128_S2x8192x4x128_S2x4x8192x8192_3_3_1_1_02_02 none q k)
    (broadcastInDim S2x4x8192x8192 ![] bcast_S_S2x4x8192x8192 (constant S_ .f32 0x3DB504F3#32))

/-- A zero everywhere. -/
def zeros : FVec Ideal S2x4x8192x8192 .f32 := broadcastInDim S2x4x8192x8192 ![] bcast_S_S2x4x8192x8192 (constant S_ .f32 0x00000000#32)

/-- `softplus`, as the library of the reference writes it. -/
def softp (z : FVec Ideal S2x4x8192x8192 .f32) : FVec Ideal S2x4x8192x8192 .f32 :=
  select (cmpf .une (subf z zeros) (subf z zeros)) (addf z zeros)
    (addf (maximumf z zeros) (Host.log1p (Host.exp (Host.negf (Host.absf (subf z zeros))))))

/-- Where the key comes before the query. -/
def mask : IVec S2x4x8192x8192 1 :=
  broadcastInDim S2x4x8192x8192 ![2, 3] bcast_S8192x8192_S2x4x8192x8192_2_3 (cmpi .slt
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The logarithms of the failures. -/
def fails (z : FVec Ideal S2x4x8192x8192 .f32) : FVec Ideal S2x4x8192x8192 .f32 := select mask (Host.negf (softp z)) zeros

/-- Their sums from each key on. -/
def sums (l : FVec Ideal S2x4x8192x8192 .f32) : FVec Ideal S2x4x8192x8192 .f32 :=
  Host.reduceWindowAdd ![1, 1, 1, 8192] ![1, 1, 1, 1] ![0, 0, 0, 0] ![0, 0, 0, 8191] l
    (broadcastInDim S_ ![] bcast_S_S_ (constant S_ .f32 0x00000000#32))
    reduceWindows_S2x4x8192x8192_S2x4x8192x8192_w1s1p0_0_w1s1p0_0_w1s1p0_0_w8192s1p0_8191 h_S_

/-- The weights. -/
def weights (z l : FVec Ideal S2x4x8192x8192 .f32) : FVec Ideal S2x4x8192x8192 .f32 :=
  select mask (Host.exp (addf (Host.negf (softp (Host.negf z))) (subf (sums l) l))) zeros

/-- The result from the values and the weights. -/
def mix (v : FVec Ideal S2x8192x4x128 .f32) (w : FVec Ideal S2x4x8192x8192 .f32) : FVec Ideal S2x8192x512 .bf16 :=
  truncf .bf16 (shapeCast S2x8192x512 (transpose S2x8192x4x128 [0, 3, 1, 2]
    (Host.dotGeneral dot_S2x8192x4x128_S2x4x8192x8192_S2x4x128x8192_1_3_3_2_02_01 none v w) transposes_S2x4x128x8192_S2x8192x4x128_0_3_1_2)
    shapeCasts_S2x8192x4x128_S2x8192x512) bitsLt_bf16_f32

theorem result_eq (m : (ℓ : Loc nD τ sig) → Buf (Elt Ideal) ℓ) (c : Dev nD) :
    res_main_v21 m c = mix (m ((c.tc : Thread nD τ).loc main_arg2))
      (weights (zs (m ((c.tc : Thread nD τ).loc main_arg0)) (m ((c.tc : Thread nD τ).loc main_arg1)))
        (fails (zs (m ((c.tc : Thread nD τ).loc main_arg0)) (m ((c.tc : Thread nD τ).loc main_arg1))))) := rfl

theorem zs_at (q k : FVec Ideal S2x8192x4x128 .f32) (s : Fin 2) (h : Fin 4) (p p' : Fin 8192) :
    zs q k (ix4 s h p p') = (∑ e : Fin 128, q (ix4 s p h e) * k (ix4 s p' h e)) * Ideal.ofBits .f32 0x3DB504F3#32 := by
  pointwise [zs]

theorem zeros_at (j : S2x4x8192x8192.Idx) : zeros j = 0 := by
  idx_vars j
  pointwise [zeros]

/-- No value differs from itself. -/
theorem cmpf_une_self (x : EReal) : Scalar.cmpf (F := Ideal) (φ := .f32) .une x x = 0#1 := by
  show BitVec.ofBool (decide (x ≠ x)) = 0#1
  simp

theorem softp_at (z : FVec Ideal S2x4x8192x8192 .f32) (j : S2x4x8192x8192.Idx) : softp z j = sp (z j) := by
  have e : softp z j = Scalar.select (Scalar.cmpf (F := Ideal) (φ := .f32) .une (z j - zeros j) (z j - zeros j)) (z j + zeros j)
    (max (z j) (zeros j) + Ideal.log (1 + Ideal.exp (-(max (z j - zeros j) (-(z j - zeros j)))))) := rfl
  rw [e, zeros_at, sub_zero, add_zero, cmpf_une_self]
  rfl

theorem mask_at (s : Fin 2) (h : Fin 4) (p p' : Fin 8192) : mask (ix4 s h p p') = if p' < p then 1#1 else 0#1 := by
  pointwise [mask]
  rw [WordCmp.cmpi_slt_ofNat (by omega) (by omega)]
  by_cases hp : p' < p
  · rw [if_pos hp, decide_eq_true (Fin.lt_def.mp hp)]; rfl
  · rw [if_neg hp, decide_eq_false (fun q => hp (Fin.lt_def.mpr q))]; rfl

/-- The window sum over the reals starts from the initial value's element. -/
theorem reduceWindowAdd_eq {s t u : Shape} {window strides lo hi : Fin s.rank → ℕ} (h : s.ReduceWindows window strides lo hi t)
    (x : FVec Ideal s .f32) (init : FVec Ideal u .f32) (hu : 0 < u.numel) :
    Host.reduceWindowAdd window strides lo hi x init h hu = Ideal.hostReduceWindowAdd window strides lo hi h x (init (Shape.Idx.first hu)) := rfl

theorem sums_at (l : FVec Ideal S2x4x8192x8192 .f32) (s : Fin 2) (h : Fin 4) (p p' : Fin 8192) :
    sums l (ix4 s h p p') = l (ix4 s h p p') + ∑ p'' : Fin 8192, if p' < p'' then l (ix4 s h p p'') else 0 := by
  refine Eq.trans ?_ (suffix_at (A := 2) (B := 4) (C := 8192) (N := 8191) (M := 8192) (by norm_num) l
    reduceWindows_S2x4x8192x8192_S2x4x8192x8192_w1s1p0_0_w1s1p0_0_w1s1p0_0_w8192s1p0_8191 s h p p')
  unfold sums
  rw [← Ideal.ofBits_zero_f32]
  exact congrFun (reduceWindowAdd_eq _ l _ _) _

theorem fails_at (z : FVec Ideal S2x4x8192x8192 .f32) (s : Fin 2) (h : Fin 4) (p p' : Fin 8192) :
    fails z (ix4 s h p p') = if p' < p then -sp (z (ix4 s h p p')) else 0 := by
  have e : fails z (ix4 s h p p') = Scalar.select (mask (ix4 s h p p')) (-(softp z (ix4 s h p p'))) (zeros (ix4 s h p p')) := rfl
  rw [e, zeros_at, mask_at, softp_at]
  split <;> rfl

theorem weights_at (z l : FVec Ideal S2x4x8192x8192 .f32) (s : Fin 2) (h : Fin 4) (p p' : Fin 8192) :
    weights z l (ix4 s h p p') = if p' < p then Ideal.exp (-sp (-z (ix4 s h p p')) + (sums l (ix4 s h p p') - l (ix4 s h p p'))) else 0 := by
  have e : weights z l (ix4 s h p p') = Scalar.select (mask (ix4 s h p p'))
    (Ideal.exp (-(softp (Host.negf z) (ix4 s h p p')) + (sums l (ix4 s h p p') - l (ix4 s h p p')))) (zeros (ix4 s h p p')) := rfl
  rw [e, zeros_at, mask_at, softp_at, show Host.negf z (ix4 s h p p') = -z (ix4 s h p p') from rfl]
  split <;> rfl

theorem mix_at (v : FVec Ideal S2x8192x4x128 .f32) (w : FVec Ideal S2x4x8192x8192 .f32) (s : Fin 2) (p : Fin 8192) (n : Fin 512) :
    mix v w (ix3 s p n) = ∑ p' : Fin 8192, v (ix4 s p' ⟨n.val / 128, by omega⟩ ⟨n.val % 128, by omega⟩) * w (ix4 s ⟨n.val / 128, by omega⟩ p p') := by
  pointwise [mix]

/-- The reference's result is the attention the kernel's blocks hold. -/
theorem result_att (m : (ℓ : Loc nD τ sig) → Buf (Elt Ideal) ℓ) (c : Dev nD) :
    res_main_v21 m c = KI.attArr (m ((c.tc : Thread nD τ).loc main_arg0)) (m ((c.tc : Thread nD τ).loc main_arg1)) (m ((c.tc : Thread nD τ).loc main_arg2)) := by
  rw [result_eq]
  funext j
  obtain ⟨s, p, n, rfl⟩ : ∃ (s : Fin 2) (p : Fin 8192) (n : Fin 512), j = ix3 s p n := ⟨j 0, j 1, j 2, (ix3_eta j).symm⟩
  have hp : key ⟨p.val / 256, by omega⟩ ⟨p.val % 256, by omega⟩ = p := Fin.ext (by show 256 * (p.val / 256) + p.val % 256 = p.val; omega)
  rw [mix_at]
  refine (row_eq ⟨p.val / 256, by omega⟩ ⟨p.val % 256, by omega⟩ _ _
    (fun p' => zs (m ((c.tc : Thread nD τ).loc main_arg0)) (m ((c.tc : Thread nD τ).loc main_arg1)) (ix4 s ⟨n.val / 128, by omega⟩ p p')) _
    (fun p' => fails (zs (m ((c.tc : Thread nD τ).loc main_arg0)) (m ((c.tc : Thread nD τ).loc main_arg1))) (ix4 s ⟨n.val / 128, by omega⟩ p p'))
    (fun p' => sums (fails (zs (m ((c.tc : Thread nD τ).loc main_arg0)) (m ((c.tc : Thread nD τ).loc main_arg1)))) (ix4 s ⟨n.val / 128, by omega⟩ p p')) _
    (fun b t => zs_at _ _ _ _ _ _) (fun b t => rfl) (fun p' => ?_) (fun p' => sums_at _ _ _ _ _) (fun p' => ?_)).trans ?_
  · rw [hp]; exact fails_at _ _ _ _ _
  · rw [hp]; exact weights_at _ _ _ _ _ _
  · show _ = KI.att _ _ _ s ⟨n.val / 128, by omega⟩ ⟨p.val / 256, by omega⟩ ⟨p.val % 256, by omega⟩ ⟨n.val % 128, by omega⟩
    unfold KI.att KI.score
    rw [hp]

end Cert.Proof.Ref

end
-- ==== Proof.Post.Row.lean ====
/-
  What one token's row becomes after the three branches: the gated sum of the branches, the output projection, the feed-forward
  part, the per-layer embedding and the closing normalization, on plain functions of the row's places.
-/
module

public import Idealize.ShloMosaic.PureOps.Ideal.Laws

@[expose] public section

noncomputable section

namespace Cert.Proof.Post

open Idealize.ShloMosaic

/-- A row times a matrix. -/
def lin {K N : ℕ} (x : Fin K → EReal) (w : Fin K → Fin N → EReal) (n : Fin N) : EReal := ∑ k : Fin K, x k * w k n

/-- A row divided by the root of its mean square, scaled place by place. -/
def rms (x g : Fin 1024 → EReal) (n : Fin 1024) : EReal :=
  x n * Ideal.rsqrt (Ideal.div (∑ k : Fin 1024, x k * x k) (Ideal.ofBits .f32 0x44800000#32) + Ideal.ofBits .f32 0x358637BD#32) * g n

/-- The three branches, each projected and weighted by its gate. -/
def merge (g : Fin 3072 → EReal) (a b c : Fin 512 → EReal) (wa wb wc : Fin 512 → Fin 1024 → EReal) (n : Fin 1024) : EReal :=
  Ideal.logistic (g ⟨n.val, by omega⟩) * lin a wa n + Ideal.logistic (g ⟨1024 + n.val, by omega⟩) * lin b wb n
    + Ideal.logistic (g ⟨2048 + n.val, by omega⟩) * lin c wc n

/-- The row after a projected addition. -/
def plus {K : ℕ} (h : Fin 1024 → EReal) (x : Fin K → EReal) (w : Fin K → Fin 1024 → EReal) (n : Fin 1024) : EReal := h n + lin x w n

/-- The gated hidden row of the feed-forward part. -/
def hidden {N : ℕ} (x : Fin 1024 → EReal) (w1 w3 : Fin 1024 → Fin N → EReal) (u : Fin N) : EReal :=
  lin x w1 u * Ideal.logistic (lin x w1 u) * lin x w3 u

/-- The row after the per-layer embedding, gated by the row itself. -/
def embed (h x : Fin 1024 → EReal) (wg : Fin 1024 → Fin 1024 → EReal) (p : Fin 256 → EReal) (wp : Fin 256 → Fin 1024 → EReal)
    (n : Fin 1024) : EReal := h n + Ideal.logistic (lin x wg n) * lin p wp n

/-- The row after the branches' addition. -/
def row1 (h : Fin 1024 → EReal) (g : Fin 3072 → EReal) (a b c : Fin 512 → EReal) (wa wb wc : Fin 512 → Fin 1024 → EReal)
    (wo : Fin 1024 → Fin 1024 → EReal) : Fin 1024 → EReal := plus h (merge g a b c wa wb wc) wo

/-- The row after the feed-forward part. -/
def row2 (h1 nf : Fin 1024 → EReal) (w1 w3 : Fin 1024 → Fin 2816 → EReal) (w2 : Fin 2816 → Fin 1024 → EReal) : Fin 1024 → EReal :=
  plus h1 (hidden (rms h1 nf) w1 w3) w2

/-- The row after the per-layer embedding and the closing normalization. -/
def row3 (h2 np : Fin 1024 → EReal) (wg : Fin 1024 → Fin 1024 → EReal) (p : Fin 256 → EReal) (wp : Fin 256 → Fin 1024 → EReal)
    (nl : Fin 1024 → EReal) : Fin 1024 → EReal := rms (embed h2 (rms h2 np) wg p wp) nl

/-- The feed-forward part in two pieces of the hidden row. -/
theorem row2_split (h1 nf : Fin 1024 → EReal) (w1 w3 : Fin 1024 → Fin 2816 → EReal) (w2 : Fin 2816 → Fin 1024 → EReal) (n : Fin 1024) :
    row2 h1 nf w1 w3 w2 n = h1 n
      + (lin (hidden (N := 1536) (rms h1 nf) (fun k u => w1 k ⟨u.val, by omega⟩) (fun k u => w3 k ⟨u.val, by omega⟩)) (fun u n => w2 ⟨u.val, by omega⟩ n) n
        + lin (hidden (N := 1280) (rms h1 nf) (fun k u => w1 k ⟨1536 + u.val, by omega⟩) (fun k u => w3 k ⟨1536 + u.val, by omega⟩))
            (fun u n => w2 ⟨1536 + u.val, by omega⟩ n) n) :=
  congrArg (h1 n + ·) (Fin.sum_univ_add (a := 1536) (b := 1280) fun u => hidden (rms h1 nf) w1 w3 u * w2 u n)

theorem lin_congr {K N : ℕ} {x x' : Fin K → EReal} {w w' : Fin K → Fin N → EReal} (hx : ∀ k, x k = x' k) (hw : ∀ k n, w k n = w' k n)
    (n : Fin N) : lin x w n = lin x' w' n := Finset.sum_congr rfl fun k _ => congrArg₂ (· * ·) (hx k) (hw k n)

theorem hidden_congr {N : ℕ} (x : Fin 1024 → EReal) {w1 w1' w3 w3' : Fin 1024 → Fin N → EReal} (h1 : ∀ k u, w1 k u = w1' k u)
    (h3 : ∀ k u, w3 k u = w3' k u) (u : Fin N) : hidden x w1 w3 u = hidden x w1' w3' u := by
  unfold hidden
  rw [lin_congr (fun _ => rfl) h1, lin_congr (fun _ => rfl) h3]

end Cert.Proof.Post

end
-- ==== Proof.Post.Body.lean ====
/-
  The kernel's arithmetic on one block of tokens, row by row.
-/
module

public import proofs.«01_k».proof.Proof.Post.Row
public import proofs.«01_k».proof.Proof.Gen.Kernel2Ideal.Skeleton
public import Idealize.ShloMosaic.Lib.Pointwise

@[expose] public section

set_option maxRecDepth 16384

noncomputable section

namespace Cert.Proof.Post

open Cert.Kernel2Ideal Cert.Kernel2Ideal.Gen
open Idealize.ShloMosaic

variable (h : Vec Ideal S256x1024 .f32)

theorem pay2_at (g : Vec Ideal S256x3072 .f32) (a : Vec Ideal S256x512 .bf16) (wa : Vec Ideal S1x512x1024 .bf16)
    (b : Vec Ideal S256x512 .bf16) (wb : Vec Ideal S1x512x1024 .bf16) (c : Vec Ideal S256x512 .bf16) (wc : Vec Ideal S1x512x1024 .bf16)
    (wo : Vec Ideal S1x1024x1024 .bf16) (r : Fin 256) (n : Fin 1024) :
    k0_pay2 h g a wa b wb c wc wo (ix2 r n) = row1 (fun n => h (ix2 r n)) (fun n => g (ix2 r n)) (fun n => a (ix2 r n)) (fun n => b (ix2 r n))
      (fun n => c (ix2 r n)) (fun k n => wa (ix3 0 k n)) (fun k n => wb (ix3 0 k n)) (fun k n => wc (ix3 0 k n)) (fun k n => wo (ix3 0 k n)) n := by
  pointwise [k0_pay2]
  rfl

theorem pay3_at (g : Vec Ideal S1x1024 .f32) (r : Fin 256) (n : Fin 1024) :
    k0_pay3 h g (ix2 r n) = rms (fun n => h (ix2 r n)) (fun n => g (ix2 0 n)) n := by
  pointwise [k0_pay3]
  rfl

theorem pay4_at (g : Vec Ideal S1x1024 .f32) (w1 w3 : Vec Ideal S1x1024x1536 .bf16) (w2 : Vec Ideal S1x1536x1024 .bf16) (r : Fin 256) (n : Fin 1024) :
    k0_pay4 h g w1 w3 w2 (ix2 r n) = lin (hidden (rms (fun n => h (ix2 r n)) (fun n => g (ix2 0 n))) (fun k u => w1 (ix3 0 k u)) (fun k u => w3 (ix3 0 k u)))
      (fun u n => w2 (ix3 0 u n)) n := by
  pointwise [k0_pay4]
  simp only [pay3_at]
  rfl

theorem pay5_at (g : Vec Ideal S1x1024 .f32) (w1 : Vec Ideal S1x1024x1280 .bf16) (r : Fin 256) (u : Fin 1280) :
    k0_pay5 h g w1 (ix2 r u) = lin (rms (fun n => h (ix2 r n)) (fun n => g (ix2 0 n))) (fun k u => w1 (ix3 0 k u)) u := by
  pointwise [k0_pay5]
  simp only [pay3_at]
  rfl
theorem pay6_at (g : Vec Ideal S1x1024 .f32) (w1 : Vec Ideal S1x1024x1280 .bf16) (r : Fin 256) (u : Fin 1280) :
    k0_pay6 h g w1 (ix2 r u) = lin (rms (fun n => h (ix2 r n)) (fun n => g (ix2 0 n))) (fun k u => w1 (ix3 0 k u)) u := by
  pointwise [k0_pay6]
  simp only [pay3_at]
  rfl
theorem pay7_at (g : Vec Ideal S1x1024 .f32) (w1 : Vec Ideal S1x1024x1280 .bf16) (r : Fin 256) (u : Fin 1280) :
    k0_pay7 h g w1 (ix2 r u) = Ideal.logistic (lin (rms (fun n => h (ix2 r n)) (fun n => g (ix2 0 n))) (fun k u => w1 (ix3 0 k u)) u) := by
  rw [← pay5_at]
  rfl

/-- The last addition to the row and what comes before it, from the feed-forward part's two pieces. -/
theorem pay8_at (f : FVec Ideal S256x1024 .f32) (a1 a3 s1 : FVec Ideal S256x1280 .f32) (w2 : Vec Ideal S1x1280x1024 .bf16) (np : Vec Ideal S1x1024 .f32)
    (wg : Vec Ideal S1x1024x1024 .bf16) (p : Vec Ideal S1x256x256 .f32) (wp : Vec Ideal S1x256x1024 .bf16)
    (r : Fin 256) (h2 : Fin 1024 → EReal)
    (e : ∀ n, h2 n = h (ix2 r n) + (f (ix2 r n) + lin (fun u => a1 (ix2 r u) * s1 (ix2 r u) * a3 (ix2 r u)) (fun u n => w2 (ix3 0 u n)) n)) (n : Fin 1024) :
    k0_pay8 h f a1 a3 s1 w2 np wg p wp (ix2 r n)
      = embed h2 (rms h2 (fun n => np (ix2 0 n))) (fun k n => wg (ix3 0 k n)) (fun n => p (ix3 0 r n)) (fun k n => wp (ix3 0 k n)) n := by
  obtain rfl : h2 = _ := funext e
  pointwise [k0_pay8]
  rfl

theorem pay1_at (g : Vec Ideal S1x1024 .f32) (r : Fin 256) (n : Fin 1024) :
    k0_pay1 h (k0_pay9 g) (mulf h h) (ix2 r n) = rms (fun n => h (ix2 r n)) (fun n => g (ix2 0 n)) n := by
  pointwise [k0_pay1, k0_pay9]
  rfl

end Cert.Proof.Post

end
-- ==== Proof.Post.Array.lean ====
/-
  From the block of tokens at a grid point to the whole result array: every row is the row function of the arguments' rows.
-/
module

public import proofs.«01_k».proof.Proof.Post.Body
public import proofs.«01_k».proof.Proof.Gen.Kernel2Ideal.Value
public import Idealize.ShloMosaic.Lib.Pipeline.ValueKit

@[expose] public section

set_option maxRecDepth 16384

noncomputable section

namespace Cert.Proof.Post

open Cert.Kernel2Ideal Cert.Kernel2Ideal.Gen
open Idealize.ShloMosaic Idealize.ShloMosaic.TcCoe Idealize.ShloMosaic.Pipeline
open Idealize.SL.Sem

section Block

variable (x0 : Vec Ideal S256x1024 .f32) (x1 : Vec Ideal S256x3072 .f32) (x2 x3 x4 : Vec Ideal S256x512 .bf16) (x5 : Vec Ideal S1x256x256 .f32)
  (x6 x7 x8 : Vec Ideal S1x512x1024 .bf16) (x9 : Vec Ideal S1x1024x1024 .bf16) (x10 : Vec Ideal S1x1024 .f32) (x11 x12 : Vec Ideal S1x1024x2816 .bf16)
  (x13 : Vec Ideal S1x2816x1024 .bf16) (x14 : Vec Ideal S1x1024 .f32) (x15 : Vec Ideal S1x1024x1024 .bf16) (x16 : Vec Ideal S1x256x1024 .bf16)
  (x17 : Vec Ideal S1x1024 .f32)

/-- The rows after the branches. -/
theorem pay11_at (r : Fin 256) (n : Fin 1024) : k0_pay11 x0 x1 x2 x3 x4 x5 x6 x7 x8 x9 x10 x11 x12 x13 x14 x15 x16 x17 (ix2 r n)
    = row1 (fun n => x0 (ix2 r n)) (fun n => x1 (ix2 r n)) (fun n => x2 (ix2 r n)) (fun n => x3 (ix2 r n)) (fun n => x4 (ix2 r n))
      (fun k n => x6 (ix3 0 k n)) (fun k n => x7 (ix3 0 k n)) (fun k n => x8 (ix3 0 k n)) (fun k n => x9 (ix3 0 k n)) n := by
  unfold k0_pay11
  rw [View.ld_unit_lit _ x0 (by decide), View.ld_unit_lit _ x1 (by decide), View.ld_unit_lit _ x2 (by decide), View.ld_unit_lit _ x3 (by decide),
    View.ld_unit_lit _ x4 (by decide), View.ld_unit_lit _ x6 (by decide), View.ld_unit_lit _ x7 (by decide), View.ld_unit_lit _ x8 (by decide),
    View.ld_unit_lit _ x9 (by decide)]
  exact pay2_at _ _ _ _ _ _ _ _ _ r n

theorem col1 (k : Fin 1024) (u : Fin 1536) : (View.ld x11 r0_6 : Vec Ideal S1x1024x1536 .bf16) (ix3 (0 : Fin 1) k u) = x11 (ix3 0 k ⟨u.val, by omega⟩) := by
  refine congrArg x11 (funext fun a => Fin.ext ?_)
  match a with
  | ⟨0, _⟩ => rfl
  | ⟨1, _⟩ => show 0 + 1 * k.val = k.val; omega
  | ⟨2, _⟩ => show 0 + 1 * u.val = u.val; omega
theorem col2 (k : Fin 1024) (u : Fin 1280) : (View.ld x11 r0_8 : Vec Ideal S1x1024x1280 .bf16) (ix3 (0 : Fin 1) k u) = x11 (ix3 0 k ⟨1536 + u.val, by omega⟩) := by
  refine congrArg x11 (funext fun a => Fin.ext ?_)
  match a with
  | ⟨0, _⟩ => rfl
  | ⟨1, _⟩ => show 0 + 1 * k.val = k.val; omega
  | ⟨2, _⟩ => show 1536 + 1 * u.val = 1536 + u.val; omega
theorem line1 (u : Fin 1536) (n : Fin 1024) : (View.ld x13 r0_7 : Vec Ideal S1x1536x1024 .bf16) (ix3 (0 : Fin 1) u n) = x13 (ix3 0 ⟨u.val, by omega⟩ n) := by
  refine congrArg x13 (funext fun a => Fin.ext ?_)
  match a with
  | ⟨0, _⟩ => rfl
  | ⟨1, _⟩ => show 0 + 1 * u.val = u.val; omega
  | ⟨2, _⟩ => show 0 + 1 * n.val = n.val; omega
theorem line2 (u : Fin 1280) (n : Fin 1024) : (View.ld x13 r0_9 : Vec Ideal S1x1280x1024 .bf16) (ix3 (0 : Fin 1) u n) = x13 (ix3 0 ⟨1536 + u.val, by omega⟩ n) := by
  refine congrArg x13 (funext fun a => Fin.ext ?_)
  match a with
  | ⟨0, _⟩ => rfl
  | ⟨1, _⟩ => show 1536 + 1 * u.val = 1536 + u.val; omega
  | ⟨2, _⟩ => show 0 + 1 * n.val = n.val; omega

/-- The block the body leaves, at a row and a place. -/
theorem out_at (r : Fin 256) (n : Fin 1024) : out0_18 x0 x1 x2 x3 x4 x5 x6 x7 x8 x9 x10 x11 x12 x13 x14 x15 x16 x17 (ix2 r n)
    = row3 (row2 (row1 (fun n => x0 (ix2 r n)) (fun n => x1 (ix2 r n)) (fun n => x2 (ix2 r n)) (fun n => x3 (ix2 r n)) (fun n => x4 (ix2 r n))
        (fun k n => x6 (ix3 0 k n)) (fun k n => x7 (ix3 0 k n)) (fun k n => x8 (ix3 0 k n)) (fun k n => x9 (ix3 0 k n)))
        (fun n => x10 (ix2 0 n)) (fun k u => x11 (ix3 0 k u)) (fun k u => x12 (ix3 0 k u)) (fun u n => x13 (ix3 0 u n)))
        (fun n => x14 (ix2 0 n)) (fun k n => x15 (ix3 0 k n)) (fun n => x5 (ix3 0 r n)) (fun k n => x16 (ix3 0 k n)) (fun n => x17 (ix2 0 n)) n := by
  unfold out0_18
  rw [View.canon_cons_unit_lit _ _ _ (by decide)]
  unfold k0_pay10
  rw [pay1_at, View.ld_unit_lit _ x14 (by decide), View.ld_unit_lit _ x15 (by decide), View.ld_unit_lit _ x5 (by decide),
    View.ld_unit_lit _ x16 (by decide), View.ld_unit_lit _ x17 (by decide)]
  refine congrArg (fun y => rms y _ n) (funext fun n => pay8_at _ _ _ _ _ _ _ _ _ _ r _ (fun n => ?_) n)
  unfold k0_pay12 k0_pay13 k0_pay14 k0_pay15
  rw [row2_split, pay4_at, View.ld_unit_lit _ x10 (by decide)]
  simp only [pay5_at, pay6_at, pay7_at, pay11_at]
  exact congrArg (_ + ·) (congrArg₂ (· + ·)
    (lin_congr (fun u => hidden_congr _ (fun k u => (col1 x11 k u).symm) (fun k u => (col1 x12 k u).symm) u) (fun u n => (line1 x13 u n).symm) n)
    (lin_congr (fun u => hidden_congr _ (fun k u => (col2 x11 k u).symm) (fun k u => (col2 x12 k u).symm) u) (fun u n => (line2 x13 u n).symm) n))

end Block

variable (m : (ℓ : Loc nD τ sig) → Buf (Elt Ideal) ℓ)

/-! The samples' positions one after the other. -/

theorem flat512 (y : S2x8192x512.Idx → EReal) (q : Fin 16384) (n : Fin 512) :
    shapeCast S16384x512 y shapeCasts_S2x8192x512_S16384x512 (ix2 q n) = y (ix3 ⟨q.val / 8192, by omega⟩ ⟨q.val % 8192, by omega⟩ n) :=
  shapeCast_apply y _ (ix2 q n) _ (by
    rewrite [Shape.rowMajor_val_three, Shape.rowMajor_val_two]
    show (q.val / 8192 * 8192 + q.val % 8192) * 512 + n.val = q.val * 512 + n.val
    omega)
theorem flat1024 (y : S2x8192x1024.Idx → EReal) (q : Fin 16384) (n : Fin 1024) :
    shapeCast S16384x1024 y shapeCasts_S2x8192x1024_S16384x1024 (ix2 q n) = y (ix3 ⟨q.val / 8192, by omega⟩ ⟨q.val % 8192, by omega⟩ n) :=
  shapeCast_apply y _ (ix2 q n) _ (by
    rewrite [Shape.rowMajor_val_three, Shape.rowMajor_val_two]
    show (q.val / 8192 * 8192 + q.val % 8192) * 1024 + n.val = q.val * 1024 + n.val
    omega)
theorem flat3072 (y : S2x8192x3072.Idx → EReal) (q : Fin 16384) (n : Fin 3072) :
    shapeCast S16384x3072 y shapeCasts_S2x8192x3072_S16384x3072 (ix2 q n) = y (ix3 ⟨q.val / 8192, by omega⟩ ⟨q.val % 8192, by omega⟩ n) :=
  shapeCast_apply y _ (ix2 q n) _ (by
    rewrite [Shape.rowMajor_val_three, Shape.rowMajor_val_two]
    show (q.val / 8192 * 8192 + q.val % 8192) * 3072 + n.val = q.val * 3072 + n.val
    omega)
theorem flat4 (y : S2x2x8192x256.Idx → EReal) (l : Fin 2) (q : Fin 16384) (n : Fin 256) :
    shapeCast S2x16384x256 y shapeCasts_S2x2x8192x256_S2x16384x256 (ix3 l q n) = y (ix4 l ⟨q.val / 8192, by omega⟩ ⟨q.val % 8192, by omega⟩ n) :=
  shapeCast_apply y _ (ix3 l q n) _ (by
    rewrite [Shape.rowMajor_val_four, Shape.rowMajor_val_three]
    show ((l.val * 2 + q.val / 8192) * 8192 + q.val % 8192) * 256 + n.val = (l.val * 16384 + q.val) * 256 + n.val
    omega)

/-! The arrays the blocks are cut from, read off the arguments. -/

theorem V_v14 (c : Dev nD) (q : Fin 16384) (n : Fin 1024) : V m c main_v14 (ix2 q n) = m ((c : Thread nD τ).loc main_arg0) (ix3 ⟨q.val / 8192, by omega⟩ ⟨q.val % 8192, by omega⟩ n) := by
  have e : V m c main_v14 = shapeCast S16384x1024 (m ((c : Thread nD τ).loc main_arg0) : FVec Ideal S2x8192x1024 .f32) shapeCasts_S2x8192x1024_S16384x1024 := by
    simp only [V, hostOps0]; after_results; rfl
  rw [e]
  exact flat1024 _ q n
theorem V_v15 (c : Dev nD) (q : Fin 16384) (n : Fin 3072) : V m c main_v15 (ix2 q n) = m ((c : Thread nD τ).loc main_arg1) (ix3 ⟨q.val / 8192, by omega⟩ ⟨q.val % 8192, by omega⟩ n) := by
  have e : V m c main_v15 = shapeCast S16384x3072 (m ((c : Thread nD τ).loc main_arg1) : FVec Ideal S2x8192x3072 .f32) shapeCasts_S2x8192x3072_S16384x3072 := by
    simp only [V, hostOps0]; after_results; rfl
  rw [e]
  exact flat3072 _ q n
theorem V_v17 (c : Dev nD) (q : Fin 16384) (n : Fin 512) : V m c main_v17 (ix2 q n) = m ((c : Thread nD τ).loc main_arg2) (ix3 ⟨q.val / 8192, by omega⟩ ⟨q.val % 8192, by omega⟩ n) := by
  have e : V m c main_v17 = shapeCast S16384x512 (truncf FTy.bf16 (m ((c : Thread nD τ).loc main_arg2) : FVec Ideal S2x8192x512 .f32) bitsLt_bf16_f32 : FVec Ideal S2x8192x512 .bf16) shapeCasts_S2x8192x512_S16384x512 := by
    simp only [V, hostOps0]; after_results; rfl
  rw [e]
  exact flat512 _ q n
theorem V_v19 (c : Dev nD) (q : Fin 16384) (n : Fin 512) : V m c main_v19 (ix2 q n) = m ((c : Thread nD τ).loc main_arg3) (ix3 ⟨q.val / 8192, by omega⟩ ⟨q.val % 8192, by omega⟩ n) := by
  have e : V m c main_v19 = shapeCast S16384x512 (truncf FTy.bf16 (m ((c : Thread nD τ).loc main_arg3) : FVec Ideal S2x8192x512 .f32) bitsLt_bf16_f32 : FVec Ideal S2x8192x512 .bf16) shapeCasts_S2x8192x512_S16384x512 := by
    simp only [V, hostOps0]; after_results; rfl
  rw [e]
  exact flat512 _ q n
theorem V_v21 (c : Dev nD) (q : Fin 16384) (n : Fin 512) : V m c main_v21 (ix2 q n) = m ((c : Thread nD τ).loc main_arg4) (ix3 ⟨q.val / 8192, by omega⟩ ⟨q.val % 8192, by omega⟩ n) := by
  have e : V m c main_v21 = shapeCast S16384x512 (truncf FTy.bf16 (m ((c : Thread nD τ).loc main_arg4) : FVec Ideal S2x8192x512 .f32) bitsLt_bf16_f32 : FVec Ideal S2x8192x512 .bf16) shapeCasts_S2x8192x512_S16384x512 := by
    simp only [V, hostOps0]; after_results; rfl
  rw [e]
  exact flat512 _ q n
theorem V_v23 (c : Dev nD) (l : Fin 2) (q : Fin 16384) (n : Fin 256) : V m c main_v23 (ix3 l q n) = m ((c : Thread nD τ).loc main_arg5) (ix4 l ⟨q.val / 8192, by omega⟩ ⟨q.val % 8192, by omega⟩ n) := by
  have e : V m c main_v23 = shapeCast S2x16384x256 (m ((c : Thread nD τ).loc main_arg5) : FVec Ideal S2x2x8192x256 .f32) shapeCasts_S2x2x8192x256_S2x16384x256 := by
    simp only [V, hostOps0]; after_results; rfl
  rw [e]
  exact flat4 _ l q n
theorem V_v0 (c : Dev nD) (l : Fin 2) (k : Fin 512) (n : Fin 1024) : V m c main_v0 (ix3 l k n) = m ((c : Thread nD τ).loc main_arg6) (ix3 l k n) := by
  have e : V m c main_v0 = (truncf FTy.bf16 (m ((c : Thread nD τ).loc main_arg6) : FVec Ideal S2x512x1024 .f32) bitsLt_bf16_f32 : FVec Ideal S2x512x1024 .bf16) := by
    simp only [V, hostOps0]; after_results
  rw [e]
  pointwise
theorem V_v1 (c : Dev nD) (l : Fin 2) (k : Fin 512) (n : Fin 1024) : V m c main_v1 (ix3 l k n) = m ((c : Thread nD τ).loc main_arg7) (ix3 l k n) := by
  have e : V m c main_v1 = (truncf FTy.bf16 (m ((c : Thread nD τ).loc main_arg7) : FVec Ideal S2x512x1024 .f32) bitsLt_bf16_f32 : FVec Ideal S2x512x1024 .bf16) := by
    simp only [V, hostOps0]; after_results
  rw [e]
  pointwise
theorem V_v2 (c : Dev nD) (l : Fin 2) (k : Fin 512) (n : Fin 1024) : V m c main_v2 (ix3 l k n) = m ((c : Thread nD τ).loc main_arg8) (ix3 l k n) := by
  have e : V m c main_v2 = (truncf FTy.bf16 (m ((c : Thread nD τ).loc main_arg8) : FVec Ideal S2x512x1024 .f32) bitsLt_bf16_f32 : FVec Ideal S2x512x1024 .bf16) := by
    simp only [V, hostOps0]; after_results
  rw [e]
  pointwise
theorem V_v3 (c : Dev nD) (l : Fin 2) (k : Fin 1024) (n : Fin 1024) : V m c main_v3 (ix3 l k n) = m ((c : Thread nD τ).loc main_arg9) (ix3 l k n) := by
  have e : V m c main_v3 = (truncf FTy.bf16 (m ((c : Thread nD τ).loc main_arg9) : FVec Ideal S2x1024x1024 .f32) bitsLt_bf16_f32 : FVec Ideal S2x1024x1024 .bf16) := by
    simp only [V, hostOps0]; after_results
  rw [e]
  pointwise
theorem V_v4 (c : Dev nD) (l : Fin 2) (k : Fin 1024) (n : Fin 5632) : V m c main_v4 (ix3 l k n) = m ((c : Thread nD τ).loc main_arg11) (ix3 l k n) := by
  have e : V m c main_v4 = (truncf FTy.bf16 (m ((c : Thread nD τ).loc main_arg11) : FVec Ideal S2x1024x5632 .f32) bitsLt_bf16_f32 : FVec Ideal S2x1024x5632 .bf16) := by
    simp only [V, hostOps0]; after_results
  rw [e]
  pointwise
theorem V_v5 (c : Dev nD) (l : Fin 2) (k : Fin 2816) (n : Fin 1024) : V m c main_v5 (ix3 l k n) = m ((c : Thread nD τ).loc main_arg12) (ix3 l k n) := by
  have e : V m c main_v5 = (truncf FTy.bf16 (m ((c : Thread nD τ).loc main_arg12) : FVec Ideal S2x2816x1024 .f32) bitsLt_bf16_f32 : FVec Ideal S2x2816x1024 .bf16) := by
    simp only [V, hostOps0]; after_results
  rw [e]
  pointwise
theorem V_v6 (c : Dev nD) (l : Fin 2) (k : Fin 1024) (n : Fin 1024) : V m c main_v6 (ix3 l k n) = m ((c : Thread nD τ).loc main_arg14) (ix3 l k n) := by
  have e : V m c main_v6 = (truncf FTy.bf16 (m ((c : Thread nD τ).loc main_arg14) : FVec Ideal S2x1024x1024 .f32) bitsLt_bf16_f32 : FVec Ideal S2x1024x1024 .bf16) := by
    simp only [V, hostOps0]; after_results
  rw [e]
  pointwise
theorem V_v7 (c : Dev nD) (l : Fin 2) (k : Fin 256) (n : Fin 1024) : V m c main_v7 (ix3 l k n) = m ((c : Thread nD τ).loc main_arg15) (ix3 l k n) := by
  have e : V m c main_v7 = (truncf FTy.bf16 (m ((c : Thread nD τ).loc main_arg15) : FVec Ideal S2x256x1024 .f32) bitsLt_bf16_f32 : FVec Ideal S2x256x1024 .bf16) := by
    simp only [V, hostOps0]; after_results
  rw [e]
  pointwise
theorem V_v10 (c : Dev nD) (n : Fin 1024) : V m c main_v10 (ix2 0 n) = m ((c : Thread nD τ).loc main_arg10) (ix2 1 n) := by
  have e : V m c main_v10 = shapeCast S1x1024 (shapeCast S1024 (extractStridedSlice S1x1024 ![1, 0] (m ((c : Thread nD τ).loc main_arg10) : FVec Ideal S2x1024 .f32) slices_S2x1024_S1x1024_1_0) shapeCasts_S1x1024_S1024) shapeCasts_S1024_S1x1024 := by
    simp only [V, hostOps0]; after_results; rfl
  rw [e]
  pointwise
theorem V_v13 (c : Dev nD) (n : Fin 1024) : V m c main_v13 (ix2 0 n) = m ((c : Thread nD τ).loc main_arg13) (ix2 1 n) := by
  have e : V m c main_v13 = shapeCast S1x1024 (shapeCast S1024 (extractStridedSlice S1x1024 ![1, 0] (m ((c : Thread nD τ).loc main_arg13) : FVec Ideal S2x1024 .f32) slices_S2x1024_S1x1024_1_0) shapeCasts_S1x1024_S1024) shapeCasts_S1024_S1x1024 := by
    simp only [V, hostOps0]; after_results; rfl
  rw [e]
  pointwise
theorem V_v22 (c : Dev nD) (n : Fin 1024) : V m c main_v22 (ix2 0 n) = m ((c : Thread nD τ).loc main_arg16) (ix1 n) := by
  have e : V m c main_v22 = shapeCast S1x1024 (m ((c : Thread nD τ).loc main_arg16) : FVec Ideal S1024 .f32) shapeCasts_S1024_S1x1024 := by
    simp only [V, hostOps0]; after_results; rfl
  rw [e]
  pointwise

/-! Which block of its array each window holds at each grid point. -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![1, t.val, 0] := by decide +kernel
theorem idx6 : ∀ t : Fin grid0.N, win0_6.index t = ![1, 0, 0] := by decide +kernel
theorem idx7 : ∀ t : Fin grid0.N, win0_7.index t = ![1, 0, 0] := by decide +kernel
theorem idx8 : ∀ t : Fin grid0.N, win0_8.index t = ![1, 0, 0] := by decide +kernel
theorem idx9 : ∀ t : Fin grid0.N, win0_9.index t = ![1, 0, 0] := by decide +kernel
theorem idx10 : ∀ t : Fin grid0.N, win0_10.index t = ![0, 0] := by decide +kernel
theorem idx11 : ∀ t : Fin grid0.N, win0_11.index t = ![1, 0, 0] := by decide +kernel
theorem idx12 : ∀ t : Fin grid0.N, win0_12.index t = ![1, 0, 1] := by decide +kernel
theorem idx13 : ∀ t : Fin grid0.N, win0_13.index t = ![1, 0, 0] := by decide +kernel
theorem idx14 : ∀ t : Fin grid0.N, win0_14.index t = ![0, 0] := by decide +kernel
theorem idx15 : ∀ t : Fin grid0.N, win0_15.index t = ![1, 0, 0] := by decide +kernel
theorem idx16 : ∀ t : Fin grid0.N, win0_16.index t = ![1, 0, 0] := by decide +kernel
theorem idx17 : ∀ t : Fin grid0.N, win0_17.index t = ![0, 0] := by decide +kernel
theorem idx18 : ∀ t : Fin grid0.N, win0_18.index t = ![t.val, 0] := by decide +kernel

/-- A grid point's row in the whole array. -/
def at_ (t : Fin cfg0.N) (r : Fin 256) : Fin 16384 := ⟨t.val * 256 + r.val, by have : t.val < 64 := lt_of_lt_of_eq t.isLt (by decide); omega⟩

theorem iblk0 (c : Dev nD) (t : Fin cfg0.N) (r : Fin 256) (n : Fin 1024) :
    iblk m c 0 t (ix2 r n) = V m c main_v14 (ix2 (at_ t r) n) := by
  unfold iblk at_
  blk_ext [idx0 t]
theorem iblk1 (c : Dev nD) (t : Fin cfg0.N) (r : Fin 256) (n : Fin 3072) :
    iblk m c 1 t (ix2 r n) = V m c main_v15 (ix2 (at_ t r) n) := by
  unfold iblk at_
  blk_ext [idx1 t]
theorem iblk2 (c : Dev nD) (t : Fin cfg0.N) (r : Fin 256) (n : Fin 512) :
    iblk m c 2 t (ix2 r n) = V m c main_v17 (ix2 (at_ t r) n) := by
  unfold iblk at_
  blk_ext [idx2 t]
theorem iblk3 (c : Dev nD) (t : Fin cfg0.N) (r : Fin 256) (n : Fin 512) :
    iblk m c 3 t (ix2 r n) = V m c main_v19 (ix2 (at_ t r) n) := by
  unfold iblk at_
  blk_ext [idx3 t]
theorem iblk4 (c : Dev nD) (t : Fin cfg0.N) (r : Fin 256) (n : Fin 512) :
    iblk m c 4 t (ix2 r n) = V m c main_v21 (ix2 (at_ t r) n) := by
  unfold iblk at_
  blk_ext [idx4 t]
theorem iblk5 (c : Dev nD) (t : Fin cfg0.N) (r : Fin 256) (n : Fin 256) :
    iblk m c 5 t (ix3 0 r n) = V m c main_v23 (ix3 1 (at_ t r) n) := by
  unfold iblk at_
  blk_ext [idx5 t]
theorem iblk6 (c : Dev nD) (t : Fin cfg0.N) (k : Fin 512) (n : Fin 1024) :
    iblk m c 6 t (ix3 0 k n) = V m c main_v0 (ix3 1 k n) := by
  unfold iblk
  blk_ext [idx6 t]
theorem iblk7 (c : Dev nD) (t : Fin cfg0.N) (k : Fin 512) (n : Fin 1024) :
    iblk m c 7 t (ix3 0 k n) = V m c main_v1 (ix3 1 k n) := by
  unfold iblk
  blk_ext [idx7 t]
theorem iblk8 (c : Dev nD) (t : Fin cfg0.N) (k : Fin 512) (n : Fin 1024) :
    iblk m c 8 t (ix3 0 k n) = V m c main_v2 (ix3 1 k n) := by
  unfold iblk
  blk_ext [idx8 t]
theorem iblk9 (c : Dev nD) (t : Fin cfg0.N) (k : Fin 1024) (n : Fin 1024) :
    iblk m c 9 t (ix3 0 k n) = V m c main_v3 (ix3 1 k n) := by
  unfold iblk
  blk_ext [idx9 t]
theorem iblk11 (c : Dev nD) (t : Fin cfg0.N) (k : Fin 1024) (n : Fin 2816) :
    iblk m c 11 t (ix3 0 k n) = V m c main_v4 (ix3 1 k ⟨n.val, by omega⟩) := by
  unfold iblk
  blk_ext [idx11 t]
theorem iblk12 (c : Dev nD) (t : Fin cfg0.N) (k : Fin 1024) (n : Fin 2816) :
    iblk m c 12 t (ix3 0 k n) = V m c main_v4 (ix3 1 k ⟨2816 + n.val, by omega⟩) := by
  unfold iblk
  blk_ext [idx12 t]
theorem iblk13 (c : Dev nD) (t : Fin cfg0.N) (k : Fin 2816) (n : Fin 1024) :
    iblk m c 13 t (ix3 0 k n) = V m c main_v5 (ix3 1 k n) := by
  unfold iblk
  blk_ext [idx13 t]
theorem iblk15 (c : Dev nD) (t : Fin cfg0.N) (k : Fin 1024) (n : Fin 1024) :
    iblk m c 15 t (ix3 0 k n) = V m c main_v6 (ix3 1 k n) := by
  unfold iblk
  blk_ext [idx15 t]
theorem iblk16 (c : Dev nD) (t : Fin cfg0.N) (k : Fin 256) (n : Fin 1024) :
    iblk m c 16 t (ix3 0 k n) = V m c main_v7 (ix3 1 k n) := by
  unfold iblk
  blk_ext [idx16 t]
theorem iblk10 (c : Dev nD) (t : Fin cfg0.N) (n : Fin 1024) :
    iblk m c 10 t (ix2 0 n) = V m c main_v10 (ix2 0 n) := by
  unfold iblk
  blk_ext [idx10 t]
theorem iblk14 (c : Dev nD) (t : Fin cfg0.N) (n : Fin 1024) :
    iblk m c 14 t (ix2 0 n) = V m c main_v13 (ix2 0 n) := by
  unfold iblk
  blk_ext [idx14 t]
theorem iblk17 (c : Dev nD) (t : Fin cfg0.N) (n : Fin 1024) :
    iblk m c 17 t (ix2 0 n) = V m c main_v22 (ix2 0 n) := by
  unfold iblk
  blk_ext [idx17 t]

/-- One token's result, from the whole arguments: sample `s`, position `p`. -/
def token (x0 : S2x8192x1024.Idx → EReal) (x1 : S2x8192x3072.Idx → EReal) (x2 x3 x4 : S2x8192x512.Idx → EReal)
    (x5 : S2x2x8192x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal)
    (s : Fin 2) (p : Fin 8192) : Fin 1024 → EReal :=
  row3 (row2 (row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n)))
      (fun n => x10 (ix2 1 n)) (fun k u => x11 (ix3 1 k ⟨u.val, by omega⟩)) (fun k u => x11 (ix3 1 k ⟨2816 + u.val, by omega⟩)) (fun u n => x12 (ix3 1 u n)))
      (fun n => x13 (ix2 1 n)) (fun k n => x14 (ix3 1 k n)) (fun n => x5 (ix4 1 s p n)) (fun k n => x15 (ix3 1 k n)) (fun n => x16 (ix1 n))

/-- The result array: row `q` is position `q % 8192` of sample `q / 8192`. -/
def postArr (x0 : S2x8192x1024.Idx → EReal) (x1 : S2x8192x3072.Idx → EReal) (x2 x3 x4 : S2x8192x512.Idx → EReal)
    (x5 : S2x2x8192x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal) :
    S16384x1024.Idx → EReal := fun j =>
  token x0 x1 x2 x3 x4 x5 x6 x7 x8 x9 x10 x11 x12 x13 x14 x15 x16 ⟨(j 0).val / 8192, by have : (j 0).val < 16384 := (j 0).isLt; omega⟩ ⟨(j 0).val % 8192, by omega⟩ ⟨(j 1).val, (j 1).isLt⟩

/-- The result array of a device, from the arguments as they stand in its memory. -/
def result (c : Dev nD) : S16384x1024.Idx → EReal :=
  postArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

end Cert.Proof.Post

end
-- ==== Proof.Post.Final.lean ====
/-
  The whole result array, from its blocks.
-/
module

public import proofs.«01_k».proof.Proof.Post.Array

@[expose] public section

set_option maxRecDepth 16384

noncomputable section

namespace Cert.Proof.Post

open Cert.Kernel2Ideal Cert.Kernel2Ideal.Gen
open Idealize.ShloMosaic Idealize.ShloMosaic.TcCoe Idealize.ShloMosaic.Pipeline
open Idealize.SL.Sem

/-- Equal rows and matrices give equal results. -/
theorem row3_congr {h h' : Fin 1024 → EReal} {g g' : Fin 3072 → EReal} {a a' : Fin 512 → EReal} {b b' : Fin 512 → EReal} {c c' : Fin 512 → EReal} {wa wa' : Fin 512 → Fin 1024 → EReal} {wb wb' : Fin 512 → Fin 1024 → EReal} {wc wc' : Fin 512 → Fin 1024 → EReal} {wo wo' : Fin 1024 → Fin 1024 → EReal} {nf nf' : Fin 1024 → EReal} {w1 w1' : Fin 1024 → Fin 2816 → EReal} {w3 w3' : Fin 1024 → Fin 2816 → EReal} {w2 w2' : Fin 2816 → Fin 1024 → EReal} {np np' : Fin 1024 → EReal} {wg wg' : Fin 1024 → Fin 1024 → EReal} {p p' : Fin 256 → EReal} {wp wp' : Fin 256 → Fin 1024 → EReal} {nl nl' : Fin 1024 → EReal}
    (e0 : h = h') (e1 : g = g') (e2 : a = a') (e3 : b = b') (e4 : c = c') (e6 : wa = wa') (e7 : wb = wb') (e8 : wc = wc') (e9 : wo = wo') (e10 : nf = nf') (e11 : w1 = w1') (e12 : w3 = w3') (e13 : w2 = w2') (e14 : np = np') (e15 : wg = wg') (e5 : p = p') (e16 : wp = wp') (e17 : nl = nl') :
    row3 (row2 (row1 h g a b c wa wb wc wo) nf w1 w3 w2) np wg p wp nl
      = row3 (row2 (row1 h' g' a' b' c' wa' wb' wc' wo') nf' w1' w3' w2') np' wg' p' wp' nl' := by
  subst e0
  subst e1
  subst e2
  subst e3
  subst e4
  subst e6
  subst e7
  subst e8
  subst e9
  subst e10
  subst e11
  subst e12
  subst e13
  subst e14
  subst e15
  subst e5
  subst e16
  subst e17
  rfl

variable (m : (ℓ : Loc nD τ sig) → Buf (Elt Ideal) ℓ)

/-- The block of results at a grid point. -/
theorem block_at (c : Dev nD) (t : Fin cfg0.N) (r : Fin 256) (n : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r n) = result m c (ix2 (at_ t r) n) := by
  have e0 : (fun n => iblk m c 0 t (ix2 r n)) = fun n => m ((c : Thread nD τ).loc main_arg0) (ix3 ⟨(at_ t r).val / 8192, by omega⟩ ⟨(at_ t r).val % 8192, by omega⟩ n) :=
    funext fun n => (iblk0 m c t r n).trans (V_v14 m c _ n)
  have e1 : (fun n => iblk m c 1 t (ix2 r n)) = fun n => m ((c : Thread nD τ).loc main_arg1) (ix3 ⟨(at_ t r).val / 8192, by omega⟩ ⟨(at_ t r).val % 8192, by omega⟩ n) :=
    funext fun n => (iblk1 m c t r n).trans (V_v15 m c _ n)
  have e2 : (fun n => iblk m c 2 t (ix2 r n)) = fun n => m ((c : Thread nD τ).loc main_arg2) (ix3 ⟨(at_ t r).val / 8192, by omega⟩ ⟨(at_ t r).val % 8192, by omega⟩ n) :=
    funext fun n => (iblk2 m c t r n).trans (V_v17 m c _ n)
  have e3 : (fun n => iblk m c 3 t (ix2 r n)) = fun n => m ((c : Thread nD τ).loc main_arg3) (ix3 ⟨(at_ t r).val / 8192, by omega⟩ ⟨(at_ t r).val % 8192, by omega⟩ n) :=
    funext fun n => (iblk3 m c t r n).trans (V_v19 m c _ n)
  have e4 : (fun n => iblk m c 4 t (ix2 r n)) = fun n => m ((c : Thread nD τ).loc main_arg4) (ix3 ⟨(at_ t r).val / 8192, by omega⟩ ⟨(at_ t r).val % 8192, by omega⟩ n) :=
    funext fun n => (iblk4 m c t r n).trans (V_v21 m c _ n)
  have e6 : (fun (k : Fin 512) (n : Fin 1024) => iblk m c 6 t (ix3 0 k n)) = fun k n => m ((c : Thread nD τ).loc main_arg6) (ix3 1 k n) :=
    funext fun k => funext fun n => (iblk6 m c t k n).trans (V_v0 m c 1 k _)
  have e7 : (fun (k : Fin 512) (n : Fin 1024) => iblk m c 7 t (ix3 0 k n)) = fun k n => m ((c : Thread nD τ).loc main_arg7) (ix3 1 k n) :=
    funext fun k => funext fun n => (iblk7 m c t k n).trans (V_v1 m c 1 k _)
  have e8 : (fun (k : Fin 512) (n : Fin 1024) => iblk m c 8 t (ix3 0 k n)) = fun k n => m ((c : Thread nD τ).loc main_arg8) (ix3 1 k n) :=
    funext fun k => funext fun n => (iblk8 m c t k n).trans (V_v2 m c 1 k _)
  have e9 : (fun (k : Fin 1024) (n : Fin 1024) => iblk m c 9 t (ix3 0 k n)) = fun k n => m ((c : Thread nD τ).loc main_arg9) (ix3 1 k n) :=
    funext fun k => funext fun n => (iblk9 m c t k n).trans (V_v3 m c 1 k _)
  have e10 : (fun n => iblk m c 10 t (ix2 0 n)) = fun n => m ((c : Thread nD τ).loc main_arg10) (ix2 1 n) :=
    funext fun n => (iblk10 m c t n).trans (V_v10 m c n)
  have e11 : (fun (k : Fin 1024) (n : Fin 2816) => iblk m c 11 t (ix3 0 k n)) = fun k n => m ((c : Thread nD τ).loc main_arg11) (ix3 1 k ⟨n.val, by omega⟩) :=
    funext fun k => funext fun n => (iblk11 m c t k n).trans (V_v4 m c 1 k _)
  have e12 : (fun (k : Fin 1024) (n : Fin 2816) => iblk m c 12 t (ix3 0 k n)) = fun k n => m ((c : Thread nD τ).loc main_arg11) (ix3 1 k ⟨2816 + n.val, by omega⟩) :=
    funext fun k => funext fun n => (iblk12 m c t k n).trans (V_v4 m c 1 k _)
  have e13 : (fun (k : Fin 2816) (n : Fin 1024) => iblk m c 13 t (ix3 0 k n)) = fun k n => m ((c : Thread nD τ).loc main_arg12) (ix3 1 k n) :=
    funext fun k => funext fun n => (iblk13 m c t k n).trans (V_v5 m c 1 k _)
  have e14 : (fun n => iblk m c 14 t (ix2 0 n)) = fun n => m ((c : Thread nD τ).loc main_arg13) (ix2 1 n) :=
    funext fun n => (iblk14 m c t n).trans (V_v13 m c n)
  have e15 : (fun (k : Fin 1024) (n : Fin 1024) => iblk m c 15 t (ix3 0 k n)) = fun k n => m ((c : Thread nD τ).loc main_arg14) (ix3 1 k n) :=
    funext fun k => funext fun n => (iblk15 m c t k n).trans (V_v6 m c 1 k _)
  have e5 : (fun n => iblk m c 5 t (ix3 0 r n)) = fun n => m ((c : Thread nD τ).loc main_arg5) (ix4 1 ⟨(at_ t r).val / 8192, by omega⟩ ⟨(at_ t r).val % 8192, by omega⟩ n) :=
    funext fun n => (iblk5 m c t r n).trans (V_v23 m c 1 _ n)
  have e16 : (fun (k : Fin 256) (n : Fin 1024) => iblk m c 16 t (ix3 0 k n)) = fun k n => m ((c : Thread nD τ).loc main_arg15) (ix3 1 k n) :=
    funext fun k => funext fun n => (iblk16 m c t k n).trans (V_v7 m c 1 k _)
  have e17 : (fun n => iblk m c 17 t (ix2 0 n)) = fun n => m ((c : Thread nD τ).loc main_arg16) (ix1 n) :=
    funext fun n => (iblk17 m c t n).trans (V_v22 m c n)
  exact (out_at _ _ _ _ _ _ _ _ _ _ _ _ _ _ _ _ _ _ r n).trans (congrFun (row3_congr e0 e1 e2 e3 e4 e6 e7 e8 e9 e10 e11 e12 e13 e14 e15 e5 e16 e17) n)

/-- Where a block's row lies in the array. -/
theorem emb18 (t : Fin cfg0.N) (r : Fin 256) (n : Fin 1024) : (win0_18.blk t).view.emb (ix2 r n) = ix2 (at_ t r) n := by
  refine funext fun a => Fin.ext ?_
  match a with
  | ⟨0, _⟩ => blk_simp [idx18 t]; rfl
  | ⟨1, _⟩ => blk_simp [idx18 t]

theorem final (c : Dev nD) : (dats m 0 c).arrAt 18 cfg0.N = result m c := by
  refine (dats m 0 c).arrAt_eq_of_covers 18 (result m c) (by decide +kernel) fun t hf y => ?_
  obtain ⟨r, n, rfl⟩ : ∃ (r : Fin 256) (n : Fin 1024), y = ix2 r n := ⟨y 0, y 1, (ix2_eta y).symm⟩
  exact (congrFun (after0_18 m c t) (ix2 r n)).trans ((block_at m c t r n).trans (congrArg (result m c) (emb18 t r n).symm))

end Cert.Proof.Post

end
-- ==== Proof.Post.Ref.lean ====
/-
  The reference's stages, row by row: each named stage at a token is the row function of the same part.
-/
module

public import proofs.«01_k».proof.Proof.Post.Row
public import proofs.«01_k».proof.Proof.Gen.Reference2Ideal.Read
public import Idealize.ShloMosaic.Lib.Pointwise

@[expose] public section

set_option maxRecDepth 16384

noncomputable section

namespace Cert.Proof.PostRef

open Cert.Reference2Ideal Cert.Reference2Ideal.Gen Cert.Reference2Ideal.Read
open Idealize.ShloMosaic
open Cert.Proof.Post

variable (x0 : S2x8192x1024.Idx → EReal) (x1 : S2x8192x3072.Idx → EReal) (x2 x3 x4 : S2x8192x512.Idx → EReal)
  (x5 : S2x2x8192x256.Idx → EReal) (x6 x7 x8 : S2x512x1024.Idx → EReal) (x9 : S2x1024x1024.Idx → EReal)
  (x10 : S2x1024.Idx → EReal) (x11 : S2x1024x5632.Idx → EReal) (x12 : S2x2816x1024.Idx → EReal)
  (x13 : S2x1024.Idx → EReal) (x14 : S2x1024x1024.Idx → EReal) (x15 : S2x256x1024.Idx → EReal) (x16 : S1024.Idx → EReal)
  (s : Fin 2) (p : Fin 8192)

/-- The row after the branches. -/
theorem v44_at (n : Fin 1024) : val_main_v44 (F := Ideal) x0 x1 x2 x3 x4 x6 x7 x8 x9 (ix3 s p n)
    = row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n)) n := by
  pointwise [val_main_v2, val_main_v3, val_main_v4, val_main_v5, val_main_v6, val_main_v7, val_main_v8, val_main_v9, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst, val_main_cst_0]
  rfl

/-- Its normalization. -/
theorem v57_at (n : Fin 1024) : val_main_v57 (F := Ideal) x0 x1 x2 x3 x4 x6 x7 x8 x9 x10 (ix3 s p n)
    = rms (fun n => val_main_v44 (F := Ideal) x0 x1 x2 x3 x4 x6 x7 x8 x9 (ix3 s p n)) (fun n => x10 (ix2 1 n)) n := by
  pointwise [val_main_v10, val_main_v11, val_main_v45, val_main_v46, val_main_v47, val_main_v48, val_main_v49, val_main_v50, val_main_v51, val_main_v52, val_main_v53, val_main_v54, val_main_v55, val_main_v56, val_main_v57, val_main_cst_1, val_main_cst_2, val_main_cst_3]
  rfl

/-- The gated hidden row. -/
theorem v62_at (u : Fin 2816) : val_main_v62 (F := Ideal) x0 x1 x2 x3 x4 x6 x7 x8 x9 x10 x11 (ix3 s p u)
    = hidden (rms (fun n => val_main_v44 (F := Ideal) x0 x1 x2 x3 x4 x6 x7 x8 x9 (ix3 s p n)) (fun n => x10 (ix2 1 n))) (fun k u => x11 (ix3 1 k ⟨u.val, by omega⟩)) (fun k u => x11 (ix3 1 k ⟨2816 + u.val, by omega⟩)) u := by
  pointwise [val_main_v12, val_main_v13, val_main_v58, val_main_v59, val_main_v60, val_main_v61, val_main_v62, val_main_call0_v0, val_main_call0_v1, val_main_call0_v2, val_main_call0_v3, val_main_call0_v4, val_main_call0_v5, val_main_call0_cst, val_main_call0_cst_0]
  simp only [v57_at]
  rfl

/-- The row after the feed-forward part. -/
theorem v64_at (n : Fin 1024) : val_main_v64 (F := Ideal) x0 x1 x2 x3 x4 x6 x7 x8 x9 x10 x11 x12 (ix3 s p n)
    = row2 (fun n => val_main_v44 (F := Ideal) x0 x1 x2 x3 x4 x6 x7 x8 x9 (ix3 s p n)) (fun n => x10 (ix2 1 n)) (fun k u => x11 (ix3 1 k ⟨u.val, by omega⟩)) (fun k u => x11 (ix3 1 k ⟨2816 + u.val, by omega⟩)) (fun u n => x12 (ix3 1 u n)) n := by
  pointwise [val_main_v14, val_main_v15, val_main_v63, val_main_v64]
  simp only [v62_at]
  rfl

/-- Its normalization. -/
theorem v77_at (n : Fin 1024) : val_main_v77 (F := Ideal) x0 x1 x2 x3 x4 x6 x7 x8 x9 x10 x11 x12 x13 (ix3 s p n)
    = rms (fun n => val_main_v64 (F := Ideal) x0 x1 x2 x3 x4 x6 x7 x8 x9 x10 x11 x12 (ix3 s p n)) (fun n => x13 (ix2 1 n)) n := by
  pointwise [val_main_v16, val_main_v17, val_main_v65, val_main_v66, val_main_v67, val_main_v68, val_main_v69, val_main_v70, val_main_v71, val_main_v72, val_main_v73, val_main_v74, val_main_v75, val_main_v76, val_main_v77, val_main_cst_4, val_main_cst_5, val_main_cst_6]
  rfl

/-- The row after the per-layer embedding. -/
theorem v87_at (n : Fin 1024) : val_main_v87 (F := Ideal) x0 x1 x2 x3 x4 x5 x6 x7 x8 x9 x10 x11 x12 x13 x14 x15 (ix3 s p n)
    = embed (fun n => val_main_v64 (F := Ideal) x0 x1 x2 x3 x4 x6 x7 x8 x9 x10 x11 x12 (ix3 s p n)) (rms (fun n => val_main_v64 (F := Ideal) x0 x1 x2 x3 x4 x6 x7 x8 x9 x10 x11 x12 (ix3 s p n)) (fun n => x13 (ix2 1 n))) (fun k n => x14 (ix3 1 k n)) (fun n => x5 (ix4 1 s p n)) (fun k n => x15 (ix3 1 k n)) n := by
  pointwise [val_main_v0, val_main_v1, val_main_v18, val_main_v19, val_main_v20, val_main_v21, val_main_v78, val_main_v79, val_main_v80, val_main_v81, val_main_v82, val_main_v83, val_main_v84, val_main_v85, val_main_v86, val_main_v87, val_main_cst_7, val_main_cst_8]
  simp only [v77_at]
  rfl

/-- The closing normalization. -/
theorem v100_at (n : Fin 1024) : val_main_v100 (F := Ideal) x0 x1 x2 x3 x4 x5 x6 x7 x8 x9 x10 x11 x12 x13 x14 x15 x16 (ix3 s p n)
    = rms (fun n => val_main_v87 (F := Ideal) x0 x1 x2 x3 x4 x5 x6 x7 x8 x9 x10 x11 x12 x13 x14 x15 (ix3 s p n)) (fun n => x16 (ix1 n)) n := by
  pointwise [val_main_v88, val_main_v89, val_main_v90, val_main_v91, val_main_v92, val_main_v93, val_main_v94, val_main_v95, val_main_v96, val_main_v97, val_main_v98, val_main_v99, val_main_v100, val_main_cst_9, val_main_cst_10, val_main_cst_11]
  rfl

/-- The reference at a token: the whole row function of the arguments' rows. -/
theorem stage_at (n : Fin 1024) : val_main_v100 (F := Ideal) x0 x1 x2 x3 x4 x5 x6 x7 x8 x9 x10 x11 x12 x13 x14 x15 x16 (ix3 s p n)
    = row3 (row2 (row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n))) (fun n => x10 (ix2 1 n)) (fun k u => x11 (ix3 1 k ⟨u.val, by omega⟩)) (fun k u => x11 (ix3 1 k ⟨2816 + u.val, by omega⟩)) (fun u n => x12 (ix3 1 u n))) (fun n => x13 (ix2 1 n)) (fun k n => x14 (ix3 1 k n)) (fun n => x5 (ix4 1 s p n)) (fun k n => x15 (ix3 1 k n)) (fun n => x16 (ix1 n)) n := by
  rw [v100_at]
  simp only [v87_at, v64_at, v44_at]
  rfl

end Cert.Proof.PostRef

end
-- ==== Proof.Post.Same.lean ====
/-
  The reference's result array is the same function of the arguments.
-/
module

public import proofs.«01_k».proof.Proof.Post.Final
public import proofs.«01_k».proof.Proof.Post.Ref
public import Idealize.ShloMosaic.Lib.Claim

@[expose] public section

set_option maxRecDepth 16384

noncomputable section

namespace Cert.Proof.PostRef

open Cert.Reference2Ideal Cert.Reference2Ideal.Gen Cert.Reference2Ideal.Read
open Idealize.ShloMosaic Idealize.ShloMosaic.TcCoe
open Cert.Proof.Post

theorem reshaped (y : S2x8192x1024.Idx → EReal) (q : Fin 16384) (n : Fin 1024) :
    shapeCast S16384x1024 y shapeCasts_S2x8192x1024_S16384x1024 (ix2 q n) = y (ix3 ⟨q.val / 8192, by omega⟩ ⟨q.val % 8192, by omega⟩ n) :=
  shapeCast_apply y _ (ix2 q n) _ (by
    rewrite [Shape.rowMajor_val_three, Shape.rowMajor_val_two]
    show (q.val / 8192 * 8192 + q.val % 8192) * 1024 + n.val = q.val * 1024 + n.val
    omega)

/-- Equal arguments give equal result arrays. -/
theorem postArr_congr {x0 : S2x8192x1024.Idx → EReal} {x1 : S2x8192x3072.Idx → EReal} {x2 x3 x4 : S2x8192x512.Idx → EReal}
    {x5 : S2x2x8192x256.Idx → EReal} {x6 x7 x8 : S2x512x1024.Idx → EReal} {x9 : S2x1024x1024.Idx → EReal}
    {x10 : S2x1024.Idx → EReal} {x11 : S2x1024x5632.Idx → EReal} {x12 : S2x2816x1024.Idx → EReal}
    {x13 : S2x1024.Idx → EReal} {x14 : S2x1024x1024.Idx → EReal} {x15 : S2x256x1024.Idx → EReal} {x16 : S1024.Idx → EReal}
    {y0 : S2x8192x1024.Idx → EReal} {y1 : S2x8192x3072.Idx → EReal} {y2 y3 y4 : S2x8192x512.Idx → EReal}
    {y5 : S2x2x8192x256.Idx → EReal} {y6 y7 y8 : S2x512x1024.Idx → EReal} {y9 : S2x1024x1024.Idx → EReal}
    {y10 : S2x1024.Idx → EReal} {y11 : S2x1024x5632.Idx → EReal} {y12 : S2x2816x1024.Idx → EReal}
    {y13 : S2x1024.Idx → EReal} {y14 : S2x1024x1024.Idx → EReal} {y15 : S2x256x1024.Idx → EReal} {y16 : S1024.Idx → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) :
    postArr x0 x1 x2 x3 x4 x5 x6 x7 x8 x9 x10 x11 x12 x13 x14 x15 x16 = postArr y0 y1 y2 y3 y4 y5 y6 y7 y8 y9 y10 y11 y12 y13 y14 y15 y16 := by
  subst e0
  subst e1
  subst e2
  subst e3
  subst e4
  subst e5
  subst e6
  subst e7
  subst e8
  subst e9
  subst e10
  subst e11
  subst e12
  subst e13
  subst e14
  subst e15
  subst e16
  rfl

/-- The reference's last stage. -/
theorem v101_eq (x0 : S2x8192x1024.Idx → EReal) (x1 : S2x8192x3072.Idx → EReal) (x2 x3 x4 : S2x8192x512.Idx → EReal)
    (x5 : S2x2x8192x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal) :
    val_main_v101 (F := Ideal) x0 x1 x2 x3 x4 x5 x6 x7 x8 x9 x10 x11 x12 x13 x14 x15 x16 = postArr x0 x1 x2 x3 x4 x5 x6 x7 x8 x9 x10 x11 x12 x13 x14 x15 x16 := by
  funext j
  obtain ⟨q, n, rfl⟩ : ∃ (q : Fin 16384) (n : Fin 1024), j = ix2 q n := ⟨j 0, j 1, (ix2_eta j).symm⟩
  exact (reshaped _ q n).trans (stage_at x0 x1 x2 x3 x4 x5 x6 x7 x8 x9 x10 x11 x12 x13 x14 x15 x16 _ _ n)

end Cert.Proof.PostRef

end
-- ==== Proof.PostS.Body.lean ====
/-
  For the running streams, the kernel's arithmetic on one block of tokens, row by row.
-/
module

public import proofs.«01_k».proof.Proof.Post.Row
public import proofs.«01_k».proof.Proof.Gen.Kernel3Ideal.Skeleton
public import Idealize.ShloMosaic.Lib.Pointwise

@[expose] public section

set_option maxRecDepth 16384

noncomputable section

namespace Cert.Proof.PostS

open Cert.Kernel3Ideal Cert.Kernel3Ideal.Gen
open Cert.Proof.Post
open Idealize.ShloMosaic

variable (h : Vec Ideal S256x1024 .f32)

theorem pay2_at (g : Vec Ideal S256x3072 .f32) (a : Vec Ideal S256x512 .bf16) (wa : Vec Ideal S1x512x1024 .bf16)
    (b : Vec Ideal S256x512 .bf16) (wb : Vec Ideal S1x512x1024 .bf16) (c : Vec Ideal S256x512 .bf16) (wc : Vec Ideal S1x512x1024 .bf16)
    (wo : Vec Ideal S1x1024x1024 .bf16) (r : Fin 256) (n : Fin 1024) :
    k0_pay2 h g a wa b wb c wc wo (ix2 r n) = row1 (fun n => h (ix2 r n)) (fun n => g (ix2 r n)) (fun n => a (ix2 r n)) (fun n => b (ix2 r n))
      (fun n => c (ix2 r n)) (fun k n => wa (ix3 0 k n)) (fun k n => wb (ix3 0 k n)) (fun k n => wc (ix3 0 k n)) (fun k n => wo (ix3 0 k n)) n := by
  pointwise [k0_pay2]
  rfl

theorem pay3_at (g : Vec Ideal S1x1024 .f32) (r : Fin 256) (n : Fin 1024) :
    k0_pay3 h g (ix2 r n) = rms (fun n => h (ix2 r n)) (fun n => g (ix2 0 n)) n := by
  pointwise [k0_pay3]
  rfl

theorem pay4_at (g : Vec Ideal S1x1024 .f32) (w1 w3 : Vec Ideal S1x1024x1536 .bf16) (w2 : Vec Ideal S1x1536x1024 .bf16) (r : Fin 256) (n : Fin 1024) :
    k0_pay4 h g w1 w3 w2 (ix2 r n) = lin (hidden (rms (fun n => h (ix2 r n)) (fun n => g (ix2 0 n))) (fun k u => w1 (ix3 0 k u)) (fun k u => w3 (ix3 0 k u)))
      (fun u n => w2 (ix3 0 u n)) n := by
  pointwise [k0_pay4]
  simp only [pay3_at]
  rfl

theorem pay5_at (g : Vec Ideal S1x1024 .f32) (w1 : Vec Ideal S1x1024x1280 .bf16) (r : Fin 256) (u : Fin 1280) :
    k0_pay5 h g w1 (ix2 r u) = lin (rms (fun n => h (ix2 r n)) (fun n => g (ix2 0 n))) (fun k u => w1 (ix3 0 k u)) u := by
  pointwise [k0_pay5]
  simp only [pay3_at]
  rfl
theorem pay6_at (g : Vec Ideal S1x1024 .f32) (w1 : Vec Ideal S1x1024x1280 .bf16) (r : Fin 256) (u : Fin 1280) :
    k0_pay6 h g w1 (ix2 r u) = lin (rms (fun n => h (ix2 r n)) (fun n => g (ix2 0 n))) (fun k u => w1 (ix3 0 k u)) u := by
  pointwise [k0_pay6]
  simp only [pay3_at]
  rfl
theorem pay7_at (g : Vec Ideal S1x1024 .f32) (w1 : Vec Ideal S1x1024x1280 .bf16) (r : Fin 256) (u : Fin 1280) :
    k0_pay7 h g w1 (ix2 r u) = Ideal.logistic (lin (rms (fun n => h (ix2 r n)) (fun n => g (ix2 0 n))) (fun k u => w1 (ix3 0 k u)) u) := by
  rw [← pay5_at]
  rfl

/-- The last addition to the row and what comes before it, from the feed-forward part's two pieces. -/
theorem pay8_at (f : FVec Ideal S256x1024 .f32) (a1 a3 s1 : FVec Ideal S256x1280 .f32) (w2 : Vec Ideal S1x1280x1024 .bf16) (np : Vec Ideal S1x1024 .f32)
    (wg : Vec Ideal S1x1024x1024 .bf16) (p : Vec Ideal S1x256x256 .f32) (wp : Vec Ideal S1x256x1024 .bf16)
    (r : Fin 256) (h2 : Fin 1024 → EReal)
    (e : ∀ n, h2 n = h (ix2 r n) + (f (ix2 r n) + lin (fun u => a1 (ix2 r u) * s1 (ix2 r u) * a3 (ix2 r u)) (fun u n => w2 (ix3 0 u n)) n)) (n : Fin 1024) :
    k0_pay8 h f a1 a3 s1 w2 np wg p wp (ix2 r n)
      = embed h2 (rms h2 (fun n => np (ix2 0 n))) (fun k n => wg (ix3 0 k n)) (fun n => p (ix3 0 r n)) (fun k n => wp (ix3 0 k n)) n := by
  obtain rfl : h2 = _ := funext e
  pointwise [k0_pay8]
  rfl

theorem pay1_at (g : Vec Ideal S1x1024 .f32) (r : Fin 256) (n : Fin 1024) :
    k0_pay1 h (k0_pay9 g) (mulf h h) (ix2 r n) = rms (fun n => h (ix2 r n)) (fun n => g (ix2 0 n)) n := by
  pointwise [k0_pay1, k0_pay9]
  rfl

end Cert.Proof.PostS

end
-- ==== Proof.PostS.Array.lean ====
/-
  For the running streams, from the block of tokens at a grid point to the whole result array: every row is the row function of the arguments' rows.
-/
module

public import proofs.«01_k».proof.Proof.PostS.Body
public import proofs.«01_k».proof.Proof.Gen.Kernel3Ideal.Value
public import Idealize.ShloMosaic.Lib.Pipeline.ValueKit

@[expose] public section

set_option maxRecDepth 16384

noncomputable section

namespace Cert.Proof.PostS

open Cert.Kernel3Ideal Cert.Kernel3Ideal.Gen
open Cert.Proof.Post
open Idealize.ShloMosaic Idealize.ShloMosaic.TcCoe Idealize.ShloMosaic.Pipeline
open Idealize.SL.Sem

section Block

variable (x0 : Vec Ideal S256x1024 .f32) (x1 : Vec Ideal S256x3072 .f32) (x2 x3 x4 : Vec Ideal S256x512 .bf16) (x5 : Vec Ideal S1x256x256 .f32)
  (x6 x7 x8 : Vec Ideal S1x512x1024 .bf16) (x9 : Vec Ideal S1x1024x1024 .bf16) (x10 : Vec Ideal S1x1024 .f32) (x11 x12 : Vec Ideal S1x1024x2816 .bf16)
  (x13 : Vec Ideal S1x2816x1024 .bf16) (x14 : Vec Ideal S1x1024 .f32) (x15 : Vec Ideal S1x1024x1024 .bf16) (x16 : Vec Ideal S1x256x1024 .bf16)
  (x17 : Vec Ideal S1x1024 .f32)

/-- The rows after the branches. -/
theorem pay11_at (r : Fin 256) (n : Fin 1024) : k0_pay11 x0 x1 x2 x3 x4 x5 x6 x7 x8 x9 x10 x11 x12 x13 x14 x15 x16 x17 (ix2 r n)
    = row1 (fun n => x0 (ix2 r n)) (fun n => x1 (ix2 r n)) (fun n => x2 (ix2 r n)) (fun n => x3 (ix2 r n)) (fun n => x4 (ix2 r n))
      (fun k n => x6 (ix3 0 k n)) (fun k n => x7 (ix3 0 k n)) (fun k n => x8 (ix3 0 k n)) (fun k n => x9 (ix3 0 k n)) n := by
  unfold k0_pay11
  rw [View.ld_unit_lit _ x0 (by decide), View.ld_unit_lit _ x1 (by decide), View.ld_unit_lit _ x2 (by decide), View.ld_unit_lit _ x3 (by decide),
    View.ld_unit_lit _ x4 (by decide), View.ld_unit_lit _ x6 (by decide), View.ld_unit_lit _ x7 (by decide), View.ld_unit_lit _ x8 (by decide),
    View.ld_unit_lit _ x9 (by decide)]
  exact pay2_at _ _ _ _ _ _ _ _ _ r n

theorem col1 (k : Fin 1024) (u : Fin 1536) : (View.ld x11 r0_6 : Vec Ideal S1x1024x1536 .bf16) (ix3 (0 : Fin 1) k u) = x11 (ix3 0 k ⟨u.val, by omega⟩) := by
  refine congrArg x11 (funext fun a => Fin.ext ?_)
  match a with
  | ⟨0, _⟩ => rfl
  | ⟨1, _⟩ => show 0 + 1 * k.val = k.val; omega
  | ⟨2, _⟩ => show 0 + 1 * u.val = u.val; omega
theorem col2 (k : Fin 1024) (u : Fin 1280) : (View.ld x11 r0_8 : Vec Ideal S1x1024x1280 .bf16) (ix3 (0 : Fin 1) k u) = x11 (ix3 0 k ⟨1536 + u.val, by omega⟩) := by
  refine congrArg x11 (funext fun a => Fin.ext ?_)
  match a with
  | ⟨0, _⟩ => rfl
  | ⟨1, _⟩ => show 0 + 1 * k.val = k.val; omega
  | ⟨2, _⟩ => show 1536 + 1 * u.val = 1536 + u.val; omega
theorem line1 (u : Fin 1536) (n : Fin 1024) : (View.ld x13 r0_7 : Vec Ideal S1x1536x1024 .bf16) (ix3 (0 : Fin 1) u n) = x13 (ix3 0 ⟨u.val, by omega⟩ n) := by
  refine congrArg x13 (funext fun a => Fin.ext ?_)
  match a with
  | ⟨0, _⟩ => rfl
  | ⟨1, _⟩ => show 0 + 1 * u.val = u.val; omega
  | ⟨2, _⟩ => show 0 + 1 * n.val = n.val; omega
theorem line2 (u : Fin 1280) (n : Fin 1024) : (View.ld x13 r0_9 : Vec Ideal S1x1280x1024 .bf16) (ix3 (0 : Fin 1) u n) = x13 (ix3 0 ⟨1536 + u.val, by omega⟩ n) := by
  refine congrArg x13 (funext fun a => Fin.ext ?_)
  match a with
  | ⟨0, _⟩ => rfl
  | ⟨1, _⟩ => show 1536 + 1 * u.val = 1536 + u.val; omega
  | ⟨2, _⟩ => show 0 + 1 * n.val = n.val; omega

/-- The block the body leaves, at a row and a place. -/
theorem out_at (r : Fin 256) (n : Fin 1024) : out0_18 x0 x1 x2 x3 x4 x5 x6 x7 x8 x9 x10 x11 x12 x13 x14 x15 x16 x17 (ix2 r n)
    = row3 (row2 (row1 (fun n => x0 (ix2 r n)) (fun n => x1 (ix2 r n)) (fun n => x2 (ix2 r n)) (fun n => x3 (ix2 r n)) (fun n => x4 (ix2 r n))
        (fun k n => x6 (ix3 0 k n)) (fun k n => x7 (ix3 0 k n)) (fun k n => x8 (ix3 0 k n)) (fun k n => x9 (ix3 0 k n)))
        (fun n => x10 (ix2 0 n)) (fun k u => x11 (ix3 0 k u)) (fun k u => x12 (ix3 0 k u)) (fun u n => x13 (ix3 0 u n)))
        (fun n => x14 (ix2 0 n)) (fun k n => x15 (ix3 0 k n)) (fun n => x5 (ix3 0 r n)) (fun k n => x16 (ix3 0 k n)) (fun n => x17 (ix2 0 n)) n := by
  unfold out0_18
  rw [View.canon_cons_unit_lit _ _ _ (by decide)]
  unfold k0_pay10
  rw [pay1_at, View.ld_unit_lit _ x14 (by decide), View.ld_unit_lit _ x15 (by decide), View.ld_unit_lit _ x5 (by decide),
    View.ld_unit_lit _ x16 (by decide), View.ld_unit_lit _ x17 (by decide)]
  refine congrArg (fun y => rms y _ n) (funext fun n => pay8_at _ _ _ _ _ _ _ _ _ _ r _ (fun n => ?_) n)
  unfold k0_pay12 k0_pay13 k0_pay14 k0_pay15
  rw [row2_split, pay4_at, View.ld_unit_lit _ x10 (by decide)]
  simp only [pay5_at, pay6_at, pay7_at, pay11_at]
  exact congrArg (_ + ·) (congrArg₂ (· + ·)
    (lin_congr (fun u => hidden_congr _ (fun k u => (col1 x11 k u).symm) (fun k u => (col1 x12 k u).symm) u) (fun u n => (line1 x13 u n).symm) n)
    (lin_congr (fun u => hidden_congr _ (fun k u => (col2 x11 k u).symm) (fun k u => (col2 x12 k u).symm) u) (fun u n => (line2 x13 u n).symm) n))

end Block

variable (m : (ℓ : Loc nD τ sig) → Buf (Elt Ideal) ℓ)

/-! The samples' positions one after the other. -/

theorem flat512 (y : S32x16x512.Idx → EReal) (q : Fin 512) (n : Fin 512) :
    shapeCast S512x512 y shapeCasts_S32x16x512_S512x512 (ix2 q n) = y (ix3 ⟨q.val / 16, by omega⟩ ⟨q.val % 16, by omega⟩ n) :=
  shapeCast_apply y _ (ix2 q n) _ (by
    rewrite [Shape.rowMajor_val_three, Shape.rowMajor_val_two]
    show (q.val / 16 * 16 + q.val % 16) * 512 + n.val = q.val * 512 + n.val
    omega)
theorem flat1024 (y : S32x16x1024.Idx → EReal) (q : Fin 512) (n : Fin 1024) :
    shapeCast S512x1024 y shapeCasts_S32x16x1024_S512x1024 (ix2 q n) = y (ix3 ⟨q.val / 16, by omega⟩ ⟨q.val % 16, by omega⟩ n) :=
  shapeCast_apply y _ (ix2 q n) _ (by
    rewrite [Shape.rowMajor_val_three, Shape.rowMajor_val_two]
    show (q.val / 16 * 16 + q.val % 16) * 1024 + n.val = q.val * 1024 + n.val
    omega)
theorem flat3072 (y : S32x16x3072.Idx → EReal) (q : Fin 512) (n : Fin 3072) :
    shapeCast S512x3072 y shapeCasts_S32x16x3072_S512x3072 (ix2 q n) = y (ix3 ⟨q.val / 16, by omega⟩ ⟨q.val % 16, by omega⟩ n) :=
  shapeCast_apply y _ (ix2 q n) _ (by
    rewrite [Shape.rowMajor_val_three, Shape.rowMajor_val_two]
    show (q.val / 16 * 16 + q.val % 16) * 3072 + n.val = q.val * 3072 + n.val
    omega)
theorem flat4 (y : S2x32x16x256.Idx → EReal) (l : Fin 2) (q : Fin 512) (n : Fin 256) :
    shapeCast S2x512x256 y shapeCasts_S2x32x16x256_S2x512x256 (ix3 l q n) = y (ix4 l ⟨q.val / 16, by omega⟩ ⟨q.val % 16, by omega⟩ n) :=
  shapeCast_apply y _ (ix3 l q n) _ (by
    rewrite [Shape.rowMajor_val_four, Shape.rowMajor_val_three]
    show ((l.val * 32 + q.val / 16) * 16 + q.val % 16) * 256 + n.val = (l.val * 512 + q.val) * 256 + n.val
    omega)

/-! The arrays the blocks are cut from, read off the arguments. -/

theorem V_v14 (c : Dev nD) (q : Fin 512) (n : Fin 1024) : V m c main_v14 (ix2 q n) = m ((c : Thread nD τ).loc main_arg0) (ix3 ⟨q.val / 16, by omega⟩ ⟨q.val % 16, by omega⟩ n) := by
  have e : V m c main_v14 = shapeCast S512x1024 (m ((c : Thread nD τ).loc main_arg0) : FVec Ideal S32x16x1024 .f32) shapeCasts_S32x16x1024_S512x1024 := by
    simp only [V, hostOps0]; after_results; rfl
  rw [e]
  exact flat1024 _ q n
theorem V_v15 (c : Dev nD) (q : Fin 512) (n : Fin 3072) : V m c main_v15 (ix2 q n) = m ((c : Thread nD τ).loc main_arg1) (ix3 ⟨q.val / 16, by omega⟩ ⟨q.val % 16, by omega⟩ n) := by
  have e : V m c main_v15 = shapeCast S512x3072 (m ((c : Thread nD τ).loc main_arg1) : FVec Ideal S32x16x3072 .f32) shapeCasts_S32x16x3072_S512x3072 := by
    simp only [V, hostOps0]; after_results; rfl
  rw [e]
  exact flat3072 _ q n
theorem V_v17 (c : Dev nD) (q : Fin 512) (n : Fin 512) : V m c main_v17 (ix2 q n) = m ((c : Thread nD τ).loc main_arg2) (ix3 ⟨q.val / 16, by omega⟩ ⟨q.val % 16, by omega⟩ n) := by
  have e : V m c main_v17 = shapeCast S512x512 (truncf FTy.bf16 (m ((c : Thread nD τ).loc main_arg2) : FVec Ideal S32x16x512 .f32) bitsLt_bf16_f32 : FVec Ideal S32x16x512 .bf16) shapeCasts_S32x16x512_S512x512 := by
    simp only [V, hostOps0]; after_results; rfl
  rw [e]
  exact flat512 _ q n
theorem V_v19 (c : Dev nD) (q : Fin 512) (n : Fin 512) : V m c main_v19 (ix2 q n) = m ((c : Thread nD τ).loc main_arg3) (ix3 ⟨q.val / 16, by omega⟩ ⟨q.val % 16, by omega⟩ n) := by
  have e : V m c main_v19 = shapeCast S512x512 (truncf FTy.bf16 (m ((c : Thread nD τ).loc main_arg3) : FVec Ideal S32x16x512 .f32) bitsLt_bf16_f32 : FVec Ideal S32x16x512 .bf16) shapeCasts_S32x16x512_S512x512 := by
    simp only [V, hostOps0]; after_results; rfl
  rw [e]
  exact flat512 _ q n
theorem V_v21 (c : Dev nD) (q : Fin 512) (n : Fin 512) : V m c main_v21 (ix2 q n) = m ((c : Thread nD τ).loc main_arg4) (ix3 ⟨q.val / 16, by omega⟩ ⟨q.val % 16, by omega⟩ n) := by
  have e : V m c main_v21 = shapeCast S512x512 (truncf FTy.bf16 (m ((c : Thread nD τ).loc main_arg4) : FVec Ideal S32x16x512 .f32) bitsLt_bf16_f32 : FVec Ideal S32x16x512 .bf16) shapeCasts_S32x16x512_S512x512 := by
    simp only [V, hostOps0]; after_results; rfl
  rw [e]
  exact flat512 _ q n
theorem V_v23 (c : Dev nD) (l : Fin 2) (q : Fin 512) (n : Fin 256) : V m c main_v23 (ix3 l q n) = m ((c : Thread nD τ).loc main_arg5) (ix4 l ⟨q.val / 16, by omega⟩ ⟨q.val % 16, by omega⟩ n) := by
  have e : V m c main_v23 = shapeCast S2x512x256 (m ((c : Thread nD τ).loc main_arg5) : FVec Ideal S2x32x16x256 .f32) shapeCasts_S2x32x16x256_S2x512x256 := by
    simp only [V, hostOps0]; after_results; rfl
  rw [e]
  exact flat4 _ l q n
theorem V_v0 (c : Dev nD) (l : Fin 2) (k : Fin 512) (n : Fin 1024) : V m c main_v0 (ix3 l k n) = m ((c : Thread nD τ).loc main_arg6) (ix3 l k n) := by
  have e : V m c main_v0 = (truncf FTy.bf16 (m ((c : Thread nD τ).loc main_arg6) : FVec Ideal S2x512x1024 .f32) bitsLt_bf16_f32 : FVec Ideal S2x512x1024 .bf16) := by
    simp only [V, hostOps0]; after_results
  rw [e]
  pointwise
theorem V_v1 (c : Dev nD) (l : Fin 2) (k : Fin 512) (n : Fin 1024) : V m c main_v1 (ix3 l k n) = m ((c : Thread nD τ).loc main_arg7) (ix3 l k n) := by
  have e : V m c main_v1 = (truncf FTy.bf16 (m ((c : Thread nD τ).loc main_arg7) : FVec Ideal S2x512x1024 .f32) bitsLt_bf16_f32 : FVec Ideal S2x512x1024 .bf16) := by
    simp only [V, hostOps0]; after_results
  rw [e]
  pointwise
theorem V_v2 (c : Dev nD) (l : Fin 2) (k : Fin 512) (n : Fin 1024) : V m c main_v2 (ix3 l k n) = m ((c : Thread nD τ).loc main_arg8) (ix3 l k n) := by
  have e : V m c main_v2 = (truncf FTy.bf16 (m ((c : Thread nD τ).loc main_arg8) : FVec Ideal S2x512x1024 .f32) bitsLt_bf16_f32 : FVec Ideal S2x512x1024 .bf16) := by
    simp only [V, hostOps0]; after_results
  rw [e]
  pointwise
theorem V_v3 (c : Dev nD) (l : Fin 2) (k : Fin 1024) (n : Fin 1024) : V m c main_v3 (ix3 l k n) = m ((c : Thread nD τ).loc main_arg9) (ix3 l k n) := by
  have e : V m c main_v3 = (truncf FTy.bf16 (m ((c : Thread nD τ).loc main_arg9) : FVec Ideal S2x1024x1024 .f32) bitsLt_bf16_f32 : FVec Ideal S2x1024x1024 .bf16) := by
    simp only [V, hostOps0]; after_results
  rw [e]
  pointwise
theorem V_v4 (c : Dev nD) (l : Fin 2) (k : Fin 1024) (n : Fin 5632) : V m c main_v4 (ix3 l k n) = m ((c : Thread nD τ).loc main_arg11) (ix3 l k n) := by
  have e : V m c main_v4 = (truncf FTy.bf16 (m ((c : Thread nD τ).loc main_arg11) : FVec Ideal S2x1024x5632 .f32) bitsLt_bf16_f32 : FVec Ideal S2x1024x5632 .bf16) := by
    simp only [V, hostOps0]; after_results
  rw [e]
  pointwise
theorem V_v5 (c : Dev nD) (l : Fin 2) (k : Fin 2816) (n : Fin 1024) : V m c main_v5 (ix3 l k n) = m ((c : Thread nD τ).loc main_arg12) (ix3 l k n) := by
  have e : V m c main_v5 = (truncf FTy.bf16 (m ((c : Thread nD τ).loc main_arg12) : FVec Ideal S2x2816x1024 .f32) bitsLt_bf16_f32 : FVec Ideal S2x2816x1024 .bf16) := by
    simp only [V, hostOps0]; after_results
  rw [e]
  pointwise
theorem V_v6 (c : Dev nD) (l : Fin 2) (k : Fin 1024) (n : Fin 1024) : V m c main_v6 (ix3 l k n) = m ((c : Thread nD τ).loc main_arg14) (ix3 l k n) := by
  have e : V m c main_v6 = (truncf FTy.bf16 (m ((c : Thread nD τ).loc main_arg14) : FVec Ideal S2x1024x1024 .f32) bitsLt_bf16_f32 : FVec Ideal S2x1024x1024 .bf16) := by
    simp only [V, hostOps0]; after_results
  rw [e]
  pointwise
theorem V_v7 (c : Dev nD) (l : Fin 2) (k : Fin 256) (n : Fin 1024) : V m c main_v7 (ix3 l k n) = m ((c : Thread nD τ).loc main_arg15) (ix3 l k n) := by
  have e : V m c main_v7 = (truncf FTy.bf16 (m ((c : Thread nD τ).loc main_arg15) : FVec Ideal S2x256x1024 .f32) bitsLt_bf16_f32 : FVec Ideal S2x256x1024 .bf16) := by
    simp only [V, hostOps0]; after_results
  rw [e]
  pointwise
theorem V_v10 (c : Dev nD) (n : Fin 1024) : V m c main_v10 (ix2 0 n) = m ((c : Thread nD τ).loc main_arg10) (ix2 1 n) := by
  have e : V m c main_v10 = shapeCast S1x1024 (shapeCast S1024 (extractStridedSlice S1x1024 ![1, 0] (m ((c : Thread nD τ).loc main_arg10) : FVec Ideal S2x1024 .f32) slices_S2x1024_S1x1024_1_0) shapeCasts_S1x1024_S1024) shapeCasts_S1024_S1x1024 := by
    simp only [V, hostOps0]; after_results; rfl
  rw [e]
  pointwise
theorem V_v13 (c : Dev nD) (n : Fin 1024) : V m c main_v13 (ix2 0 n) = m ((c : Thread nD τ).loc main_arg13) (ix2 1 n) := by
  have e : V m c main_v13 = shapeCast S1x1024 (shapeCast S1024 (extractStridedSlice S1x1024 ![1, 0] (m ((c : Thread nD τ).loc main_arg13) : FVec Ideal S2x1024 .f32) slices_S2x1024_S1x1024_1_0) shapeCasts_S1x1024_S1024) shapeCasts_S1024_S1x1024 := by
    simp only [V, hostOps0]; after_results; rfl
  rw [e]
  pointwise
theorem V_v22 (c : Dev nD) (n : Fin 1024) : V m c main_v22 (ix2 0 n) = m ((c : Thread nD τ).loc main_arg16) (ix1 n) := by
  have e : V m c main_v22 = shapeCast S1x1024 (m ((c : Thread nD τ).loc main_arg16) : FVec Ideal S1024 .f32) shapeCasts_S1024_S1x1024 := by
    simp only [V, hostOps0]; after_results; rfl
  rw [e]
  pointwise

/-! Which block of its array each window holds at each grid point. -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![1, t.val, 0] := by decide +kernel
theorem idx6 : ∀ t : Fin grid0.N, win0_6.index t = ![1, 0, 0] := by decide +kernel
theorem idx7 : ∀ t : Fin grid0.N, win0_7.index t = ![1, 0, 0] := by decide +kernel
theorem idx8 : ∀ t : Fin grid0.N, win0_8.index t = ![1, 0, 0] := by decide +kernel
theorem idx9 : ∀ t : Fin grid0.N, win0_9.index t = ![1, 0, 0] := by decide +kernel
theorem idx10 : ∀ t : Fin grid0.N, win0_10.index t = ![0, 0] := by decide +kernel
theorem idx11 : ∀ t : Fin grid0.N, win0_11.index t = ![1, 0, 0] := by decide +kernel
theorem idx12 : ∀ t : Fin grid0.N, win0_12.index t = ![1, 0, 1] := by decide +kernel
theorem idx13 : ∀ t : Fin grid0.N, win0_13.index t = ![1, 0, 0] := by decide +kernel
theorem idx14 : ∀ t : Fin grid0.N, win0_14.index t = ![0, 0] := by decide +kernel
theorem idx15 : ∀ t : Fin grid0.N, win0_15.index t = ![1, 0, 0] := by decide +kernel
theorem idx16 : ∀ t : Fin grid0.N, win0_16.index t = ![1, 0, 0] := by decide +kernel
theorem idx17 : ∀ t : Fin grid0.N, win0_17.index t = ![0, 0] := by decide +kernel
theorem idx18 : ∀ t : Fin grid0.N, win0_18.index t = ![t.val, 0] := by decide +kernel

/-- A grid point's row in the whole array. -/
def at_ (t : Fin cfg0.N) (r : Fin 256) : Fin 512 := ⟨t.val * 256 + r.val, by have : t.val < 2 := lt_of_lt_of_eq t.isLt (by decide); omega⟩

theorem iblk0 (c : Dev nD) (t : Fin cfg0.N) (r : Fin 256) (n : Fin 1024) :
    iblk m c 0 t (ix2 r n) = V m c main_v14 (ix2 (at_ t r) n) := by
  unfold iblk at_
  blk_ext [idx0 t]
theorem iblk1 (c : Dev nD) (t : Fin cfg0.N) (r : Fin 256) (n : Fin 3072) :
    iblk m c 1 t (ix2 r n) = V m c main_v15 (ix2 (at_ t r) n) := by
  unfold iblk at_
  blk_ext [idx1 t]
theorem iblk2 (c : Dev nD) (t : Fin cfg0.N) (r : Fin 256) (n : Fin 512) :
    iblk m c 2 t (ix2 r n) = V m c main_v17 (ix2 (at_ t r) n) := by
  unfold iblk at_
  blk_ext [idx2 t]
theorem iblk3 (c : Dev nD) (t : Fin cfg0.N) (r : Fin 256) (n : Fin 512) :
    iblk m c 3 t (ix2 r n) = V m c main_v19 (ix2 (at_ t r) n) := by
  unfold iblk at_
  blk_ext [idx3 t]
theorem iblk4 (c : Dev nD) (t : Fin cfg0.N) (r : Fin 256) (n : Fin 512) :
    iblk m c 4 t (ix2 r n) = V m c main_v21 (ix2 (at_ t r) n) := by
  unfold iblk at_
  blk_ext [idx4 t]
theorem iblk5 (c : Dev nD) (t : Fin cfg0.N) (r : Fin 256) (n : Fin 256) :
    iblk m c 5 t (ix3 0 r n) = V m c main_v23 (ix3 1 (at_ t r) n) := by
  unfold iblk at_
  blk_ext [idx5 t]
theorem iblk6 (c : Dev nD) (t : Fin cfg0.N) (k : Fin 512) (n : Fin 1024) :
    iblk m c 6 t (ix3 0 k n) = V m c main_v0 (ix3 1 k n) := by
  unfold iblk
  blk_ext [idx6 t]
theorem iblk7 (c : Dev nD) (t : Fin cfg0.N) (k : Fin 512) (n : Fin 1024) :
    iblk m c 7 t (ix3 0 k n) = V m c main_v1 (ix3 1 k n) := by
  unfold iblk
  blk_ext [idx7 t]
theorem iblk8 (c : Dev nD) (t : Fin cfg0.N) (k : Fin 512) (n : Fin 1024) :
    iblk m c 8 t (ix3 0 k n) = V m c main_v2 (ix3 1 k n) := by
  unfold iblk
  blk_ext [idx8 t]
theorem iblk9 (c : Dev nD) (t : Fin cfg0.N) (k : Fin 1024) (n : Fin 1024) :
    iblk m c 9 t (ix3 0 k n) = V m c main_v3 (ix3 1 k n) := by
  unfold iblk
  blk_ext [idx9 t]
theorem iblk11 (c : Dev nD) (t : Fin cfg0.N) (k : Fin 1024) (n : Fin 2816) :
    iblk m c 11 t (ix3 0 k n) = V m c main_v4 (ix3 1 k ⟨n.val, by omega⟩) := by
  unfold iblk
  blk_ext [idx11 t]
theorem iblk12 (c : Dev nD) (t : Fin cfg0.N) (k : Fin 1024) (n : Fin 2816) :
    iblk m c 12 t (ix3 0 k n) = V m c main_v4 (ix3 1 k ⟨2816 + n.val, by omega⟩) := by
  unfold iblk
  blk_ext [idx12 t]
theorem iblk13 (c : Dev nD) (t : Fin cfg0.N) (k : Fin 2816) (n : Fin 1024) :
    iblk m c 13 t (ix3 0 k n) = V m c main_v5 (ix3 1 k n) := by
  unfold iblk
  blk_ext [idx13 t]
theorem iblk15 (c : Dev nD) (t : Fin cfg0.N) (k : Fin 1024) (n : Fin 1024) :
    iblk m c 15 t (ix3 0 k n) = V m c main_v6 (ix3 1 k n) := by
  unfold iblk
  blk_ext [idx15 t]
theorem iblk16 (c : Dev nD) (t : Fin cfg0.N) (k : Fin 256) (n : Fin 1024) :
    iblk m c 16 t (ix3 0 k n) = V m c main_v7 (ix3 1 k n) := by
  unfold iblk
  blk_ext [idx16 t]
theorem iblk10 (c : Dev nD) (t : Fin cfg0.N) (n : Fin 1024) :
    iblk m c 10 t (ix2 0 n) = V m c main_v10 (ix2 0 n) := by
  unfold iblk
  blk_ext [idx10 t]
theorem iblk14 (c : Dev nD) (t : Fin cfg0.N) (n : Fin 1024) :
    iblk m c 14 t (ix2 0 n) = V m c main_v13 (ix2 0 n) := by
  unfold iblk
  blk_ext [idx14 t]
theorem iblk17 (c : Dev nD) (t : Fin cfg0.N) (n : Fin 1024) :
    iblk m c 17 t (ix2 0 n) = V m c main_v22 (ix2 0 n) := by
  unfold iblk
  blk_ext [idx17 t]

/-- One token's result, from the whole arguments: sample `s`, position `p`. -/
def token (x0 : S32x16x1024.Idx → EReal) (x1 : S32x16x3072.Idx → EReal) (x2 x3 x4 : S32x16x512.Idx → EReal)
    (x5 : S2x32x16x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal)
    (s : Fin 32) (p : Fin 16) : Fin 1024 → EReal :=
  row3 (row2 (row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n)))
      (fun n => x10 (ix2 1 n)) (fun k u => x11 (ix3 1 k ⟨u.val, by omega⟩)) (fun k u => x11 (ix3 1 k ⟨2816 + u.val, by omega⟩)) (fun u n => x12 (ix3 1 u n)))
      (fun n => x13 (ix2 1 n)) (fun k n => x14 (ix3 1 k n)) (fun n => x5 (ix4 1 s p n)) (fun k n => x15 (ix3 1 k n)) (fun n => x16 (ix1 n))

/-- The result array: row `q` is position `q % 16` of sample `q / 16`. -/
def postArr (x0 : S32x16x1024.Idx → EReal) (x1 : S32x16x3072.Idx → EReal) (x2 x3 x4 : S32x16x512.Idx → EReal)
    (x5 : S2x32x16x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal) :
    S512x1024.Idx → EReal := fun j =>
  token x0 x1 x2 x3 x4 x5 x6 x7 x8 x9 x10 x11 x12 x13 x14 x15 x16 ⟨(j 0).val / 16, by have : (j 0).val < 512 := (j 0).isLt; omega⟩ ⟨(j 0).val % 16, by omega⟩ ⟨(j 1).val, (j 1).isLt⟩

/-- The result array of a device, from the arguments as they stand in its memory. -/
def result (c : Dev nD) : S512x1024.Idx → EReal :=
  postArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

end Cert.Proof.PostS

end
-- ==== Proof.PostS.Final.lean ====
/-
  For the running streams: the whole result array, from its blocks.
-/
module

public import proofs.«01_k».proof.Proof.PostS.Array

@[expose] public section

set_option maxRecDepth 16384

noncomputable section

namespace Cert.Proof.PostS

open Cert.Kernel3Ideal Cert.Kernel3Ideal.Gen
open Cert.Proof.Post
open Idealize.ShloMosaic Idealize.ShloMosaic.TcCoe Idealize.ShloMosaic.Pipeline
open Idealize.SL.Sem

/-- Equal rows and matrices give equal results. -/
theorem row3_congr {h h' : Fin 1024 → EReal} {g g' : Fin 3072 → EReal} {a a' : Fin 512 → EReal} {b b' : Fin 512 → EReal} {c c' : Fin 512 → EReal} {wa wa' : Fin 512 → Fin 1024 → EReal} {wb wb' : Fin 512 → Fin 1024 → EReal} {wc wc' : Fin 512 → Fin 1024 → EReal} {wo wo' : Fin 1024 → Fin 1024 → EReal} {nf nf' : Fin 1024 → EReal} {w1 w1' : Fin 1024 → Fin 2816 → EReal} {w3 w3' : Fin 1024 → Fin 2816 → EReal} {w2 w2' : Fin 2816 → Fin 1024 → EReal} {np np' : Fin 1024 → EReal} {wg wg' : Fin 1024 → Fin 1024 → EReal} {p p' : Fin 256 → EReal} {wp wp' : Fin 256 → Fin 1024 → EReal} {nl nl' : Fin 1024 → EReal}
    (e0 : h = h') (e1 : g = g') (e2 : a = a') (e3 : b = b') (e4 : c = c') (e6 : wa = wa') (e7 : wb = wb') (e8 : wc = wc') (e9 : wo = wo') (e10 : nf = nf') (e11 : w1 = w1') (e12 : w3 = w3') (e13 : w2 = w2') (e14 : np = np') (e15 : wg = wg') (e5 : p = p') (e16 : wp = wp') (e17 : nl = nl') :
    row3 (row2 (row1 h g a b c wa wb wc wo) nf w1 w3 w2) np wg p wp nl
      = row3 (row2 (row1 h' g' a' b' c' wa' wb' wc' wo') nf' w1' w3' w2') np' wg' p' wp' nl' := by
  subst e0
  subst e1
  subst e2
  subst e3
  subst e4
  subst e6
  subst e7
  subst e8
  subst e9
  subst e10
  subst e11
  subst e12
  subst e13
  subst e14
  subst e15
  subst e5
  subst e16
  subst e17
  rfl

variable (m : (ℓ : Loc nD τ sig) → Buf (Elt Ideal) ℓ)

/-- The block of results at a grid point. -/
theorem block_at (c : Dev nD) (t : Fin cfg0.N) (r : Fin 256) (n : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r n) = result m c (ix2 (at_ t r) n) := by
  have e0 : (fun n => iblk m c 0 t (ix2 r n)) = fun n => m ((c : Thread nD τ).loc main_arg0) (ix3 ⟨(at_ t r).val / 16, by omega⟩ ⟨(at_ t r).val % 16, by omega⟩ n) :=
    funext fun n => (iblk0 m c t r n).trans (V_v14 m c _ n)
  have e1 : (fun n => iblk m c 1 t (ix2 r n)) = fun n => m ((c : Thread nD τ).loc main_arg1) (ix3 ⟨(at_ t r).val / 16, by omega⟩ ⟨(at_ t r).val % 16, by omega⟩ n) :=
    funext fun n => (iblk1 m c t r n).trans (V_v15 m c _ n)
  have e2 : (fun n => iblk m c 2 t (ix2 r n)) = fun n => m ((c : Thread nD τ).loc main_arg2) (ix3 ⟨(at_ t r).val / 16, by omega⟩ ⟨(at_ t r).val % 16, by omega⟩ n) :=
    funext fun n => (iblk2 m c t r n).trans (V_v17 m c _ n)
  have e3 : (fun n => iblk m c 3 t (ix2 r n)) = fun n => m ((c : Thread nD τ).loc main_arg3) (ix3 ⟨(at_ t r).val / 16, by omega⟩ ⟨(at_ t r).val % 16, by omega⟩ n) :=
    funext fun n => (iblk3 m c t r n).trans (V_v19 m c _ n)
  have e4 : (fun n => iblk m c 4 t (ix2 r n)) = fun n => m ((c : Thread nD τ).loc main_arg4) (ix3 ⟨(at_ t r).val / 16, by omega⟩ ⟨(at_ t r).val % 16, by omega⟩ n) :=
    funext fun n => (iblk4 m c t r n).trans (V_v21 m c _ n)
  have e6 : (fun (k : Fin 512) (n : Fin 1024) => iblk m c 6 t (ix3 0 k n)) = fun k n => m ((c : Thread nD τ).loc main_arg6) (ix3 1 k n) :=
    funext fun k => funext fun n => (iblk6 m c t k n).trans (V_v0 m c 1 k _)
  have e7 : (fun (k : Fin 512) (n : Fin 1024) => iblk m c 7 t (ix3 0 k n)) = fun k n => m ((c : Thread nD τ).loc main_arg7) (ix3 1 k n) :=
    funext fun k => funext fun n => (iblk7 m c t k n).trans (V_v1 m c 1 k _)
  have e8 : (fun (k : Fin 512) (n : Fin 1024) => iblk m c 8 t (ix3 0 k n)) = fun k n => m ((c : Thread nD τ).loc main_arg8) (ix3 1 k n) :=
    funext fun k => funext fun n => (iblk8 m c t k n).trans (V_v2 m c 1 k _)
  have e9 : (fun (k : Fin 1024) (n : Fin 1024) => iblk m c 9 t (ix3 0 k n)) = fun k n => m ((c : Thread nD τ).loc main_arg9) (ix3 1 k n) :=
    funext fun k => funext fun n => (iblk9 m c t k n).trans (V_v3 m c 1 k _)
  have e10 : (fun n => iblk m c 10 t (ix2 0 n)) = fun n => m ((c : Thread nD τ).loc main_arg10) (ix2 1 n) :=
    funext fun n => (iblk10 m c t n).trans (V_v10 m c n)
  have e11 : (fun (k : Fin 1024) (n : Fin 2816) => iblk m c 11 t (ix3 0 k n)) = fun k n => m ((c : Thread nD τ).loc main_arg11) (ix3 1 k ⟨n.val, by omega⟩) :=
    funext fun k => funext fun n => (iblk11 m c t k n).trans (V_v4 m c 1 k _)
  have e12 : (fun (k : Fin 1024) (n : Fin 2816) => iblk m c 12 t (ix3 0 k n)) = fun k n => m ((c : Thread nD τ).loc main_arg11) (ix3 1 k ⟨2816 + n.val, by omega⟩) :=
    funext fun k => funext fun n => (iblk12 m c t k n).trans (V_v4 m c 1 k _)
  have e13 : (fun (k : Fin 2816) (n : Fin 1024) => iblk m c 13 t (ix3 0 k n)) = fun k n => m ((c : Thread nD τ).loc main_arg12) (ix3 1 k n) :=
    funext fun k => funext fun n => (iblk13 m c t k n).trans (V_v5 m c 1 k _)
  have e14 : (fun n => iblk m c 14 t (ix2 0 n)) = fun n => m ((c : Thread nD τ).loc main_arg13) (ix2 1 n) :=
    funext fun n => (iblk14 m c t n).trans (V_v13 m c n)
  have e15 : (fun (k : Fin 1024) (n : Fin 1024) => iblk m c 15 t (ix3 0 k n)) = fun k n => m ((c : Thread nD τ).loc main_arg14) (ix3 1 k n) :=
    funext fun k => funext fun n => (iblk15 m c t k n).trans (V_v6 m c 1 k _)
  have e5 : (fun n => iblk m c 5 t (ix3 0 r n)) = fun n => m ((c : Thread nD τ).loc main_arg5) (ix4 1 ⟨(at_ t r).val / 16, by omega⟩ ⟨(at_ t r).val % 16, by omega⟩ n) :=
    funext fun n => (iblk5 m c t r n).trans (V_v23 m c 1 _ n)
  have e16 : (fun (k : Fin 256) (n : Fin 1024) => iblk m c 16 t (ix3 0 k n)) = fun k n => m ((c : Thread nD τ).loc main_arg15) (ix3 1 k n) :=
    funext fun k => funext fun n => (iblk16 m c t k n).trans (V_v7 m c 1 k _)
  have e17 : (fun n => iblk m c 17 t (ix2 0 n)) = fun n => m ((c : Thread nD τ).loc main_arg16) (ix1 n) :=
    funext fun n => (iblk17 m c t n).trans (V_v22 m c n)
  exact (out_at _ _ _ _ _ _ _ _ _ _ _ _ _ _ _ _ _ _ r n).trans (congrFun (row3_congr e0 e1 e2 e3 e4 e6 e7 e8 e9 e10 e11 e12 e13 e14 e15 e5 e16 e17) n)

/-- Where a block's row lies in the array. -/
theorem emb18 (t : Fin cfg0.N) (r : Fin 256) (n : Fin 1024) : (win0_18.blk t).view.emb (ix2 r n) = ix2 (at_ t r) n := by
  refine funext fun a => Fin.ext ?_
  match a with
  | ⟨0, _⟩ => blk_simp [idx18 t]; rfl
  | ⟨1, _⟩ => blk_simp [idx18 t]

theorem final (c : Dev nD) : (dats m 0 c).arrAt 18 cfg0.N = result m c := by
  refine (dats m 0 c).arrAt_eq_of_covers 18 (result m c) (by decide +kernel) fun t hf y => ?_
  obtain ⟨r, n, rfl⟩ : ∃ (r : Fin 256) (n : Fin 1024), y = ix2 r n := ⟨y 0, y 1, (ix2_eta y).symm⟩
  exact (congrFun (after0_18 m c t) (ix2 r n)).trans ((block_at m c t r n).trans (congrArg (result m c) (emb18 t r n).symm))

end Cert.Proof.PostS

end
-- ==== Proof.PostS.Ref.lean ====
/-
  For the running streams: the reference's stages, row by row: each named stage at a token is the row function of the same part.
-/
module

public import proofs.«01_k».proof.Proof.Post.Row
public import proofs.«01_k».proof.Proof.Gen.Reference3Ideal.Read
public import Idealize.ShloMosaic.Lib.Pointwise

@[expose] public section

set_option maxRecDepth 16384

noncomputable section

namespace Cert.Proof.PostSRef

open Cert.Reference3Ideal Cert.Reference3Ideal.Gen Cert.Reference3Ideal.Read
open Idealize.ShloMosaic
open Cert.Proof.Post

variable (x0 : S32x16x1024.Idx → EReal) (x1 : S32x16x3072.Idx → EReal) (x2 x3 x4 : S32x16x512.Idx → EReal)
  (x5 : S2x32x16x256.Idx → EReal) (x6 x7 x8 : S2x512x1024.Idx → EReal) (x9 : S2x1024x1024.Idx → EReal)
  (x10 : S2x1024.Idx → EReal) (x11 : S2x1024x5632.Idx → EReal) (x12 : S2x2816x1024.Idx → EReal)
  (x13 : S2x1024.Idx → EReal) (x14 : S2x1024x1024.Idx → EReal) (x15 : S2x256x1024.Idx → EReal) (x16 : S1024.Idx → EReal)
  (s : Fin 32) (p : Fin 16)

/-- The row after the branches. -/
theorem v44_at (n : Fin 1024) : val_main_v44 (F := Ideal) x0 x1 x2 x3 x4 x6 x7 x8 x9 (ix3 s p n)
    = row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n)) n := by
  pointwise [val_main_v2, val_main_v3, val_main_v4, val_main_v5, val_main_v6, val_main_v7, val_main_v8, val_main_v9, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst, val_main_cst_0]
  rfl

/-- Its normalization. -/
theorem v57_at (n : Fin 1024) : val_main_v57 (F := Ideal) x0 x1 x2 x3 x4 x6 x7 x8 x9 x10 (ix3 s p n)
    = rms (fun n => val_main_v44 (F := Ideal) x0 x1 x2 x3 x4 x6 x7 x8 x9 (ix3 s p n)) (fun n => x10 (ix2 1 n)) n := by
  pointwise [val_main_v10, val_main_v11, val_main_v45, val_main_v46, val_main_v47, val_main_v48, val_main_v49, val_main_v50, val_main_v51, val_main_v52, val_main_v53, val_main_v54, val_main_v55, val_main_v56, val_main_v57, val_main_cst_1, val_main_cst_2, val_main_cst_3]
  rfl

/-- The gated hidden row. -/
theorem v62_at (u : Fin 2816) : val_main_v62 (F := Ideal) x0 x1 x2 x3 x4 x6 x7 x8 x9 x10 x11 (ix3 s p u)
    = hidden (rms (fun n => val_main_v44 (F := Ideal) x0 x1 x2 x3 x4 x6 x7 x8 x9 (ix3 s p n)) (fun n => x10 (ix2 1 n))) (fun k u => x11 (ix3 1 k ⟨u.val, by omega⟩)) (fun k u => x11 (ix3 1 k ⟨2816 + u.val, by omega⟩)) u := by
  pointwise [val_main_v12, val_main_v13, val_main_v58, val_main_v59, val_main_v60, val_main_v61, val_main_v62, val_main_call0_v0, val_main_call0_v1, val_main_call0_v2, val_main_call0_v3, val_main_call0_v4, val_main_call0_v5, val_main_call0_cst, val_main_call0_cst_0]
  simp only [v57_at]
  rfl

/-- The row after the feed-forward part. -/
theorem v64_at (n : Fin 1024) : val_main_v64 (F := Ideal) x0 x1 x2 x3 x4 x6 x7 x8 x9 x10 x11 x12 (ix3 s p n)
    = row2 (fun n => val_main_v44 (F := Ideal) x0 x1 x2 x3 x4 x6 x7 x8 x9 (ix3 s p n)) (fun n => x10 (ix2 1 n)) (fun k u => x11 (ix3 1 k ⟨u.val, by omega⟩)) (fun k u => x11 (ix3 1 k ⟨2816 + u.val, by omega⟩)) (fun u n => x12 (ix3 1 u n)) n := by
  pointwise [val_main_v14, val_main_v15, val_main_v63, val_main_v64]
  simp only [v62_at]
  rfl

/-- Its normalization. -/
theorem v77_at (n : Fin 1024) : val_main_v77 (F := Ideal) x0 x1 x2 x3 x4 x6 x7 x8 x9 x10 x11 x12 x13 (ix3 s p n)
    = rms (fun n => val_main_v64 (F := Ideal) x0 x1 x2 x3 x4 x6 x7 x8 x9 x10 x11 x12 (ix3 s p n)) (fun n => x13 (ix2 1 n)) n := by
  pointwise [val_main_v16, val_main_v17, val_main_v65, val_main_v66, val_main_v67, val_main_v68, val_main_v69, val_main_v70, val_main_v71, val_main_v72, val_main_v73, val_main_v74, val_main_v75, val_main_v76, val_main_v77, val_main_cst_4, val_main_cst_5, val_main_cst_6]
  rfl

/-- The row after the per-layer embedding. -/
theorem v87_at (n : Fin 1024) : val_main_v87 (F := Ideal) x0 x1 x2 x3 x4 x5 x6 x7 x8 x9 x10 x11 x12 x13 x14 x15 (ix3 s p n)
    = embed (fun n => val_main_v64 (F := Ideal) x0 x1 x2 x3 x4 x6 x7 x8 x9 x10 x11 x12 (ix3 s p n)) (rms (fun n => val_main_v64 (F := Ideal) x0 x1 x2 x3 x4 x6 x7 x8 x9 x10 x11 x12 (ix3 s p n)) (fun n => x13 (ix2 1 n))) (fun k n => x14 (ix3 1 k n)) (fun n => x5 (ix4 1 s p n)) (fun k n => x15 (ix3 1 k n)) n := by
  pointwise [val_main_v0, val_main_v1, val_main_v18, val_main_v19, val_main_v20, val_main_v21, val_main_v78, val_main_v79, val_main_v80, val_main_v81, val_main_v82, val_main_v83, val_main_v84, val_main_v85, val_main_v86, val_main_v87, val_main_cst_7, val_main_cst_8]
  simp only [v77_at]
  rfl

/-- The closing normalization. -/
theorem v100_at (n : Fin 1024) : val_main_v100 (F := Ideal) x0 x1 x2 x3 x4 x5 x6 x7 x8 x9 x10 x11 x12 x13 x14 x15 x16 (ix3 s p n)
    = rms (fun n => val_main_v87 (F := Ideal) x0 x1 x2 x3 x4 x5 x6 x7 x8 x9 x10 x11 x12 x13 x14 x15 (ix3 s p n)) (fun n => x16 (ix1 n)) n := by
  pointwise [val_main_v88, val_main_v89, val_main_v90, val_main_v91, val_main_v92, val_main_v93, val_main_v94, val_main_v95, val_main_v96, val_main_v97, val_main_v98, val_main_v99, val_main_v100, val_main_cst_9, val_main_cst_10, val_main_cst_11]
  rfl

/-- The reference at a token: the whole row function of the arguments' rows. -/
theorem stage_at (n : Fin 1024) : val_main_v100 (F := Ideal) x0 x1 x2 x3 x4 x5 x6 x7 x8 x9 x10 x11 x12 x13 x14 x15 x16 (ix3 s p n)
    = row3 (row2 (row1 (fun n => x0 (ix3 s p n)) (fun n => x1 (ix3 s p n)) (fun n => x2 (ix3 s p n)) (fun n => x3 (ix3 s p n)) (fun n => x4 (ix3 s p n))
      (fun k n => x6 (ix3 1 k n)) (fun k n => x7 (ix3 1 k n)) (fun k n => x8 (ix3 1 k n)) (fun k n => x9 (ix3 1 k n))) (fun n => x10 (ix2 1 n)) (fun k u => x11 (ix3 1 k ⟨u.val, by omega⟩)) (fun k u => x11 (ix3 1 k ⟨2816 + u.val, by omega⟩)) (fun u n => x12 (ix3 1 u n))) (fun n => x13 (ix2 1 n)) (fun k n => x14 (ix3 1 k n)) (fun n => x5 (ix4 1 s p n)) (fun k n => x15 (ix3 1 k n)) (fun n => x16 (ix1 n)) n := by
  rw [v100_at]
  simp only [v87_at, v64_at, v44_at]
  rfl

end Cert.Proof.PostSRef

end
-- ==== Proof.PostS.Same.lean ====
/-
  For the running streams: the reference's result array is the same function of the arguments.
-/
module

public import proofs.«01_k».proof.Proof.PostS.Final
public import proofs.«01_k».proof.Proof.PostS.Ref
public import Idealize.ShloMosaic.Lib.Claim

@[expose] public section

set_option maxRecDepth 16384

noncomputable section

namespace Cert.Proof.PostSRef

open Cert.Reference3Ideal Cert.Reference3Ideal.Gen Cert.Reference3Ideal.Read
open Idealize.ShloMosaic Idealize.ShloMosaic.TcCoe
open Cert.Proof.Post Cert.Proof.PostS

theorem reshaped (y : S32x16x1024.Idx → EReal) (q : Fin 512) (n : Fin 1024) :
    shapeCast S512x1024 y shapeCasts_S32x16x1024_S512x1024 (ix2 q n) = y (ix3 ⟨q.val / 16, by omega⟩ ⟨q.val % 16, by omega⟩ n) :=
  shapeCast_apply y _ (ix2 q n) _ (by
    rewrite [Shape.rowMajor_val_three, Shape.rowMajor_val_two]
    show (q.val / 16 * 16 + q.val % 16) * 1024 + n.val = q.val * 1024 + n.val
    omega)

/-- Equal arguments give equal result arrays. -/
theorem postArr_congr {x0 : S32x16x1024.Idx → EReal} {x1 : S32x16x3072.Idx → EReal} {x2 x3 x4 : S32x16x512.Idx → EReal}
    {x5 : S2x32x16x256.Idx → EReal} {x6 x7 x8 : S2x512x1024.Idx → EReal} {x9 : S2x1024x1024.Idx → EReal}
    {x10 : S2x1024.Idx → EReal} {x11 : S2x1024x5632.Idx → EReal} {x12 : S2x2816x1024.Idx → EReal}
    {x13 : S2x1024.Idx → EReal} {x14 : S2x1024x1024.Idx → EReal} {x15 : S2x256x1024.Idx → EReal} {x16 : S1024.Idx → EReal}
    {y0 : S32x16x1024.Idx → EReal} {y1 : S32x16x3072.Idx → EReal} {y2 y3 y4 : S32x16x512.Idx → EReal}
    {y5 : S2x32x16x256.Idx → EReal} {y6 y7 y8 : S2x512x1024.Idx → EReal} {y9 : S2x1024x1024.Idx → EReal}
    {y10 : S2x1024.Idx → EReal} {y11 : S2x1024x5632.Idx → EReal} {y12 : S2x2816x1024.Idx → EReal}
    {y13 : S2x1024.Idx → EReal} {y14 : S2x1024x1024.Idx → EReal} {y15 : S2x256x1024.Idx → EReal} {y16 : S1024.Idx → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) :
    postArr x0 x1 x2 x3 x4 x5 x6 x7 x8 x9 x10 x11 x12 x13 x14 x15 x16 = postArr y0 y1 y2 y3 y4 y5 y6 y7 y8 y9 y10 y11 y12 y13 y14 y15 y16 := by
  subst e0
  subst e1
  subst e2
  subst e3
  subst e4
  subst e5
  subst e6
  subst e7
  subst e8
  subst e9
  subst e10
  subst e11
  subst e12
  subst e13
  subst e14
  subst e15
  subst e16
  rfl

/-- The reference's last stage. -/
theorem v101_eq (x0 : S32x16x1024.Idx → EReal) (x1 : S32x16x3072.Idx → EReal) (x2 x3 x4 : S32x16x512.Idx → EReal)
    (x5 : S2x32x16x256.Idx → EReal) (x6 x7 x8 : S2x512x1024.Idx → EReal) (x9 : S2x1024x1024.Idx → EReal)
    (x10 : S2x1024.Idx → EReal) (x11 : S2x1024x5632.Idx → EReal) (x12 : S2x2816x1024.Idx → EReal)
    (x13 : S2x1024.Idx → EReal) (x14 : S2x1024x1024.Idx → EReal) (x15 : S2x256x1024.Idx → EReal) (x16 : S1024.Idx → EReal) :
    val_main_v101 (F := Ideal) x0 x1 x2 x3 x4 x5 x6 x7 x8 x9 x10 x11 x12 x13 x14 x15 x16 = postArr x0 x1 x2 x3 x4 x5 x6 x7 x8 x9 x10 x11 x12 x13 x14 x15 x16 := by
  funext j
  obtain ⟨q, n, rfl⟩ : ∃ (q : Fin 512) (n : Fin 1024), j = ix2 q n := ⟨j 0, j 1, (ix2_eta j).symm⟩
  exact (reshaped _ q n).trans (stage_at x0 x1 x2 x3 x4 x5 x6 x7 x8 x9 x10 x11 x12 x13 x14 x15 x16 _ _ n)

end Cert.Proof.PostSRef

end
-- ==== Proof.InV.Row.lean ====
/-
  The input projections as functions of the arguments: every token's normalized row times a column of the layer's weights.
-/
module

public import proofs.«01_k».proof.Proof.Post.Row
public import Idealize.ShloMosaic.Lib.Pointwise

@[expose] public section

noncomputable section

namespace Cert.Proof.InV

open Idealize.ShloMosaic
open Cert.Proof.Post

variable (x : (⟨3, ![32, 16, 1024]⟩ : Shape).Idx → EReal) (g : (⟨2, ![2, 1024]⟩ : Shape).Idx → EReal) (w : (⟨3, ![2, 1024, 7688]⟩ : Shape).Idx → EReal)

/-- A sample's token, normalized, times one column. -/
def proj (s : Fin 32) (p : Fin 16) (n : Fin 7688) : EReal :=
  lin (rms (fun k => x (ix3 s p k)) (fun k => g (ix2 0 k))) (fun k n => w (ix3 0 k n)) n

/-- The same with the tokens of all samples one after the other. -/
def tok (q : Fin 512) (n : Fin 7688) : EReal := proj x g w ⟨q.val / 16, by omega⟩ ⟨q.val % 16, by omega⟩ n

/-- Some columns, from `o` on, for every token. -/
def cols {N : ℕ} (o : ℕ) (h : o + N ≤ 7688) : (⟨2, ![512, N]⟩ : Shape).Idx → EReal := fun j =>
  tok x g w (j 0) ⟨o + (j 1).val, by have : (j 1).val < N := (j 1).isLt; omega⟩

/-- Four groups of 128 columns, from `o` on, as four rows for every token. -/
def heads (o : ℕ) (h : o + 512 ≤ 7688) : (⟨2, ![2048, 128]⟩ : Shape).Idx → EReal := fun j =>
  tok x g w ⟨(j 0).val / 4, by have : (j 0).val < 2048 := (j 0).isLt; omega⟩
    ⟨o + (j 0).val % 4 * 128 + (j 1).val, by have : (j 1).val < 128 := (j 1).isLt; omega⟩

/-- The eight small columns, and zeros after them. -/
def small : (⟨2, ![512, 128]⟩ : Shape).Idx → EReal := fun j =>
  if h : (j 1).val < 8 then tok x g w (j 0) ⟨2048 + (j 1).val, by omega⟩ else 0

end Cert.Proof.InV

end
-- ==== Proof.InI.Runs.lean ====
/-
  What the device's arrays hold when the call begins, what each grid point's windows hold, and the lemmas about the staging buffers. For the idealization of the input projection.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.InI

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
def dflt0_2 : (cfg0.win 2).block.Idx → Elt F (cfg0.win 2).elt := fun _ => Classical.choice inferInstance
def X0_2 (c : Dev nD) (t : Fin cfg0.N) : (cfg0.win 2).block.Idx → Elt F (cfg0.win 2).elt :=
  (cfg0.win 2).fill (cfg0.grid.coords t) dflt0_2 (iblk m c 2 t)
theorem xsize0_2 : ∀ t : Fin cfg0.N, ∀ a, (cfg0.win 2).xsize (cfg0.grid.coords t) a = (cfg0.win 2).size a := by decide +kernel
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S2x1024x7808.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
def dflt0_4 : (cfg0.win 4).block.Idx → Elt F (cfg0.win 4).elt := fun _ => Classical.choice inferInstance
def X0_4 (c : Dev nD) (t : Fin cfg0.N) : (cfg0.win 4).block.Idx → Elt F (cfg0.win 4).elt :=
  (cfg0.win 4).fill (cfg0.grid.coords t) dflt0_4 (iblk m c 4 t)
theorem xsize0_4 : ∀ t : Fin cfg0.N, ∀ a, (cfg0.win 4).xsize (cfg0.grid.coords t) a = (cfg0.win 4).size a := by decide +kernel
theorem moved0_4 (t : Fin cfg0.N) (j : (cfg0.win 4).block.Idx) : (cfg0.win 4).moved (cfg0.grid.coords t) j = true :=
  ((cfg0.win 4).moved_iff _ j).mpr fun a => by rw [xsize0_4 t a]; exact (j a).isLt
theorem fill0_4 (t : Fin cfg0.N) (d d' : (cfg0.win 4).block.Idx → Elt F (cfg0.win 4).elt) (g) :
    (cfg0.win 4).fill (cfg0.grid.coords t) d g = (cfg0.win 4).fill (cfg0.grid.coords t) d' g := by
  funext j; unfold Pipeline.Window.fill; rw [dif_pos (moved0_4 t j), dif_pos (moved0_4 t j)]
theorem before0_4_of {c : Dev nD} (dat : Dat τ (Elt F) Unit ℕ (UR sig nD τ) ℕ cfg0 c) (hA : dat.A 4 = V m c (Pipeline.arrRef spec0 4))
    (hafter : ∀ t, dat.after 4 t = X0_4 m c t) (t : Fin cfg0.N) (d) : dat.before 4 t d = X0_4 m c t :=
  (dat.before_in_eq_fetched 4 rfl (fun _ => rfl)
      (fun t t' h => funext fun a => congrArg (fun n => Pipeline.Clip.of n ((cfg0.win 4).size a) (S2x1024x7808.size a)) (congrFun h a))
      (fun t => by rw [hafter]; unfold X0_4; rw [Pipeline.Window.cut_fill]; unfold Dat.blockOf iblk; rw [hA]; try rfl) t d).trans
    (by unfold Dat.fetched X0_4; rw [fill0_4 t d dflt0_4]; unfold Dat.blockOf iblk; rw [hA]; try rfl)
def dflt0_5 : (cfg0.win 5).block.Idx → Elt F (cfg0.win 5).elt := fun _ => Classical.choice inferInstance
def X0_5 (c : Dev nD) (t : Fin cfg0.N) : (cfg0.win 5).block.Idx → Elt F (cfg0.win 5).elt :=
  (cfg0.win 5).fill (cfg0.grid.coords t) dflt0_5 (iblk m c 5 t)
theorem xsize0_5 : ∀ t : Fin cfg0.N, ∀ a, (cfg0.win 5).xsize (cfg0.grid.coords t) a = (cfg0.win 5).size a := by decide +kernel
theorem moved0_5 (t : Fin cfg0.N) (j : (cfg0.win 5).block.Idx) : (cfg0.win 5).moved (cfg0.grid.coords t) j = true :=
  ((cfg0.win 5).moved_iff _ j).mpr fun a => by rw [xsize0_5 t a]; exact (j a).isLt
theorem fill0_5 (t : Fin cfg0.N) (d d' : (cfg0.win 5).block.Idx → Elt F (cfg0.win 5).elt) (g) :
    (cfg0.win 5).fill (cfg0.grid.coords t) d g = (cfg0.win 5).fill (cfg0.grid.coords t) d' g := by
  funext j; unfold Pipeline.Window.fill; rw [dif_pos (moved0_5 t j), dif_pos (moved0_5 t j)]
theorem before0_5_of {c : Dev nD} (dat : Dat τ (Elt F) Unit ℕ (UR sig nD τ) ℕ cfg0 c) (hA : dat.A 5 = V m c (Pipeline.arrRef spec0 5))
    (hafter : ∀ t, dat.after 5 t = X0_5 m c t) (t : Fin cfg0.N) (d) : dat.before 5 t d = X0_5 m c t :=
  (dat.before_in_eq_fetched 5 rfl (fun _ => rfl)
      (fun t t' h => funext fun a => congrArg (fun n => Pipeline.Clip.of n ((cfg0.win 5).size a) (S2x1024x7808.size a)) (congrFun h a))
      (fun t => by rw [hafter]; unfold X0_5; rw [Pipeline.Window.cut_fill]; unfold Dat.blockOf iblk; rw [hA]; try rfl) t d).trans
    (by unfold Dat.fetched X0_5; rw [fill0_5 t d dflt0_5]; unfold Dat.blockOf iblk; rw [hA]; try rfl)
def dflt0_6 : (cfg0.win 6).block.Idx → Elt F (cfg0.win 6).elt := fun _ => Classical.choice inferInstance
def X0_6 (c : Dev nD) (t : Fin cfg0.N) : (cfg0.win 6).block.Idx → Elt F (cfg0.win 6).elt :=
  (cfg0.win 6).fill (cfg0.grid.coords t) dflt0_6 (iblk m c 6 t)
theorem xsize0_6 : ∀ t : Fin cfg0.N, ∀ a, (cfg0.win 6).xsize (cfg0.grid.coords t) a = (cfg0.win 6).size a := by decide +kernel
theorem moved0_6 (t : Fin cfg0.N) (j : (cfg0.win 6).block.Idx) : (cfg0.win 6).moved (cfg0.grid.coords t) j = true :=
  ((cfg0.win 6).moved_iff _ j).mpr fun a => by rw [xsize0_6 t a]; exact (j a).isLt
theorem fill0_6 (t : Fin cfg0.N) (d d' : (cfg0.win 6).block.Idx → Elt F (cfg0.win 6).elt) (g) :
    (cfg0.win 6).fill (cfg0.grid.coords t) d g = (cfg0.win 6).fill (cfg0.grid.coords t) d' g := by
  funext j; unfold Pipeline.Window.fill; rw [dif_pos (moved0_6 t j), dif_pos (moved0_6 t j)]
theorem before0_6_of {c : Dev nD} (dat : Dat τ (Elt F) Unit ℕ (UR sig nD τ) ℕ cfg0 c) (hA : dat.A 6 = V m c (Pipeline.arrRef spec0 6))
    (hafter : ∀ t, dat.after 6 t = X0_6 m c t) (t : Fin cfg0.N) (d) : dat.before 6 t d = X0_6 m c t :=
  (dat.before_in_eq_fetched 6 rfl (fun _ => rfl)
      (fun t t' h => funext fun a => congrArg (fun n => Pipeline.Clip.of n ((cfg0.win 6).size a) (S2x1024x7808.size a)) (congrFun h a))
      (fun t => by rw [hafter]; unfold X0_6; rw [Pipeline.Window.cut_fill]; unfold Dat.blockOf iblk; rw [hA]; try rfl) t d).trans
    (by unfold Dat.fetched X0_6; rw [fill0_6 t d dflt0_6]; unfold Dat.blockOf iblk; rw [hA]; try rfl)
def dflt0_7 : (cfg0.win 7).block.Idx → Elt F (cfg0.win 7).elt := fun _ => Classical.choice inferInstance
def X0_7 (c : Dev nD) (t : Fin cfg0.N) : (cfg0.win 7).block.Idx → Elt F (cfg0.win 7).elt :=
  (cfg0.win 7).fill (cfg0.grid.coords t) dflt0_7 (iblk m c 7 t)
theorem xsize0_7 : ∀ t : Fin cfg0.N, ∀ a, (cfg0.win 7).xsize (cfg0.grid.coords t) a = (cfg0.win 7).size a := by decide +kernel
theorem moved0_7 (t : Fin cfg0.N) (j : (cfg0.win 7).block.Idx) : (cfg0.win 7).moved (cfg0.grid.coords t) j = true :=
  ((cfg0.win 7).moved_iff _ j).mpr fun a => by rw [xsize0_7 t a]; exact (j a).isLt
theorem fill0_7 (t : Fin cfg0.N) (d d' : (cfg0.win 7).block.Idx → Elt F (cfg0.win 7).elt) (g) :
    (cfg0.win 7).fill (cfg0.grid.coords t) d g = (cfg0.win 7).fill (cfg0.grid.coords t) d' g := by
  funext j; unfold Pipeline.Window.fill; rw [dif_pos (moved0_7 t j), dif_pos (moved0_7 t j)]
theorem before0_7_of {c : Dev nD} (dat : Dat τ (Elt F) Unit ℕ (UR sig nD τ) ℕ cfg0 c) (hA : dat.A 7 = V m c (Pipeline.arrRef spec0 7))
    (hafter : ∀ t, dat.after 7 t = X0_7 m c t) (t : Fin cfg0.N) (d) : dat.before 7 t d = X0_7 m c t :=
  (dat.before_in_eq_fetched 7 rfl (fun _ => rfl)
      (fun t t' h => funext fun a => congrArg (fun n => Pipeline.Clip.of n ((cfg0.win 7).size a) (S2x1024x7808.size a)) (congrFun h a))
      (fun t => by rw [hafter]; unfold X0_7; rw [Pipeline.Window.cut_fill]; unfold Dat.blockOf iblk; rw [hA]; try rfl) t d).trans
    (by unfold Dat.fetched X0_7; rw [fill0_7 t d dflt0_7]; unfold Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1500000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev VO0_14 : View sig .tc .vmem S256x1536 .f32 := (Memref.whole cc0_stg14_0 : Memref sig .tc .vmem S256x1536 .f32).view
abbrev VO0_15 : View sig .tc .vmem S256x512 .f32 := (Memref.whole cc0_stg15_0 : Memref sig .tc .vmem S256x512 .f32).view
abbrev VO0_16 : View sig .tc .vmem S256x128 .f32 := (Memref.whole cc0_stg16_0 : Memref sig .tc .vmem S256x128 .f32).view
abbrev VO0_17 : View sig .tc .vmem S256x512 .bf16 := (Memref.whole cc0_stg17_0 : Memref sig .tc .vmem S256x512 .bf16).view
abbrev VO0_18 : View sig .tc .vmem S256x512 .bf16 := (Memref.whole cc0_stg18_0 : Memref sig .tc .vmem S256x512 .bf16).view
abbrev VO0_19 : View sig .tc .vmem S256x512 .bf16 := (Memref.whole cc0_stg19_0 : Memref sig .tc .vmem S256x512 .bf16).view
abbrev VO0_20 : View sig .tc .vmem S256x512 .bf16 := (Memref.whole cc0_stg20_0 : Memref sig .tc .vmem S256x512 .bf16).view
abbrev VO0_21 : View sig .tc .vmem S1024x128 .f32 := (Memref.whole cc0_stg21_0 : Memref sig .tc .vmem S1024x128 .f32).view
abbrev VO0_22 : View sig .tc .vmem S1024x128 .f32 := (Memref.whole cc0_stg22_0 : Memref sig .tc .vmem S1024x128 .f32).view
abbrev VO0_23 : View sig .tc .vmem S256x3072 .f32 := (Memref.whole cc0_stg23_0 : Memref sig .tc .vmem S256x3072 .f32).view
abbrev VO0_24 : View sig .tc .vmem S256x512 .f32 := (Memref.whole cc0_stg24_0 : Memref sig .tc .vmem S256x512 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x1536 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x1536 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1536 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x512 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1024x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1024x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S256x3072 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S256x512 .f32 := win0_24.stage (cfg0.slots t 24)
abbrev hs0_24 (t : Fin cfg0.N) : (ms0_24 t).IsWhole := hstage0_24 ((cfg0.slots t 24).cast nbuf0_24)
abbrev scM0_0 : Memref sig .tc .vmem S8x1536 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.InI

end
-- ==== Proof.InI.RunA.lean ====
/-
  A run of the body at any grid point: what it reads, and the list of stores it makes into each window it writes. For the idealization of the input projection.
-/
module

public import proofs.«01_k».proof.Proof.InI.Runs

@[expose] public section

set_option maxRecDepth 16384

noncomputable section

namespace Cert.Proof.InI

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) :
    Σ' (L14 : List (View.Piece (Elt F) S256x1536 .f32)), Σ' (L15 : List (View.Piece (Elt F) S256x512 .f32)), Σ' (L16 : List (View.Piece (Elt F) S256x128 .f32)), Σ' (L17 : List (View.Piece (Elt F) S256x512 .bf16)), Σ' (L18 : List (View.Piece (Elt F) S256x512 .bf16)), Σ' (L19 : List (View.Piece (Elt F) S256x512 .bf16)), Σ' (L20 : List (View.Piece (Elt F) S256x512 .bf16)), Σ' (L21 : List (View.Piece (Elt F) S1024x128 .f32)), Σ' (L22 : List (View.Piece (Elt F) S1024x128 .f32)), Σ' (L23 : List (View.Piece (Elt F) S256x3072 .f32)), { L24 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ d, owns (c : Thread nD τ) arg26 fullShare d)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, fun E K => ?run⟩
  case run =>
    simp only [cc0_in_proj_eq_skeleton]; unfold cc0_in_proj_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _, _; isplitr; swap; · iexact HS0
    ipureintro; rfl

end Cert.Proof.InI

end
-- ==== Proof.InI.Cover.lean ====
/-
  Four stores that each take every fourth row, from the first, second, third and fourth on, cover the array.
-/
module

public import proofs.«01_k».proof.Proof.InI.Runs

@[expose] public section

noncomputable section

namespace Cert.Proof.InI

open Cert.Kernel4Ideal Cert.Kernel4Ideal.Gen
open Idealize.ShloMosaic

variable {F : FTy → Type} [FloatOps F]

abbrev rows0 : Rect S1024x128 := ⟨(⟨![0, 0], S256x128.size, ![4, 1], inb_S1024x128_S256x128_0_0_s_4_1⟩ : LoadRect S1024x128), spos_4_1⟩
abbrev rows1 : Rect S1024x128 := ⟨(⟨![1, 0], S256x128.size, ![4, 1], inb_S1024x128_S256x128_1_0_s_4_1⟩ : LoadRect S1024x128), spos_4_1⟩
abbrev rows2 : Rect S1024x128 := ⟨(⟨![2, 0], S256x128.size, ![4, 1], inb_S1024x128_S256x128_2_0_s_4_1⟩ : LoadRect S1024x128), spos_4_1⟩
abbrev rows3 : Rect S1024x128 := ⟨(⟨![3, 0], S256x128.size, ![4, 1], inb_S1024x128_S256x128_3_0_s_4_1⟩ : LoadRect S1024x128), spos_4_1⟩

theorem mem_rows0 (y : S1024x128.Idx) (h : (y 0).val % 4 = 0) : y ∈ rows0.set := by
  refine rows0.mem_set.mpr fun a => ?_
  have h0 : (y 0).val < 1024 := (y 0).isLt
  have h1 : (y 1).val < 128 := (y 1).isLt
  match a with
  | ⟨0, _⟩ => exact ⟨(y 0).val / 4, show (y 0).val / 4 < 256 by omega, show (y 0).val = 0 + 4 * ((y 0).val / 4) by omega⟩
  | ⟨1, _⟩ => exact ⟨(y 1).val, h1, show (y 1).val = 0 + 1 * (y 1).val by omega⟩
theorem mem_rows1 (y : S1024x128.Idx) (h : (y 0).val % 4 = 1) : y ∈ rows1.set := by
  refine rows1.mem_set.mpr fun a => ?_
  have h0 : (y 0).val < 1024 := (y 0).isLt
  have h1 : (y 1).val < 128 := (y 1).isLt
  match a with
  | ⟨0, _⟩ => exact ⟨(y 0).val / 4, show (y 0).val / 4 < 256 by omega, show (y 0).val = 1 + 4 * ((y 0).val / 4) by omega⟩
  | ⟨1, _⟩ => exact ⟨(y 1).val, h1, show (y 1).val = 0 + 1 * (y 1).val by omega⟩
theorem mem_rows2 (y : S1024x128.Idx) (h : (y 0).val % 4 = 2) : y ∈ rows2.set := by
  refine rows2.mem_set.mpr fun a => ?_
  have h0 : (y 0).val < 1024 := (y 0).isLt
  have h1 : (y 1).val < 128 := (y 1).isLt
  match a with
  | ⟨0, _⟩ => exact ⟨(y 0).val / 4, show (y 0).val / 4 < 256 by omega, show (y 0).val = 2 + 4 * ((y 0).val / 4) by omega⟩
  | ⟨1, _⟩ => exact ⟨(y 1).val, h1, show (y 1).val = 0 + 1 * (y 1).val by omega⟩
theorem mem_rows3 (y : S1024x128.Idx) (h : (y 0).val % 4 = 3) : y ∈ rows3.set := by
  refine rows3.mem_set.mpr fun a => ?_
  have h0 : (y 0).val < 1024 := (y 0).isLt
  have h1 : (y 1).val < 128 := (y 1).isLt
  match a with
  | ⟨0, _⟩ => exact ⟨(y 0).val / 4, show (y 0).val / 4 < 256 by omega, show (y 0).val = 3 + 4 * ((y 0).val / 4) by omega⟩
  | ⟨1, _⟩ => exact ⟨(y 1).val, h1, show (y 1).val = 0 + 1 * (y 1).val by omega⟩

theorem cover_rows (w0 w1 w2 w3 : S256x128.Idx → Elt F .f32) (y : S1024x128.Idx) :
    ∃ p ∈ ([⟨rows3, w3⟩, ⟨rows2, w2⟩, ⟨rows1, w1⟩, ⟨rows0, w0⟩] : List (View.Piece (Elt F) S1024x128 .f32)), y ∈ p.1.set := by
  have h : (y 0).val % 4 = 0 ∨ (y 0).val % 4 = 1 ∨ (y 0).val % 4 = 2 ∨ (y 0).val % 4 = 3 := by omega
  rcases h with h | h | h | h
  · exact ⟨⟨rows0, w0⟩, by simp, mem_rows0 y h⟩
  · exact ⟨⟨rows1, w1⟩, by simp, mem_rows1 y h⟩
  · exact ⟨⟨rows2, w2⟩, by simp, mem_rows2 y h⟩
  · exact ⟨⟨rows3, w3⟩, by simp, mem_rows3 y h⟩

end Cert.Proof.InI

end
-- ==== Proof.InI.Frame.lean ====
/-
  What the body leaves in each window, the run of the whole call, and that it leaves the arguments as they were. For the idealization of the input projection.
-/
module

public import proofs.«01_k».proof.Proof.InI.RunA
public import proofs.«01_k».proof.Proof.InI.Cover
public import Idealize.ShloMosaic.Lib.Claim

@[expose] public section

set_option maxHeartbeats 16000000
set_option maxRecDepth 16384

noncomputable section

namespace Cert.Proof.InI

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).1 S256x512.size (by sl_kernel_rfl) y

def out0_A_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x1536 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).1)

theorem cover0_A_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.1 S256x512.size (by sl_kernel_rfl) y

def out0_A_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.1)

theorem cover0_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.1 S256x128.size (by sl_kernel_rfl) y

def out0_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.1)

theorem cover0_A_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.1 S128x512.size (by sl_kernel_rfl) y

def out0_A_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.1)

theorem cover0_A_18 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.1 S256x512.size (by sl_kernel_rfl) y

def out0_A_18 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.1)

theorem cover0_A_19 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.1 S256x512.size (by sl_kernel_rfl) y

def out0_A_19 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.1)

theorem cover0_A_20 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.1 S256x512.size (by sl_kernel_rfl) y

def out0_A_20 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.1)

theorem cover0_A_21 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.1, y ∈ pc.1.set :=
  cover_rows _ _ _ _ y

def out0_A_21 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S1024x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.1)

theorem cover0_A_22 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.1, y ∈ pc.1.set :=
  cover_rows _ _ _ _ y

def out0_A_22 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S1024x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.1)

theorem cover0_A_23 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.1 S256x512.size (by sl_kernel_rfl) y

def out0_A_23 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x3072 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.1)

theorem cover0_A_24 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.2.1 S128x512.size (by sl_kernel_rfl) y

def out0_A_24 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
    (x0 : Vec F S256x1024 .f32) (x1 : Vec F S1x1024 .f32) (x2 : Vec F S1x1024x2048 .bf16) (x3 : Vec F S1x1024x128 .bf16) (x4 : Vec F S1x1024x1024 .bf16) (x5 : Vec F S1x1024x1536 .bf16) (x6 : Vec F S1x1024x1536 .bf16) (x7 : Vec F S1x1024x1536 .bf16) (x8 : Vec F S1x512 .f32) (x9 : Vec F S1x512 .f32) (x10 : Vec F S4x128x128 .f32) (x11 : Vec F S128x512 .f32) (x12 : Vec F S1x8x1536 .f32) (x13 : Vec F S4x1536 .f32) : Vec F S256x512 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13).2.2.2.2.2.2.2.2.2.2.1)

def outsAt0 (c : Dev nD) (t : Fin cfg0.N) : Vec F S256x1536 .f32 × Vec F S256x512 .f32 × Vec F S256x128 .f32 × Vec F S256x512 .bf16 × Vec F S256x512 .bf16 × Vec F S256x512 .bf16 × Vec F S256x512 .bf16 × Vec F S1024x128 .f32 × Vec F S1024x128 .f32 × Vec F S256x3072 .f32 × Vec F S256x512 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2.1
    | ⟨23, _⟩ => (outsAt0 m c t).2.2.2.2.2.2.2.2.2.1
    | ⟨24, _⟩ => (outsAt0 m c t).2.2.2.2.2.2.2.2.2.2
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2.1 := by dsimp only [dats]
theorem after0_23 (c : Dev nD) (t : Fin cfg0.N) : (dats m 0 c).after 23 t = (outsAt0 m c t).2.2.2.2.2.2.2.2.2.1 := by dsimp only [dats]
theorem after0_24 (c : Dev nD) (t : Fin cfg0.N) : (dats m 0 c).after 24 t = (outsAt0 m c t).2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outsAt0
  unfold out0_A_14 out0_A_15 out0_A_16 out0_A_17 out0_A_18 out0_A_19 out0_A_20 out0_A_21 out0_A_22 out0_A_23 out0_A_24; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Proof.InI

end
-- ==== Proof.InV.Host.lean ====
/-
  The arrays the blocks are cut from, read off the arguments, and the blocks at a grid point.
-/
module

public import proofs.«01_k».proof.Proof.InV.Row
public import proofs.«01_k».proof.Proof.InI.Frame
public import Idealize.ShloMosaic.Lib.Pipeline.ValueKit

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic Idealize.ShloMosaic.TcCoe Idealize.ShloMosaic.Pipeline
open Idealize.SL.Sem

variable (m : (ℓ : Loc nD τ sig) → Buf (Elt Ideal) ℓ)

theorem V_x (c : Dev nD) (q : Fin 512) (n : Fin 1024) : V m c main_v32 (ix2 q n) = m ((c : Thread nD τ).loc main_arg0) (ix3 ⟨q.val / 16, by omega⟩ ⟨q.val % 16, by omega⟩ n) := by
  have e : V m c main_v32 = shapeCast S512x1024 (m ((c : Thread nD τ).loc main_arg0) : FVec Ideal S32x16x1024 .f32) shapeCasts_S32x16x1024_S512x1024 := by
    simp only [V, hostOps0, hostOps0_1, hostOps0_2, hostOps0_3, hostOps0_4, List.flatten_cons, List.flatten_nil, List.append_nil, List.cons_append, List.nil_append]; after_results; rfl
  rw [e]
  exact shapeCast_apply _ _ (ix2 q n) _ (by
    refine (Shape.rowMajor_val_three (d := ![32, 16, 1024]) _).trans (Eq.trans ?_ (Shape.rowMajor_val_two (d := ![512, 1024]) _).symm)
    show (q.val / 16 * 16 + q.val % 16) * 1024 + n.val = q.val * 1024 + n.val
    omega)

theorem V_g (c : Dev nD) (n : Fin 1024) : V m c main_v35 (ix2 0 n) = m ((c : Thread nD τ).loc main_arg2) (ix2 0 n) := by
  have e : V m c main_v35 = shapeCast S1x1024 (shapeCast S1024 (extractStridedSlice S1x1024 ![0, 0] (m ((c : Thread nD τ).loc main_arg2) : FVec Ideal S2x1024 .f32) slices_S2x1024_S1x1024_0_0) shapeCasts_S1x1024_S1024) shapeCasts_S1024_S1x1024 := by
    simp only [V, hostOps0, hostOps0_1, hostOps0_2, hostOps0_3, hostOps0_4, List.flatten_cons, List.flatten_nil, List.append_nil, List.cons_append, List.nil_append]; after_results; rfl
  rw [e]
  pointwise

/-- The packed weights: the first columns, the later ones moved to the left, and the small ones at the end with zeros after them. -/
def packed (w : FVec Ideal S2x1024x7688 .f32) : FVec Ideal S2x1024x7808 .bf16 :=
  concatenate S2x1024x7808 2
    [⟨S2x1024x2048, extractStridedSlice S2x1024x2048 ![0, 0, 0] (truncf FTy.bf16 w bitsLt_bf16_f32 : FVec Ideal S2x1024x7688 .bf16) slices_S2x1024x7688_S2x1024x2048_0_0_0⟩,
     ⟨S2x1024x5632, extractStridedSlice S2x1024x5632 ![0, 0, 2056] (truncf FTy.bf16 w bitsLt_bf16_f32 : FVec Ideal S2x1024x7688 .bf16) slices_S2x1024x7688_S2x1024x5632_0_0_2056⟩,
     ⟨S2x1024x128, pad S2x1024x128 ![0, 0, 0] ![0, 0, 120] ![0, 0, 0]
       (extractStridedSlice S2x1024x8 ![0, 0, 2048] (truncf FTy.bf16 w bitsLt_bf16_f32 : FVec Ideal S2x1024x7688 .bf16) slices_S2x1024x7688_S2x1024x8_0_0_2048)
       (sitofp .bf16 (constantI S_ 32 0#32) : FVec Ideal S_ .bf16) pads_S2x1024x8_S2x1024x128_000_000_01200 h_S_⟩]
    concatenates_S2x1024x2048_S2x1024x5632_S2x1024x128_S2x1024x7808_d2

theorem V_w (c : Dev nD) : V m c main_v5 = packed (m ((c : Thread nD τ).loc main_arg3)) := by
  simp only [V, hostOps0, hostOps0_1, hostOps0_2, hostOps0_3, hostOps0_4, List.flatten_cons, List.flatten_nil, List.append_nil, List.cons_append, List.nil_append]
  after_results
  rfl

theorem zero_word : (FloatOps.sitofp FTy.bf16 (0#32) : Ideal .bf16) = 0 := by
  show (((0#32).toInt : ℝ) : EReal) = 0
  simp

section Packed

variable (w : FVec Ideal S2x1024x7688 .f32) (l : Fin 2) (k : Fin 1024)

theorem packed_first (n : Fin 2048) : packed w (ix3 l k ⟨n.val, by omega⟩) = w (ix3 l k ⟨n.val, by omega⟩) := by
  have h : n.val < 2048 := n.isLt
  pointwise [packed]

theorem packed_later (n : Fin 5632) : packed w (ix3 l k ⟨2048 + n.val, by omega⟩) = w (ix3 l k ⟨2056 + n.val, by omega⟩) := by
  have h : n.val < 5632 := n.isLt
  pointwise [packed]

theorem packed_small (n : Fin 128) : packed w (ix3 l k ⟨7680 + n.val, by omega⟩) = if h : n.val < 8 then w (ix3 l k ⟨2048 + n.val, by omega⟩) else 0 := by
  have h : n.val < 128 := n.isLt
  have e1 : ¬ 7680 + n.val < 2048 := by omega
  have e2 : ¬ 7680 + n.val - 2048 < 5632 := by omega
  have e3 : 7680 + n.val - 2048 - 5632 = n.val := by omega
  pointwise [packed]
  refine (dif_neg e1).trans ((dif_neg e2).trans ?_)
  by_cases h8 : n.val < 8
  · refine (dif_pos (e3.symm ▸ h8)).trans (Eq.trans ?_ (dif_pos h8).symm)
    exact congrArg w (congrArg (ix3 l k) (Fin.ext (congrArg (2048 + ·) e3)))
  · refine (dif_neg (e3.symm ▸ h8)).trans (Eq.trans ?_ (dif_neg h8).symm)
    exact zero_word

end Packed

/-! Which block of its array each window holds at each grid point. -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0, 0] := by decide +kernel
theorem idx3 : ∀ t : Fin grid0.N, win0_3.index t = ![0, 0, 60] := by decide +kernel
theorem idx5 : ∀ t : Fin grid0.N, win0_5.index t = ![0, 0, 2] := by decide +kernel
theorem idx6 : ∀ t : Fin grid0.N, win0_6.index t = ![0, 0, 3] := by decide +kernel
theorem idx7 : ∀ t : Fin grid0.N, win0_7.index t = ![0, 0, 4] := by decide +kernel
theorem idx14 : ∀ t : Fin grid0.N, win0_14.index t = ![t.val, 0] := by decide +kernel
theorem idx15 : ∀ t : Fin grid0.N, win0_15.index t = ![t.val, 0] := by decide +kernel
theorem idx16 : ∀ t : Fin grid0.N, win0_16.index t = ![t.val, 0] := by decide +kernel
theorem idx18 : ∀ t : Fin grid0.N, win0_18.index t = ![t.val, 0] := by decide +kernel
theorem idx19 : ∀ t : Fin grid0.N, win0_19.index t = ![t.val, 0] := by decide +kernel
theorem idx20 : ∀ t : Fin grid0.N, win0_20.index t = ![t.val, 0] := by decide +kernel
theorem idx21 : ∀ t : Fin grid0.N, win0_21.index t = ![t.val, 0] := by decide +kernel
theorem idx22 : ∀ t : Fin grid0.N, win0_22.index t = ![t.val, 0] := by decide +kernel
theorem idx23 : ∀ t : Fin grid0.N, win0_23.index t = ![t.val, 0] := by decide +kernel

/-- A grid point's row in the whole array. -/
def at_ (t : Fin cfg0.N) (r : Fin 256) : Fin 512 := ⟨t.val * 256 + r.val, by have : t.val < 2 := lt_of_lt_of_eq t.isLt (by decide); omega⟩

theorem blk0 (c : Dev nD) (t : Fin cfg0.N) (r : Fin 256) (n : Fin 1024) : iblk m c 0 t (ix2 r n) = V m c main_v32 (ix2 (at_ t r) n) := by
  unfold iblk at_
  blk_ext [idx0 t]
theorem blk1 (c : Dev nD) (t : Fin cfg0.N) (n : Fin 1024) : iblk m c 1 t (ix2 0 n) = V m c main_v35 (ix2 0 n) := by
  unfold iblk
  blk_ext [idx1 t]
theorem blk3 (c : Dev nD) (t : Fin cfg0.N) (k : Fin 1024) (n : Fin 128) : iblk m c 3 t (ix3 0 k n) = V m c main_v5 (ix3 0 k ⟨7680 + n.val, by omega⟩) := by
  unfold iblk
  blk_ext [idx3 t]
theorem blk2 (c : Dev nD) (t : Fin cfg0.N) (k : Fin 1024) (n : Fin 2048) : X0_2 m c t (ix3 0 k n) = V m c main_v5 (ix3 0 k ⟨n.val, by omega⟩) := by
  unfold X0_2 Pipeline.Window.fill
  rw [dif_pos (moved0_2 t _)]
  unfold iblk
  blk_ext [idx2 t]
theorem blk5 (c : Dev nD) (t : Fin cfg0.N) (k : Fin 1024) (n : Fin 1536) : X0_5 m c t (ix3 0 k n) = V m c main_v5 (ix3 0 k ⟨3072 + n.val, by omega⟩) := by
  unfold X0_5 Pipeline.Window.fill
  rw [dif_pos (moved0_5 t _)]
  unfold iblk
  blk_ext [idx5 t]
theorem blk6 (c : Dev nD) (t : Fin cfg0.N) (k : Fin 1024) (n : Fin 1536) : X0_6 m c t (ix3 0 k n) = V m c main_v5 (ix3 0 k ⟨4608 + n.val, by omega⟩) := by
  unfold X0_6 Pipeline.Window.fill
  rw [dif_pos (moved0_6 t _)]
  unfold iblk
  blk_ext [idx6 t]
theorem blk7 (c : Dev nD) (t : Fin cfg0.N) (k : Fin 1024) (n : Fin 1536) : X0_7 m c t (ix3 0 k n) = V m c main_v5 (ix3 0 k ⟨6144 + n.val, by omega⟩) := by
  unfold X0_7 Pipeline.Window.fill
  rw [dif_pos (moved0_7 t _)]
  unfold iblk
  blk_ext [idx7 t]

end Cert.Proof.InV

end
-- ==== Proof.InV.Pay.lean ====
/-
  The arithmetic on one block of tokens for the input projections: what each store holds, at a row and a column, is the normalized row
  times a column of the weights.
-/
module

public import proofs.«01_k».proof.Proof.Post.Row
public import proofs.«01_k».proof.Proof.Gen.Kernel4Ideal.Skeleton
public import Idealize.ShloMosaic.Lib.Pointwise

@[expose] public section

set_option maxRecDepth 16384

noncomputable section

namespace Cert.Proof.InV

open Cert.Kernel4Ideal Cert.Kernel4Ideal.Gen
open Cert.Proof.Post
open Idealize.ShloMosaic

theorem lin_eq {K N M : ℕ} {x x' : Fin K → EReal} {w : Fin K → Fin N → EReal} {w' : Fin K → Fin M → EReal} {n : Fin N} {n' : Fin M}
    (hx : ∀ k, x k = x' k) (hw : ∀ k, w k n = w' k n') : lin x w n = lin x' w' n' :=
  Finset.sum_congr rfl fun k _ => congrArg₂ (· * ·) (hx k) (hw k)

theorem pay1_at (x : Vec Ideal S256x1024 .f32) (g : Vec Ideal S1x1024 .f32) (r : Fin 256) (n : Fin 1024) :
    k0_pay1 x g (ix2 r n) = rms (fun n => x (ix2 r n)) (fun n => g (ix2 0 n)) n := by
  pointwise [k0_pay1]
  rfl

theorem pay2_at (x : Vec Ideal S256x1024 .f32) (g : Vec Ideal S1x1024 .f32) (w : Vec Ideal S1x1024x512 .bf16) (r : Fin 256) (n : Fin 512) :
    k0_pay2 x g w (ix2 r n) = lin (fun k => k0_pay1 x g (ix2 r k)) (fun k n => w (ix3 0 k n)) n := by
  pointwise [k0_pay2]
  rfl

theorem pay4_at (x : Vec Ideal S256x1024 .f32) (g : Vec Ideal S1x1024 .f32) (w : Vec Ideal S1x1024x512 .bf16) (r : Fin 256) (n : Fin 512) :
    k0_pay4 x g w (ix2 r n) = lin (fun k => k0_pay1 x g (ix2 r k)) (fun k n => w (ix3 0 k n)) n := by
  pointwise [k0_pay4]
  rfl

section Rows

variable (v : FVec Ideal S256x1024 .bf16) (w : Vec Ideal S1x1024x512 .bf16) (r : Fin 256)

theorem pay6_at (n : Fin 512) : k0_pay6 v (k0_pay5 w) (ix2 r n) = lin (fun k => v (ix2 r k)) (fun k n => w (ix3 0 k n)) n := by
  pointwise [k0_pay6, k0_pay5]
  rfl

theorem pay42_at (w : Vec Ideal S1x1024x128 .bf16) (n : Fin 128) : k0_pay42 v w (ix2 r n) = lin (fun k => v (ix2 r k)) (fun k n => w (ix3 0 k n)) n := by
  pointwise [k0_pay42]
  rfl

theorem pay16_at (n : Fin 512) : k0_pay16 v w (ix2 r n) = lin (fun k => v (ix2 r k)) (fun k n => w (ix3 0 k n)) n := by
  pointwise [k0_pay16]
  rfl
theorem pay22_at (n : Fin 512) : k0_pay22 v w (ix2 r n) = lin (fun k => v (ix2 r k)) (fun k n => w (ix3 0 k n)) n := by
  pointwise [k0_pay22]
  rfl
theorem pay35_at (n : Fin 512) : k0_pay35 v w (ix2 r n) = lin (fun k => v (ix2 r k)) (fun k n => w (ix3 0 k n)) n := by
  pointwise [k0_pay35]
  rfl
theorem pay41_at (n : Fin 512) : k0_pay41 v w (ix2 r n) = lin (fun k => v (ix2 r k)) (fun k n => w (ix3 0 k n)) n := by
  pointwise [k0_pay41]
  rfl
theorem pay43_at (n : Fin 512) : k0_pay43 v w (ix2 r n) = lin (fun k => v (ix2 r k)) (fun k n => w (ix3 0 k n)) n := by
  pointwise [k0_pay43]
  rfl
theorem pay44_at (n : Fin 512) : k0_pay44 v w (ix2 r n) = lin (fun k => v (ix2 r k)) (fun k n => w (ix3 0 k n)) n := by
  pointwise [k0_pay44]
  rfl
theorem pay45_at (n : Fin 512) : k0_pay45 v w (ix2 r n) = lin (fun k => v (ix2 r k)) (fun k n => w (ix3 0 k n)) n := by
  pointwise [k0_pay45]
  rfl
theorem pay46_at (n : Fin 512) : k0_pay46 v w (ix2 r n) = lin (fun k => v (ix2 r k)) (fun k n => w (ix3 0 k n)) n := by
  pointwise [k0_pay46]
  rfl
theorem pay47_at (n : Fin 512) : k0_pay47 v w (ix2 r n) = lin (fun k => v (ix2 r k)) (fun k n => w (ix3 0 k n)) n := by
  pointwise [k0_pay47]
  rfl
theorem pay48_at (n : Fin 512) : k0_pay48 v w (ix2 r n) = lin (fun k => v (ix2 r k)) (fun k n => w (ix3 0 k n)) n := by
  pointwise [k0_pay48]
  rfl

theorem pay17_at (n : Fin 512) : k0_pay17 v w (ix2 r n) = lin (fun k => v (ix2 r k)) (fun k n => w (ix3 0 k n)) n := by
  pointwise [k0_pay17]
  exact pay16_at v w r n

theorem pay18_at (d : Fin 128) : k0_pay18 v w (ix2 r d) = lin (fun k => v (ix2 r k)) (fun k n => w (ix3 0 k n)) ⟨d.val, by omega⟩ := by
  pointwise [k0_pay18]
  exact pay16_at v w r _
theorem pay19_at (d : Fin 128) : k0_pay19 v w (ix2 r d) = lin (fun k => v (ix2 r k)) (fun k n => w (ix3 0 k n)) ⟨128 + d.val, by omega⟩ := by
  pointwise [k0_pay19]
  exact pay16_at v w r _
theorem pay20_at (d : Fin 128) : k0_pay20 (k0_pay16 v w) (ix2 r d) = lin (fun k => v (ix2 r k)) (fun k n => w (ix3 0 k n)) ⟨256 + d.val, by omega⟩ := by
  pointwise [k0_pay20]
  exact pay16_at v w r _
theorem pay21_at (d : Fin 128) : k0_pay21 (k0_pay16 v w) (ix2 r d) = lin (fun k => v (ix2 r k)) (fun k n => w (ix3 0 k n)) ⟨384 + d.val, by omega⟩ := by
  pointwise [k0_pay21]
  exact pay16_at v w r _

theorem pay36_at (n : Fin 512) : k0_pay36 (k0_pay35 v w) (ix2 r n) = lin (fun k => v (ix2 r k)) (fun k n => w (ix3 0 k n)) n := by
  pointwise [k0_pay36]
  exact pay35_at v w r n
theorem pay37_at (d : Fin 128) : k0_pay37 (k0_pay35 v w) (ix2 r d) = lin (fun k => v (ix2 r k)) (fun k n => w (ix3 0 k n)) ⟨d.val, by omega⟩ := by
  pointwise [k0_pay37]
  exact pay35_at v w r _
theorem pay38_at (d : Fin 128) : k0_pay38 (k0_pay35 v w) (ix2 r d) = lin (fun k => v (ix2 r k)) (fun k n => w (ix3 0 k n)) ⟨128 + d.val, by omega⟩ := by
  pointwise [k0_pay38]
  exact pay35_at v w r _
theorem pay39_at (d : Fin 128) : k0_pay39 (k0_pay35 v w) (ix2 r d) = lin (fun k => v (ix2 r k)) (fun k n => w (ix3 0 k n)) ⟨256 + d.val, by omega⟩ := by
  pointwise [k0_pay39]
  exact pay35_at v w r _
theorem pay40_at (d : Fin 128) : k0_pay40 (k0_pay35 v w) (ix2 r d) = lin (fun k => v (ix2 r k)) (fun k n => w (ix3 0 k n)) ⟨384 + d.val, by omega⟩ := by
  pointwise [k0_pay40]
  exact pay35_at v w r _

end Rows

end Cert.Proof.InV

end
-- ==== Proof.InV.Piece.lean ====
/-
  What the body leaves in each window it writes, at a row and a column: the normalized row times a column of the weights the body was given.
-/
module

public import proofs.«01_k».proof.Proof.InV.Pay
public import proofs.«01_k».proof.Proof.InI.Frame
public import Idealize.ShloMosaic.Lib.Pipeline.ValueKit

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

/-- Where a block of columns lies in its array. -/
theorem emb_cols {N W o : ℕ} (inb : ∀ a, (![0, o] : Fin 2 → ℕ) a + (![256, W] : Fin 2 → ℕ) a ≤ (⟨2, ![256, N]⟩ : Shape).size a) (h : o + W ≤ N)
    (a : Fin 256) (b : Fin W) : (Rect.unit (s := ⟨2, ![256, N]⟩) ![0, o] ![256, W] inb).emb (ix2 a b) = ix2 a ⟨o + b.val, by omega⟩ := by
  refine funext fun x => Fin.ext ?_
  match x with
  | ⟨0, _⟩ => show 0 + 1 * a.val = a.val; omega
  | ⟨1, _⟩ => show o + 1 * b.val = o + b.val; omega

theorem emb_rows0 (a : Fin 256) (b : Fin 128) : rows0.emb (ix2 a b) = ix2 ⟨0 + 4 * a.val, by omega⟩ b := by
  refine funext fun x => Fin.ext ?_
  match x with
  | ⟨0, _⟩ => rfl
  | ⟨1, _⟩ => show 0 + 1 * b.val = b.val; omega
theorem emb_rows1 (a : Fin 256) (b : Fin 128) : rows1.emb (ix2 a b) = ix2 ⟨1 + 4 * a.val, by omega⟩ b := by
  refine funext fun x => Fin.ext ?_
  match x with
  | ⟨0, _⟩ => rfl
  | ⟨1, _⟩ => show 0 + 1 * b.val = b.val; omega
theorem emb_rows2 (a : Fin 256) (b : Fin 128) : rows2.emb (ix2 a b) = ix2 ⟨2 + 4 * a.val, by omega⟩ b := by
  refine funext fun x => Fin.ext ?_
  match x with
  | ⟨0, _⟩ => rfl
  | ⟨1, _⟩ => show 0 + 1 * b.val = b.val; omega
theorem emb_rows3 (a : Fin 256) (b : Fin 128) : rows3.emb (ix2 a b) = ix2 ⟨3 + 4 * a.val, by omega⟩ b := by
  refine funext fun x => Fin.ext ?_
  match x with
  | ⟨0, _⟩ => rfl
  | ⟨1, _⟩ => show 0 + 1 * b.val = b.val; omega

/-- A column of a block of weights, read through a rectangle of columns. -/
theorem col {N W o : ℕ} {arg : Memref sig .tc .vmem ⟨3, ![1, 1024, N]⟩ .bf16} (harg : arg.IsWhole) (x : Vec Ideal ⟨3, ![1, 1024, N]⟩ .bf16)
    (inb : ∀ a, (![0, 0, o] : Fin 3 → ℕ) a + (![1, 1024, W] : Fin 3 → ℕ) a ≤ (⟨3, ![1, 1024, N]⟩ : Shape).size a) (h : o + W ≤ N) (k : Fin 1024) (n : Fin W) :
    View.readAt (Elt Ideal) arg.view (Rect.unit (s := ⟨3, ![1, 1024, N]⟩) ![0, 0, o] ![1, 1024, W] inb).toLoadRect (harg.unread x) (ix3 0 k n)
      = x (ix3 0 k ⟨o + n.val, by omega⟩) := by
  refine (congrFun (View.readAt_eq_ld arg.view (harg.unread x) (Rect.unit (s := ⟨3, ![1, 1024, N]⟩) ![0, 0, o] ![1, 1024, W] inb)) (ix3 0 k n)).trans ?_
  rw [harg.read_unread]
  refine congrArg x (funext fun y => Fin.ext ?_)
  match y with
  | ⟨0, _⟩ => rfl
  | ⟨1, _⟩ => show 0 + 1 * k.val = k.val; omega
  | ⟨2, _⟩ => show o + 1 * n.val = o + n.val; omega

/-- A row of a block, normalized. -/
def nrm (x0 : Vec Ideal S256x1024 .f32) (x1 : Vec Ideal S1x1024 .f32) (r : Fin 256) : Fin 1024 → EReal := rms (fun k => x0 (ix2 r k)) (fun k => x1 (ix2 0 k))

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

theorem whole_x : View.readAt (Elt Ideal) arg1.view (Rect.unit ![0, 0] S256x1024.size inb_S256x1024_S256x1024_0_0).toLoadRect (harg1.unread x0) = x0 := by
  refine (View.readAt_eq_ld arg1.view (harg1.unread x0) (Rect.unit ![0, 0] S256x1024.size inb_S256x1024_S256x1024_0_0)).trans ?_
  rw [harg1.read_unread]
  exact View.ld_unit_lit _ x0 (by decide)
theorem whole_g : View.readAt (Elt Ideal) arg2.view (Rect.unit ![0, 0] S1x1024.size inb_S1x1024_S1x1024_0_0).toLoadRect (harg2.unread x1) = x1 := by
  refine (View.readAt_eq_ld arg2.view (harg2.unread x1) (Rect.unit ![0, 0] S1x1024.size inb_S1x1024_S1x1024_0_0)).trans ?_
  rw [harg2.read_unread]
  exact View.ld_unit_lit _ x1 (by decide)

theorem row_at (r : Fin 256) (k : Fin 1024) : kernelRun0_A.sl.r c arg1 harg1 arg2 harg2 x0 x1 (ix2 r k) = nrm x0 x1 r k := by
  unfold kernelRun0_A.sl.r
  rw [whole_x, whole_g]
  exact pay1_at x0 x1 r k
theorem row_at' (r : Fin 256) (k : Fin 1024) :
    k0_pay1 (View.readAt (Elt Ideal) arg1.view (Rect.unit ![0, 0] S256x1024.size inb_S256x1024_S256x1024_0_0).toLoadRect (harg1.unread x0))
      (View.readAt (Elt Ideal) arg2.view (Rect.unit ![0, 0] S1x1024.size inb_S1x1024_S1x1024_0_0).toLoadRect (harg2.unread x1)) (ix2 r k) = nrm x0 x1 r k := by
  rw [whole_x, whole_g]
  exact pay1_at x0 x1 r k

end Cert.Proof.InV

end
-- ==== Proof.InV.Out14.lean ====
/-
  What the body leaves in a window it writes: the three streams before the convolution.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g14 (x0 : Vec Ideal S256x1024 .f32) (x1 : Vec Ideal S1x1024 .f32) (x2 : Vec Ideal S1x1024x2048 .bf16) : (⟨2, ![256, 1536]⟩ : Shape).Idx → EReal := fun y =>
  (fun (R : Fin 256) (n : Fin 1536) => lin (nrm x0 x1 R) (fun k n => x2 (ix3 0 k n)) ⟨n.val, by omega⟩) (y 0) (y 1)
theorem g14_at (x0 : Vec Ideal S256x1024 .f32) (x1 : Vec Ideal S1x1024 .f32) (x2 : Vec Ideal S1x1024x2048 .bf16) (R : Fin 256) (n : Fin 1536) : g14 x0 x1 x2 (ix2 R n) = lin (nrm x0 x1 R) (fun k n => x2 (ix3 0 k n)) ⟨n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The three streams before the convolution. -/
theorem out14_at (R : Fin 256) (n : Fin 1536) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x2 (ix3 0 k n)) ⟨n.val, by omega⟩ := by
  unfold out0_A_14
  rw [View.read_writes_junk_eq_canon]
  refine View.canon_apply_of_pieces (g14 x0 x1 x2) _ (fun p hp y => ?_) (ix2 R n)
    (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  unfold kernelRun0_A.sl.r_2 at hp
  simp only [List.mem_cons, List.not_mem_nil, or_false] at hp
  rcases hp with rfl | rfl | rfl
  · obtain ⟨a, b, rfl⟩ : ∃ (a : Fin 256) (b : Fin 512), y = ix2 a b := ⟨y 0, y 1, (ix2_eta y).symm⟩
    refine Eq.trans ?_ (congrArg (g14 x0 x1 x2) (emb_cols inb_S256x1536_S256x512_0_1024 (by decide) a b).symm)
    refine Eq.trans ?_ (g14_at x0 x1 x2 a _).symm
    refine (pay22_at _ _ a b).trans (lin_eq (fun k => row_at c arg1 harg1 arg2 harg2 x0 x1 a k) (fun k => (col harg3 x2 inb_S1x1024x2048_S1x1024x512_0_0_1024 (by decide) k _).trans ?_))
    exact congrArg (fun n => x2 (ix3 0 k n)) (Fin.ext (by simp <;> omega))
  · obtain ⟨a, b, rfl⟩ : ∃ (a : Fin 256) (b : Fin 512), y = ix2 a b := ⟨y 0, y 1, (ix2_eta y).symm⟩
    refine Eq.trans ?_ (congrArg (g14 x0 x1 x2) (emb_cols inb_S256x1536_S256x512_0_512 (by decide) a b).symm)
    refine Eq.trans ?_ (g14_at x0 x1 x2 a _).symm
    refine (pay6_at _ _ a b).trans (lin_eq (fun k => row_at c arg1 harg1 arg2 harg2 x0 x1 a k) (fun k => (col harg3 x2 inb_S1x1024x2048_S1x1024x512_0_0_512 (by decide) k _).trans ?_))
    exact congrArg (fun n => x2 (ix3 0 k n)) (Fin.ext (by simp <;> omega))
  · obtain ⟨a, b, rfl⟩ : ∃ (a : Fin 256) (b : Fin 512), y = ix2 a b := ⟨y 0, y 1, (ix2_eta y).symm⟩
    refine Eq.trans ?_ (congrArg (g14 x0 x1 x2) (emb_cols inb_S256x1536_S256x512_0_0 (by decide) a b).symm)
    refine Eq.trans ?_ (g14_at x0 x1 x2 a _).symm
    refine (pay2_at _ _ _ a b).trans (lin_eq (fun k => row_at' arg1 harg1 arg2 harg2 x0 x1 a k) (fun k => (col harg3 x2 inb_S1x1024x2048_S1x1024x512_0_0_0 (by decide) k _).trans ?_))
    exact congrArg (fun n => x2 (ix3 0 k n)) (Fin.ext (by simp <;> omega))

end Cert.Proof.InV

end
-- ==== Proof.InV.Out15.lean ====
/-
  What the body leaves in a window it writes: the output gate.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g15 (x0 : Vec Ideal S256x1024 .f32) (x1 : Vec Ideal S1x1024 .f32) (x2 : Vec Ideal S1x1024x2048 .bf16) : (⟨2, ![256, 512]⟩ : Shape).Idx → EReal := fun y =>
  (fun (R : Fin 256) (n : Fin 512) => lin (nrm x0 x1 R) (fun k n => x2 (ix3 0 k n)) ⟨1536 + n.val, by omega⟩) (y 0) (y 1)
theorem g15_at (x0 : Vec Ideal S256x1024 .f32) (x1 : Vec Ideal S1x1024 .f32) (x2 : Vec Ideal S1x1024x2048 .bf16) (R : Fin 256) (n : Fin 512) : g15 x0 x1 x2 (ix2 R n) = lin (nrm x0 x1 R) (fun k n => x2 (ix3 0 k n)) ⟨1536 + n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The output gate. -/
theorem out15_at (R : Fin 256) (n : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x2 (ix3 0 k n)) ⟨1536 + n.val, by omega⟩ := by
  unfold out0_A_15
  rw [View.read_writes_junk_eq_canon]
  refine View.canon_apply_of_pieces (g15 x0 x1 x2) _ (fun p hp y => ?_) (ix2 R n)
    (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  simp only [List.mem_cons, List.not_mem_nil, or_false] at hp
  subst hp
  · obtain ⟨a, b, rfl⟩ : ∃ (a : Fin 256) (b : Fin 512), y = ix2 a b := ⟨y 0, y 1, (ix2_eta y).symm⟩
    refine Eq.trans ?_ (congrArg (g15 x0 x1 x2) (emb_cols inb_S256x512_S256x512_0_0 (by decide) a b).symm)
    refine Eq.trans ?_ (g15_at x0 x1 x2 a _).symm
    refine (pay41_at _ _ a b).trans (lin_eq (fun k => row_at c arg1 harg1 arg2 harg2 x0 x1 a k) (fun k => (col harg3 x2 inb_S1x1024x2048_S1x1024x512_0_0_1536 (by decide) k _).trans ?_))
    exact congrArg (fun n => x2 (ix3 0 k n)) (Fin.ext (by simp <;> omega))

end Cert.Proof.InV

end
-- ==== Proof.InV.Out16.lean ====
/-
  What the body leaves in a window it writes: the two small columns.
-/
module

public import proofs.«01_k».proof.Proof.InV.Piece

@[expose] public section

set_option maxRecDepth 16384
set_option maxHeartbeats 400000

noncomputable section

namespace Cert.Proof.InV

open Cert.Kernel4Ideal Cert.Kernel4Ideal.Gen
open Cert.Proof.Post Cert.Proof.InI
open Idealize.ShloMosaic

def g16 (x0 : Vec Ideal S256x1024 .f32) (x1 : Vec Ideal S1x1024 .f32) (x3 : Vec Ideal S1x1024x128 .bf16) : (⟨2, ![256, 128]⟩ : Shape).Idx → EReal := fun y =>
  (fun (R : Fin 256) (n : Fin 128) => lin (nrm x0 x1 R) (fun k n => x3 (ix3 0 k n)) n) (y 0) (y 1)
theorem g16_at (x0 : Vec Ideal S256x1024 .f32) (x1 : Vec Ideal S1x1024 .f32) (x3 : Vec Ideal S1x1024x128 .bf16) (R : Fin 256) (n : Fin 128) : g16 x0 x1 x3 (ix2 R n) = lin (nrm x0 x1 R) (fun k n => x3 (ix3 0 k n)) n := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The two small columns. -/
theorem out16_at (R : Fin 256) (n : Fin 128) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x3 (ix3 0 k n)) n := by
  unfold out0_A_16
  rw [View.read_writes_junk_eq_canon]
  refine View.canon_apply_of_pieces (g16 x0 x1 x3) _ (fun p hp y => ?_) (ix2 R n)
    (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  simp only [List.mem_cons, List.not_mem_nil, or_false] at hp
  subst hp
  · obtain ⟨a, b, rfl⟩ : ∃ (a : Fin 256) (b : Fin 128), y = ix2 a b := ⟨y 0, y 1, (ix2_eta y).symm⟩
    refine Eq.trans ?_ (congrArg (g16 x0 x1 x3) (emb_cols inb_S256x128_S256x128_0_0 (by decide) a b).symm)
    refine Eq.trans ?_ (g16_at x0 x1 x3 a _).symm
    refine (pay42_at (kernelRun0_A.sl.r c arg1 harg1 arg2 harg2 x0 x1) a _ b).trans ?_
    exact lin_eq (row_at c arg1 harg1 arg2 harg2 x0 x1 a) fun k => col harg4 x3 inb_S1x1024x128_S1x1024x128_0_0_0 (by decide) k b

end Cert.Proof.InV

end
-- ==== Proof.InV.Out18.lean ====
/-
  What the body leaves in a window it writes: the query.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g18 (x0 : Vec Ideal S256x1024 .f32) (x1 : Vec Ideal S1x1024 .f32) (x5 : Vec Ideal S1x1024x1536 .bf16) : (⟨2, ![256, 512]⟩ : Shape).Idx → EReal := fun y =>
  (fun (R : Fin 256) (n : Fin 512) => lin (nrm x0 x1 R) (fun k n => x5 (ix3 0 k n)) ⟨n.val, by omega⟩) (y 0) (y 1)
theorem g18_at (x0 : Vec Ideal S256x1024 .f32) (x1 : Vec Ideal S1x1024 .f32) (x5 : Vec Ideal S1x1024x1536 .bf16) (R : Fin 256) (n : Fin 512) : g18 x0 x1 x5 (ix2 R n) = lin (nrm x0 x1 R) (fun k n => x5 (ix3 0 k n)) ⟨n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The query. -/
theorem out18_at (R : Fin 256) (n : Fin 512) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x5 (ix3 0 k n)) ⟨n.val, by omega⟩ := by
  unfold out0_A_18
  rw [View.read_writes_junk_eq_canon]
  refine View.canon_apply_of_pieces (g18 x0 x1 x5) _ (fun p hp y => ?_) (ix2 R n)
    (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  simp only [List.mem_cons, List.not_mem_nil, or_false] at hp
  subst hp
  · obtain ⟨a, b, rfl⟩ : ∃ (a : Fin 256) (b : Fin 512), y = ix2 a b := ⟨y 0, y 1, (ix2_eta y).symm⟩
    refine Eq.trans ?_ (congrArg (g18 x0 x1 x5) (emb_cols inb_S256x512_S256x512_0_0 (by decide) a b).symm)
    refine Eq.trans ?_ (g18_at x0 x1 x5 a _).symm
    refine (pay4_at _ _ _ a b).trans (lin_eq (fun k => row_at' arg1 harg1 arg2 harg2 x0 x1 a k) (fun k => (col harg6 x5 inb_S1x1024x1536_S1x1024x512_0_0_0 (by decide) k _).trans ?_))
    exact congrArg (fun n => x5 (ix3 0 k n)) (Fin.ext (by simp <;> omega))

end Cert.Proof.InV

end
-- ==== Proof.InV.Out19.lean ====
/-
  What the body leaves in a window it writes: the key.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g19 (x0 : Vec Ideal S256x1024 .f32) (x1 : Vec Ideal S1x1024 .f32) (x5 : Vec Ideal S1x1024x1536 .bf16) : (⟨2, ![256, 512]⟩ : Shape).Idx → EReal := fun y =>
  (fun (R : Fin 256) (n : Fin 512) => lin (nrm x0 x1 R) (fun k n => x5 (ix3 0 k n)) ⟨512 + n.val, by omega⟩) (y 0) (y 1)
theorem g19_at (x0 : Vec Ideal S256x1024 .f32) (x1 : Vec Ideal S1x1024 .f32) (x5 : Vec Ideal S1x1024x1536 .bf16) (R : Fin 256) (n : Fin 512) : g19 x0 x1 x5 (ix2 R n) = lin (nrm x0 x1 R) (fun k n => x5 (ix3 0 k n)) ⟨512 + n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The key. -/
theorem out19_at (R : Fin 256) (n : Fin 512) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x5 (ix3 0 k n)) ⟨512 + n.val, by omega⟩ := by
  unfold out0_A_19
  rw [View.read_writes_junk_eq_canon]
  refine View.canon_apply_of_pieces (g19 x0 x1 x5) _ (fun p hp y => ?_) (ix2 R n)
    (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  simp only [List.mem_cons, List.not_mem_nil, or_false] at hp
  subst hp
  · obtain ⟨a, b, rfl⟩ : ∃ (a : Fin 256) (b : Fin 512), y = ix2 a b := ⟨y 0, y 1, (ix2_eta y).symm⟩
    refine Eq.trans ?_ (congrArg (g19 x0 x1 x5) (emb_cols inb_S256x512_S256x512_0_0 (by decide) a b).symm)
    refine Eq.trans ?_ (g19_at x0 x1 x5 a _).symm
    refine (pay17_at _ _ a b).trans (lin_eq (fun k => row_at c arg1 harg1 arg2 harg2 x0 x1 a k) (fun k => (col harg6 x5 inb_S1x1024x1536_S1x1024x512_0_0_512 (by decide) k _).trans ?_))
    exact congrArg (fun n => x5 (ix3 0 k n)) (Fin.ext (by simp <;> omega))

end Cert.Proof.InV

end
-- ==== Proof.InV.Out20.lean ====
/-
  What the body leaves in a window it writes: the value.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g20 (x0 : Vec Ideal S256x1024 .f32) (x1 : Vec Ideal S1x1024 .f32) (x5 : Vec Ideal S1x1024x1536 .bf16) : (⟨2, ![256, 512]⟩ : Shape).Idx → EReal := fun y =>
  (fun (R : Fin 256) (n : Fin 512) => lin (nrm x0 x1 R) (fun k n => x5 (ix3 0 k n)) ⟨1024 + n.val, by omega⟩) (y 0) (y 1)
theorem g20_at (x0 : Vec Ideal S256x1024 .f32) (x1 : Vec Ideal S1x1024 .f32) (x5 : Vec Ideal S1x1024x1536 .bf16) (R : Fin 256) (n : Fin 512) : g20 x0 x1 x5 (ix2 R n) = lin (nrm x0 x1 R) (fun k n => x5 (ix3 0 k n)) ⟨1024 + n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The value. -/
theorem out20_at (R : Fin 256) (n : Fin 512) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 R) (fun k n => x5 (ix3 0 k n)) ⟨1024 + n.val, by omega⟩ := by
  unfold out0_A_20
  rw [View.read_writes_junk_eq_canon]
  refine View.canon_apply_of_pieces (g20 x0 x1 x5) _ (fun p hp y => ?_) (ix2 R n)
    (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  unfold kernelRun0_A.sl.r_20 at hp
  simp only [List.mem_cons, List.not_mem_nil, or_false] at hp
  subst hp
  · obtain ⟨a, b, rfl⟩ : ∃ (a : Fin 256) (b : Fin 512), y = ix2 a b := ⟨y 0, y 1, (ix2_eta y).symm⟩
    refine Eq.trans ?_ (congrArg (g20 x0 x1 x5) (emb_cols inb_S256x512_S256x512_0_0 (by decide) a b).symm)
    refine Eq.trans ?_ (g20_at x0 x1 x5 a _).symm
    refine (pay36_at _ _ a b).trans (lin_eq (fun k => row_at c arg1 harg1 arg2 harg2 x0 x1 a k) (fun k => (col harg6 x5 inb_S1x1024x1536_S1x1024x512_0_0_1024 (by decide) k _).trans ?_))
    exact congrArg (fun n => x5 (ix3 0 k n)) (Fin.ext (by simp <;> omega))

end Cert.Proof.InV

end
-- ==== Proof.InV.Out21.lean ====
/-
  What the body leaves in a window it writes: the key, one head after the other.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g21 (x0 : Vec Ideal S256x1024 .f32) (x1 : Vec Ideal S1x1024 .f32) (x5 : Vec Ideal S1x1024x1536 .bf16) : (⟨2, ![1024, 128]⟩ : Shape).Idx → EReal := fun y =>
  (fun (R : Fin 1024) (n : Fin 128) => lin (nrm x0 x1 ⟨R.val / 4, by omega⟩) (fun k n => x5 (ix3 0 k n)) ⟨512 + R.val % 4 * 128 + n.val, by omega⟩) (y 0) (y 1)
theorem g21_at (x0 : Vec Ideal S256x1024 .f32) (x1 : Vec Ideal S1x1024 .f32) (x5 : Vec Ideal S1x1024x1536 .bf16) (R : Fin 1024) (n : Fin 128) : g21 x0 x1 x5 (ix2 R n) = lin (nrm x0 x1 ⟨R.val / 4, by omega⟩) (fun k n => x5 (ix3 0 k n)) ⟨512 + R.val % 4 * 128 + n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The key, one head after the other. -/
theorem out21_at (R : Fin 1024) (n : Fin 128) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 ⟨R.val / 4, by omega⟩) (fun k n => x5 (ix3 0 k n)) ⟨512 + R.val % 4 * 128 + n.val, by omega⟩ := by
  unfold out0_A_21
  rw [View.read_writes_junk_eq_canon]
  refine View.canon_apply_of_pieces (g21 x0 x1 x5) _ (fun p hp y => ?_) (ix2 R n)
    (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  unfold kernelRun0_A.sl.r_10 at hp
  simp only [List.mem_cons, List.not_mem_nil, or_false] at hp
  rcases hp with rfl | rfl | rfl | rfl
  · obtain ⟨a, b, rfl⟩ : ∃ (a : Fin 256) (b : Fin 128), y = ix2 a b := ⟨y 0, y 1, (ix2_eta y).symm⟩
    refine Eq.trans ?_ (congrArg (g21 x0 x1 x5) (emb_rows3 a b).symm)
    refine Eq.trans ?_ (g21_at x0 x1 x5 _ b).symm
    refine (pay21_at _ _ a b).trans (lin_eq (fun k => (row_at c arg1 harg1 arg2 harg2 x0 x1 a k).trans ?_) (fun k => (col harg6 x5 inb_S1x1024x1536_S1x1024x512_0_0_512 (by decide) k _).trans ?_))
    · exact congrArg (fun r => nrm x0 x1 r k) (Fin.ext (show a.val = (3 + 4 * a.val) / 4 by omega))
    · exact congrArg (fun n => x5 (ix3 0 k n)) (Fin.ext (show 512 + (384 + b.val) = 512 + (3 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g21 x0 x1 x5) (emb_rows2 a b).symm)
    refine Eq.trans ?_ (g21_at x0 x1 x5 _ b).symm
    refine (pay20_at _ _ a b).trans (lin_eq (fun k => (row_at c arg1 harg1 arg2 harg2 x0 x1 a k).trans ?_) (fun k => (col harg6 x5 inb_S1x1024x1536_S1x1024x512_0_0_512 (by decide) k _).trans ?_))
    · exact congrArg (fun r => nrm x0 x1 r k) (Fin.ext (show a.val = (2 + 4 * a.val) / 4 by omega))
    · exact congrArg (fun n => x5 (ix3 0 k n)) (Fin.ext (show 512 + (256 + b.val) = 512 + (2 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g21 x0 x1 x5) (emb_rows1 a b).symm)
    refine Eq.trans ?_ (g21_at x0 x1 x5 _ b).symm
    refine (pay19_at _ _ a b).trans (lin_eq (fun k => (row_at c arg1 harg1 arg2 harg2 x0 x1 a k).trans ?_) (fun k => (col harg6 x5 inb_S1x1024x1536_S1x1024x512_0_0_512 (by decide) k _).trans ?_))
    · exact congrArg (fun r => nrm x0 x1 r k) (Fin.ext (show a.val = (1 + 4 * a.val) / 4 by omega))
    · exact congrArg (fun n => x5 (ix3 0 k n)) (Fin.ext (show 512 + (128 + b.val) = 512 + (1 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g21 x0 x1 x5) (emb_rows0 a b).symm)
    refine Eq.trans ?_ (g21_at x0 x1 x5 _ b).symm
    refine (pay18_at _ _ a b).trans (lin_eq (fun k => (row_at c arg1 harg1 arg2 harg2 x0 x1 a k).trans ?_) (fun k => (col harg6 x5 inb_S1x1024x1536_S1x1024x512_0_0_512 (by decide) k _).trans ?_))
    · exact congrArg (fun r => nrm x0 x1 r k) (Fin.ext (show a.val = (0 + 4 * a.val) / 4 by omega))
    · exact congrArg (fun n => x5 (ix3 0 k n)) (Fin.ext (show 512 + b.val = 512 + (0 + 4 * a.val) % 4 * 128 + b.val by omega))

end Cert.Proof.InV

end
-- ==== Proof.InV.Out22.lean ====
/-
  What the body leaves in a window it writes: the value, one head after the other.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g22 (x0 : Vec Ideal S256x1024 .f32) (x1 : Vec Ideal S1x1024 .f32) (x5 : Vec Ideal S1x1024x1536 .bf16) : (⟨2, ![1024, 128]⟩ : Shape).Idx → EReal := fun y =>
  (fun (R : Fin 1024) (n : Fin 128) => lin (nrm x0 x1 ⟨R.val / 4, by omega⟩) (fun k n => x5 (ix3 0 k n)) ⟨1024 + R.val % 4 * 128 + n.val, by omega⟩) (y 0) (y 1)
theorem g22_at (x0 : Vec Ideal S256x1024 .f32) (x1 : Vec Ideal S1x1024 .f32) (x5 : Vec Ideal S1x1024x1536 .bf16) (R : Fin 1024) (n : Fin 128) : g22 x0 x1 x5 (ix2 R n) = lin (nrm x0 x1 ⟨R.val / 4, by omega⟩) (fun k n => x5 (ix3 0 k n)) ⟨1024 + R.val % 4 * 128 + n.val, by omega⟩ := rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The value, one head after the other. -/
theorem out22_at (R : Fin 1024) (n : Fin 128) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = lin (nrm x0 x1 ⟨R.val / 4, by omega⟩) (fun k n => x5 (ix3 0 k n)) ⟨1024 + R.val % 4 * 128 + n.val, by omega⟩ := by
  unfold out0_A_22
  rw [View.read_writes_junk_eq_canon]
  refine View.canon_apply_of_pieces (g22 x0 x1 x5) _ (fun p hp y => ?_) (ix2 R n)
    (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  unfold kernelRun0_A.sl.r_20 at hp
  simp only [List.mem_cons, List.not_mem_nil, or_false] at hp
  rcases hp with rfl | rfl | rfl | rfl
  · obtain ⟨a, b, rfl⟩ : ∃ (a : Fin 256) (b : Fin 128), y = ix2 a b := ⟨y 0, y 1, (ix2_eta y).symm⟩
    refine Eq.trans ?_ (congrArg (g22 x0 x1 x5) (emb_rows3 a b).symm)
    refine Eq.trans ?_ (g22_at x0 x1 x5 _ b).symm
    refine (pay40_at _ _ a b).trans (lin_eq (fun k => (row_at c arg1 harg1 arg2 harg2 x0 x1 a k).trans ?_) (fun k => (col harg6 x5 inb_S1x1024x1536_S1x1024x512_0_0_1024 (by decide) k _).trans ?_))
    · exact congrArg (fun r => nrm x0 x1 r k) (Fin.ext (show a.val = (3 + 4 * a.val) / 4 by omega))
    · exact congrArg (fun n => x5 (ix3 0 k n)) (Fin.ext (show 1024 + (384 + b.val) = 1024 + (3 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g22 x0 x1 x5) (emb_rows2 a b).symm)
    refine Eq.trans ?_ (g22_at x0 x1 x5 _ b).symm
    refine (pay39_at _ _ a b).trans (lin_eq (fun k => (row_at c arg1 harg1 arg2 harg2 x0 x1 a k).trans ?_) (fun k => (col harg6 x5 inb_S1x1024x1536_S1x1024x512_0_0_1024 (by decide) k _).trans ?_))
    · exact congrArg (fun r => nrm x0 x1 r k) (Fin.ext (show a.val = (2 + 4 * a.val) / 4 by omega))
    · exact congrArg (fun n => x5 (ix3 0 k n)) (Fin.ext (show 1024 + (256 + b.val) = 1024 + (2 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g22 x0 x1 x5) (emb_rows1 a b).symm)
    refine Eq.trans ?_ (g22_at x0 x1 x5 _ b).symm
    refine (pay38_at _ _ a b).trans (lin_eq (fun k => (row_at c arg1 harg1 arg2 harg2 x0 x1 a k).trans ?_) (fun k => (col harg6 x5 inb_S1x1024x1536_S1x1024x512_0_0_1024 (by decide) k _).trans ?_))
    · exact congrArg (fun r => nrm x0 x1 r k) (Fin.ext (show a.val = (1 + 4 * a.val) / 4 by omega))
    · exact congrArg (fun n => x5 (ix3 0 k n)) (Fin.ext (show 1024 + (128 + b.val) = 1024 + (1 + 4 * a.val) % 4 * 128 + b.val by omega))
  · obtain ⟨a, b, rfl⟩ : ∃ (a : Fin 256) (b : Fin 128), y = ix2 a b := ⟨y 0, y 1, (ix2_eta y).symm⟩
    refine Eq.trans ?_ (congrArg (g22 x0 x1 x5) (emb_rows0 a b).symm)
    refine Eq.trans ?_ (g22_at x0 x1 x5 _ b).symm
    refine (pay37_at _ _ a b).trans (lin_eq (fun k => (row_at c arg1 harg1 arg2 harg2 x0 x1 a k).trans ?_) (fun k => (col harg6 x5 inb_S1x1024x1536_S1x1024x512_0_0_1024 (by decide) k _).trans ?_))
    · exact congrArg (fun r => nrm x0 x1 r k) (Fin.ext (show a.val = (0 + 4 * a.val) / 4 by omega))
    · exact congrArg (fun n => x5 (ix3 0 k n)) (Fin.ext (show 1024 + b.val = 1024 + (0 + 4 * a.val) % 4 * 128 + b.val by omega))

end Cert.Proof.InV

end
-- ==== Proof.InV.Out23.lean ====
/-
  What the body leaves in a window it writes: the three branches' gates.
-/
module

public import proofs.«01_k».proof.Proof.InV.Piece

@[expose] public section

set_option maxRecDepth 16384
set_option maxHeartbeats 4000000

noncomputable section

namespace Cert.Proof.InV

open Cert.Kernel4Ideal Cert.Kernel4Ideal.Gen
open Cert.Proof.Post Cert.Proof.InI
open Idealize.ShloMosaic

def g23 (x0 : Vec Ideal S256x1024 .f32) (x1 : Vec Ideal S1x1024 .f32) (x6 x7 : Vec Ideal S1x1024x1536 .bf16) : (⟨2, ![256, 3072]⟩ : Shape).Idx → EReal := fun y =>
  (fun (R : Fin 256) (n : Fin 3072) => if h : n.val < 1536 then lin (nrm x0 x1 R) (fun k n => x6 (ix3 0 k n)) ⟨n.val, h⟩ else lin (nrm x0 x1 R) (fun k n => x7 (ix3 0 k n)) ⟨n.val - 1536, by omega⟩) (y 0) (y 1)

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024x2048 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1x1024x1536 .bf16) (harg6 : arg6.IsWhole) (arg7 : Memref sig .tc .vmem S1x1024x1536 .bf16) (harg7 : arg7.IsWhole) (arg8 : Memref sig .tc .vmem S1x1024x1536 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S1x8x1536 .f32) (harg13 : arg13.IsWhole) (arg14 : Memref sig .tc .vmem S4x1536 .f32) (harg14 : arg14.IsWhole) (arg15 : Memref sig .tc .vmem S256x1536 .f32) (harg15 : arg15.IsWhole) (arg16 : Memref sig .tc .vmem S256x512 .f32) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S1024x128 .f32) (harg22 : arg22.IsWhole) (arg23 : Memref sig .tc .vmem S1024x128 .f32) (harg23 : arg23.IsWhole) (arg24 : Memref sig .tc .vmem S256x3072 .f32) (harg24 : arg24.IsWhole) (arg25 : Memref sig .tc .vmem S256x512 .f32) (harg25 : arg25.IsWhole) (arg26 : Memref sig .tc .vmem S8x1536 .f32) (harg26 : arg26.IsWhole)
  (x0 : Vec Ideal S256x1024 .f32) (x1 : Vec Ideal S1x1024 .f32) (x2 : Vec Ideal S1x1024x2048 .bf16) (x3 : Vec Ideal S1x1024x128 .bf16) (x4 : Vec Ideal S1x1024x1024 .bf16) (x5 : Vec Ideal S1x1024x1536 .bf16) (x6 : Vec Ideal S1x1024x1536 .bf16) (x7 : Vec Ideal S1x1024x1536 .bf16) (x8 : Vec Ideal S1x512 .f32) (x9 : Vec Ideal S1x512 .f32) (x10 : Vec Ideal S4x128x128 .f32) (x11 : Vec Ideal S128x512 .f32) (x12 : Vec Ideal S1x8x1536 .f32) (x13 : Vec Ideal S4x1536 .f32)

/-- The three branches' gates. -/
theorem out23_at (R : Fin 256) (n : Fin 3072) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n)
      = if h : n.val < 1536 then lin (nrm x0 x1 R) (fun k n => x6 (ix3 0 k n)) ⟨n.val, h⟩ else lin (nrm x0 x1 R) (fun k n => x7 (ix3 0 k n)) ⟨n.val - 1536, by omega⟩ := by
  unfold out0_A_23
  rw [View.read_writes_junk_eq_canon]
  refine View.canon_apply_of_pieces (g23 x0 x1 x6 x7) _ (fun p hp y => ?_) (ix2 R n)
    (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 (ix2 R n))
  unfold kernelRun0_A at hp
  dsimp only at hp
  unfold kernelRun0_A.sl.r_21 at hp
  simp only [List.mem_cons, List.not_mem_nil, or_false] at hp
  rcases hp with rfl | rfl | rfl | rfl | rfl | rfl
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_2560 (by decide) a b).symm)
    refine Eq.trans ?_ (dif_neg (show ¬ 2560 + b.val < 1536 by omega)).symm
    refine (pay48_at _ _ a b).trans (lin_eq (fun k => row_at c arg1 harg1 arg2 harg2 x0 x1 a k) (fun k => (col harg8 x7 inb_S1x1024x1536_S1x1024x512_0_0_1024 (by decide) k _).trans ?_))
    exact congrArg (fun n => x7 (ix3 0 k n)) (Fin.ext (show 1024 + b.val = 2560 + b.val - 1536 by omega))
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_2048 (by decide) a b).symm)
    refine Eq.trans ?_ (dif_neg (show ¬ 2048 + b.val < 1536 by omega)).symm
    refine (pay47_at _ _ a b).trans (lin_eq (fun k => row_at c arg1 harg1 arg2 harg2 x0 x1 a k) (fun k => (col harg8 x7 inb_S1x1024x1536_S1x1024x512_0_0_512 (by decide) k _).trans ?_))
    exact congrArg (fun n => x7 (ix3 0 k n)) (Fin.ext (show 512 + b.val = 2048 + b.val - 1536 by omega))
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_1536 (by decide) a b).symm)
    refine Eq.trans ?_ (dif_neg (show ¬ 1536 + b.val < 1536 by omega)).symm
    refine (pay46_at _ _ a b).trans (lin_eq (fun k => row_at c arg1 harg1 arg2 harg2 x0 x1 a k) (fun k => (col harg8 x7 inb_S1x1024x1536_S1x1024x512_0_0_0 (by decide) k _).trans ?_))
    exact congrArg (fun n => x7 (ix3 0 k n)) (Fin.ext (show 0 + b.val = 1536 + b.val - 1536 by omega))
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_1024 (by decide) a b).symm)
    refine Eq.trans ?_ (dif_pos (show 1024 + b.val < 1536 by omega)).symm
    refine (pay45_at _ _ a b).trans (lin_eq (fun k => row_at c arg1 harg1 arg2 harg2 x0 x1 a k) (fun k => (col harg7 x6 inb_S1x1024x1536_S1x1024x512_0_0_1024 (by decide) k _).trans ?_))
    exact congrArg (fun n => x6 (ix3 0 k n)) (Fin.ext (show 1024 + b.val = 1024 + b.val by omega))
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_512 (by decide) a b).symm)
    refine Eq.trans ?_ (dif_pos (show 512 + b.val < 1536 by omega)).symm
    refine (pay44_at _ _ a b).trans (lin_eq (fun k => row_at c arg1 harg1 arg2 harg2 x0 x1 a k) (fun k => (col harg7 x6 inb_S1x1024x1536_S1x1024x512_0_0_512 (by decide) k _).trans ?_))
    exact congrArg (fun n => x6 (ix3 0 k n)) (Fin.ext (show 512 + b.val = 512 + b.val by omega))
  · obtain ⟨a, b, rfl⟩ : ∃ (a : Fin 256) (b : Fin 512), y = ix2 a b := ⟨y 0, y 1, (ix2_eta y).symm⟩
    refine Eq.trans ?_ (congrArg (g23 x0 x1 x6 x7) (emb_cols inb_S256x3072_S256x512_0_0 (by decide) a b).symm)
    refine Eq.trans ?_ (dif_pos (show 0 + b.val < 1536 by omega)).symm
    refine (pay43_at _ _ a b).trans (lin_eq (fun k => row_at c arg1 harg1 arg2 harg2 x0 x1 a k) (fun k => (col harg7 x6 inb_S1x1024x1536_S1x1024x512_0_0_0 (by decide) k _).trans ?_))
    exact congrArg (fun n => x6 (ix3 0 k n)) (Fin.ext (show 0 + b.val = 0 + b.val by omega))

end Cert.Proof.InV

end
-- ==== Proof.InI.Value.lean ====
/-
  What the arrays of the call hold after the run, window by window. For the idealization of the input projection.
-/
module

public import proofs.«01_k».proof.Proof.InI.Frame
public import Idealize.ShloMosaic.Lib.Pipeline.Value

@[expose] public section

noncomputable section

namespace Cert.Proof.InI

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed14 (c : Dev nD) (t : Fin cfg0.N) :
    (dats m 0 c).flushed 14 t = (cfg0.win 14).cut (grid0.coords t) ((outsAt0 m c t).1) := by
  show (cfg0.win 14).cut (grid0.coords t) ((dats m 0 c).after 14 t) = _
  rw [after0_14]

theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed14, outsAt0]

theorem flushed15 (c : Dev nD) (t : Fin cfg0.N) :
    (dats m 0 c).flushed 15 t = (cfg0.win 15).cut (grid0.coords t) ((outsAt0 m c t).2.1) := by
  show (cfg0.win 15).cut (grid0.coords t) ((dats m 0 c).after 15 t) = _
  rw [after0_15]

theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed15, outsAt0]

theorem flushed16 (c : Dev nD) (t : Fin cfg0.N) :
    (dats m 0 c).flushed 16 t = (cfg0.win 16).cut (grid0.coords t) ((outsAt0 m c t).2.2.1) := by
  show (cfg0.win 16).cut (grid0.coords t) ((dats m 0 c).after 16 t) = _
  rw [after0_16]

theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed16, outsAt0]

theorem flushed18 (c : Dev nD) (t : Fin cfg0.N) :
    (dats m 0 c).flushed 18 t = (cfg0.win 18).cut (grid0.coords t) ((outsAt0 m c t).2.2.2.2.1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed18, outsAt0]

theorem flushed19 (c : Dev nD) (t : Fin cfg0.N) :
    (dats m 0 c).flushed 19 t = (cfg0.win 19).cut (grid0.coords t) ((outsAt0 m c t).2.2.2.2.2.1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed19, outsAt0]

theorem flushed20 (c : Dev nD) (t : Fin cfg0.N) :
    (dats m 0 c).flushed 20 t = (cfg0.win 20).cut (grid0.coords t) ((outsAt0 m c t).2.2.2.2.2.2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed20, outsAt0]

theorem flushed21 (c : Dev nD) (t : Fin cfg0.N) :
    (dats m 0 c).flushed 21 t = (cfg0.win 21).cut (grid0.coords t) ((outsAt0 m c t).2.2.2.2.2.2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed21, outsAt0]

theorem flushed22 (c : Dev nD) (t : Fin cfg0.N) :
    (dats m 0 c).flushed 22 t = (cfg0.win 22).cut (grid0.coords t) ((outsAt0 m c t).2.2.2.2.2.2.2.2.1) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed22, outsAt0]

theorem flushed23 (c : Dev nD) (t : Fin cfg0.N) :
    (dats m 0 c).flushed 23 t = (cfg0.win 23).cut (grid0.coords t) ((outsAt0 m c t).2.2.2.2.2.2.2.2.2.1) := by
  show (cfg0.win 23).cut (grid0.coords t) ((dats m 0 c).after 23 t) = _
  rw [after0_23]

theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (X0_2 m c t) (iblk m c 3 t) (X0_4 m c t) (X0_5 m c t) (X0_6 m c t) (X0_7 m c t) (iblk m c 8 t) (iblk m c 9 t) (iblk m c 10 t) (iblk m c 11 t) (iblk m c 12 t) (iblk m c 13 t)) := by
  simp only [flushed23, outsAt0]

theorem post14 (r : PUnit × MemSt nD τ sig (Elt F)) (h : Pipeline.FramePost cfgs (dats m) 0 (V m) r) (c : Dev nD) :
    r.2.mem ((c : Thread nD τ).loc main_v36_0) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v36_1) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v36_2) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v36_3) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v36_4) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v36_5) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v36_6) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v36_7) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v36_8) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v36_9) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v36_10) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 219860 in
theorem run_blocks : θ_run defs (onTc (τ := τ) (main (F := F))) ⟨m, fun _ => 0, ρ⟩ fun r => ∀ c : Dev nD,
      r.2.mem ((c : Thread nD τ).loc main_v36_0) = (dats m 0 c).arrAt 14 cfg0.N
      ∧ r.2.mem ((c : Thread nD τ).loc main_v36_1) = (dats m 0 c).arrAt 15 cfg0.N
      ∧ r.2.mem ((c : Thread nD τ).loc main_v36_2) = (dats m 0 c).arrAt 16 cfg0.N
      ∧ r.2.mem ((c : Thread nD τ).loc main_v36_3) = (dats m 0 c).arrAt 17 cfg0.N
      ∧ r.2.mem ((c : Thread nD τ).loc main_v36_4) = (dats m 0 c).arrAt 18 cfg0.N
      ∧ r.2.mem ((c : Thread nD τ).loc main_v36_5) = (dats m 0 c).arrAt 19 cfg0.N
      ∧ r.2.mem ((c : Thread nD τ).loc main_v36_6) = (dats m 0 c).arrAt 20 cfg0.N
      ∧ r.2.mem ((c : Thread nD τ).loc main_v36_7) = (dats m 0 c).arrAt 21 cfg0.N
      ∧ r.2.mem ((c : Thread nD τ).loc main_v36_8) = (dats m 0 c).arrAt 22 cfg0.N
      ∧ r.2.mem ((c : Thread nD τ).loc main_v36_9) = (dats m 0 c).arrAt 23 cfg0.N
      ∧ r.2.mem ((c : Thread nD τ).loc main_v36_10) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post14 m r h c,
      post15 m r h c,
      post16 m r h c,
      post17 m r h c,
      post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Proof.InI

end
-- ==== Proof.InV.Final.lean ====
/-
  The nine arrays the call's idealization ends with, from the arguments: columns of the projection of the normalized tokens.
-/
module

public import proofs.«01_k».proof.Proof.InV.Host
public import proofs.«01_k».proof.Proof.InV.Out14
public import proofs.«01_k».proof.Proof.InV.Out15
public import proofs.«01_k».proof.Proof.InV.Out16
public import proofs.«01_k».proof.Proof.InV.Out18
public import proofs.«01_k».proof.Proof.InV.Out19
public import proofs.«01_k».proof.Proof.InV.Out20
public import proofs.«01_k».proof.Proof.InV.Out21
public import proofs.«01_k».proof.Proof.InV.Out22
public import proofs.«01_k».proof.Proof.InV.Out23
public import proofs.«01_k».proof.Proof.InI.Value

@[expose] public section

set_option maxRecDepth 16384
set_option maxHeartbeats 1000000

noncomputable section

namespace Cert.Proof.InV

open Cert.Kernel4Ideal Cert.Kernel4Ideal.Gen
open Cert.Proof.Post Cert.Proof.InI
open Idealize.ShloMosaic Idealize.ShloMosaic.TcCoe Idealize.ShloMosaic.Pipeline
open Idealize.SL.Sem

variable (m : (ℓ : Loc nD τ sig) → Buf (Elt Ideal) ℓ)

/-- The tokens, the norm's row and the weights of a device. -/
abbrev mx (c : Dev nD) : (⟨3, ![32, 16, 1024]⟩ : Shape).Idx → EReal := m ((c : Thread nD τ).loc main_arg0)
abbrev mg (c : Dev nD) : (⟨2, ![2, 1024]⟩ : Shape).Idx → EReal := m ((c : Thread nD τ).loc main_arg2)
abbrev mw (c : Dev nD) : (⟨3, ![2, 1024, 7688]⟩ : Shape).Idx → EReal := m ((c : Thread nD τ).loc main_arg3)

/-! The weights in each window. -/

theorem col2 (c : Dev nD) (t : Fin cfg0.N) (k : Fin 1024) (n : Fin 2048) : X0_2 m c t (ix3 0 k n) = mw m c (ix3 0 k ⟨n.val, by omega⟩) :=
  (blk2 m c t k n).trans ((congrFun (V_w m c) _).trans (packed_first _ 0 k n))
theorem col3 (c : Dev nD) (t : Fin cfg0.N) (k : Fin 1024) (n : Fin 128) :
    iblk m c 3 t (ix3 0 k n) = if h : n.val < 8 then mw m c (ix3 0 k ⟨2048 + n.val, by omega⟩) else 0 :=
  (blk3 m c t k n).trans ((congrFun (V_w m c) _).trans (packed_small _ 0 k n))
theorem later (c : Dev nD) (k : Fin 1024) (o : ℕ) (p : Fin 7808) (n : Fin 7688) (hp : p.val = 2048 + o) (hn : n.val = 2056 + o) :
    V m c main_v5 (ix3 0 k p) = mw m c (ix3 0 k n) := by
  have ho : o < 5632 := by omega
  have ep : p = ⟨2048 + o, Nat.lt_of_lt_of_le (Nat.add_lt_add_left ho 2048) (by decide)⟩ := Fin.ext hp
  have en : n = ⟨2056 + o, Nat.lt_of_lt_of_le (Nat.add_lt_add_left ho 2056) (by decide)⟩ := Fin.ext hn
  rw [ep, en]
  exact (congrFun (V_w m c) _).trans (packed_later _ 0 k ⟨o, ho⟩)
theorem col5 (c : Dev nD) (t : Fin cfg0.N) (k : Fin 1024) (n : Fin 1536) : X0_5 m c t (ix3 0 k n) = mw m c (ix3 0 k ⟨3080 + n.val, by omega⟩) :=
  (blk5 m c t k n).trans (later m c k (1024 + n.val) _ _ (by show 3072 + n.val = _; omega) (by show 3080 + n.val = _; omega))
theorem col6 (c : Dev nD) (t : Fin cfg0.N) (k : Fin 1024) (n : Fin 1536) : X0_6 m c t (ix3 0 k n) = mw m c (ix3 0 k ⟨4616 + n.val, by omega⟩) :=
  (blk6 m c t k n).trans (later m c k (2560 + n.val) _ _ (by show 4608 + n.val = _; omega) (by show 4616 + n.val = _; omega))
theorem col7 (c : Dev nD) (t : Fin cfg0.N) (k : Fin 1024) (n : Fin 1536) : X0_7 m c t (ix3 0 k n) = mw m c (ix3 0 k ⟨6152 + n.val, by omega⟩) :=
  (blk7 m c t k n).trans (later m c k (4096 + n.val) _ _ (by show 6144 + n.val = _; omega) (by show 6152 + n.val = _; omega))

/-- A row of a block, normalized, is a token, normalized. -/
theorem nrm_eq (c : Dev nD) (t : Fin cfg0.N) (r : Fin 256) (k : Fin 1024) :
    nrm (iblk m c 0 t) (iblk m c 1 t) r k = rms (fun k => mx m c (ix3 ⟨(at_ t r).val / 16, by omega⟩ ⟨(at_ t r).val % 16, by omega⟩ k)) (fun k => mg m c (ix2 0 k)) k := by
  unfold nrm
  exact congrArg₂ (fun x g => rms x g k) (funext fun k => (blk0 m c t r k).trans (V_x m c _ k)) (funext fun k => (blk1 m c t k).trans (V_g m c k))

/-- A product of such a row with a column. -/
theorem tok_eq (c : Dev nD) (t : Fin cfg0.N) (r : Fin 256) {N : ℕ} (y : Fin 1024 → Fin N → EReal) (n : Fin N) (q : Fin 512) (p : Fin 7688) (hq : q = at_ t r)
    (h : ∀ k, y k n = mw m c (ix3 0 k p)) : lin (nrm (iblk m c 0 t) (iblk m c 1 t) r) y n = tok (mx m c) (mg m c) (mw m c) q p := by
  subst hq
  unfold tok proj
  exact lin_eq (w' := fun k n => mw m c (ix3 0 k n)) (n' := p) (nrm_eq m c t r) h

/-- A row of the arrays with four rows for every token. -/
def at4 (t : Fin cfg0.N) (R : Fin 1024) : Fin 2048 := ⟨t.val * 1024 + R.val, by have : t.val < 2 := lt_of_lt_of_eq t.isLt (by decide); omega⟩

/-! Where a block's entries lie in each array. -/

theorem emb14 (t : Fin cfg0.N) (r : Fin 256) (n : Fin 1536) : (win0_14.blk t).view.emb (ix2 r n) = ix2 (at_ t r) n := by
  refine funext fun a => Fin.ext ?_
  match a with
  | ⟨0, _⟩ => blk_simp [idx14 t]; rfl
  | ⟨1, _⟩ => blk_simp [idx14 t]
theorem emb15 (t : Fin cfg0.N) (r : Fin 256) (n : Fin 512) : (win0_15.blk t).view.emb (ix2 r n) = ix2 (at_ t r) n := by
  refine funext fun a => Fin.ext ?_
  match a with
  | ⟨0, _⟩ => blk_simp [idx15 t]; rfl
  | ⟨1, _⟩ => blk_simp [idx15 t]
theorem emb16 (t : Fin cfg0.N) (r : Fin 256) (n : Fin 128) : (win0_16.blk t).view.emb (ix2 r n) = ix2 (at_ t r) n := by
  refine funext fun a => Fin.ext ?_
  match a with
  | ⟨0, _⟩ => blk_simp [idx16 t]; rfl
  | ⟨1, _⟩ => blk_simp [idx16 t]
theorem emb18 (t : Fin cfg0.N) (r : Fin 256) (n : Fin 512) : (win0_18.blk t).view.emb (ix2 r n) = ix2 (at_ t r) n := by
  refine funext fun a => Fin.ext ?_
  match a with
  | ⟨0, _⟩ => blk_simp [idx18 t]; rfl
  | ⟨1, _⟩ => blk_simp [idx18 t]
theorem emb19 (t : Fin cfg0.N) (r : Fin 256) (n : Fin 512) : (win0_19.blk t).view.emb (ix2 r n) = ix2 (at_ t r) n := by
  refine funext fun a => Fin.ext ?_
  match a with
  | ⟨0, _⟩ => blk_simp [idx19 t]; rfl
  | ⟨1, _⟩ => blk_simp [idx19 t]
theorem emb20 (t : Fin cfg0.N) (r : Fin 256) (n : Fin 512) : (win0_20.blk t).view.emb (ix2 r n) = ix2 (at_ t r) n := by
  refine funext fun a => Fin.ext ?_
  match a with
  | ⟨0, _⟩ => blk_simp [idx20 t]; rfl
  | ⟨1, _⟩ => blk_simp [idx20 t]
theorem emb21 (t : Fin cfg0.N) (r : Fin 1024) (n : Fin 128) : (win0_21.blk t).view.emb (ix2 r n) = ix2 (at4 t r) n := by
  refine funext fun a => Fin.ext ?_
  match a with
  | ⟨0, _⟩ => blk_simp [idx21 t]; rfl
  | ⟨1, _⟩ => blk_simp [idx21 t]
theorem emb22 (t : Fin cfg0.N) (r : Fin 1024) (n : Fin 128) : (win0_22.blk t).view.emb (ix2 r n) = ix2 (at4 t r) n := by
  refine funext fun a => Fin.ext ?_
  match a with
  | ⟨0, _⟩ => blk_simp [idx22 t]; rfl
  | ⟨1, _⟩ => blk_simp [idx22 t]
theorem emb23 (t : Fin cfg0.N) (r : Fin 256) (n : Fin 3072) : (win0_23.blk t).view.emb (ix2 r n) = ix2 (at_ t r) n := by
  refine funext fun a => Fin.ext ?_
  match a with
  | ⟨0, _⟩ => blk_simp [idx23 t]; rfl
  | ⟨1, _⟩ => blk_simp [idx23 t]

/-! The arrays. -/

theorem final14 (c : Dev nD) : (dats m 0 c).arrAt 14 cfg0.N = cols (mx m c) (mg m c) (mw m c) 0 (by decide) := by
  refine (dats m 0 c).arrAt_eq_of_covers 14 (cols (mx m c) (mg m c) (mw m c) 0 (by decide)) (by decide +kernel) fun t hf y => ?_
  obtain ⟨r, n, rfl⟩ : ∃ (r : Fin 256) (n : Fin 1536), y = ix2 r n := ⟨y 0, y 1, (ix2_eta y).symm⟩
  refine (congrFun (flushed14_A m c t) (ix2 r n)).trans (Eq.trans ?_ (congrArg (cols (mx m c) (mg m c) (mw m c) 0 (by decide)) (emb14 t r n).symm))
  refine (out14_at ..).trans ?_
  exact tok_eq m c t r _ _ _ _ rfl fun k => (col2 m c t k _).trans (congrArg (fun p => mw m c (ix3 0 k p)) (Fin.ext (by show n.val = 0 + n.val; omega)))
theorem final15 (c : Dev nD) : (dats m 0 c).arrAt 15 cfg0.N = cols (mx m c) (mg m c) (mw m c) 1536 (by decide) := by
  refine (dats m 0 c).arrAt_eq_of_covers 15 (cols (mx m c) (mg m c) (mw m c) 1536 (by decide)) (by decide +kernel) fun t hf y => ?_
  obtain ⟨r, n, rfl⟩ : ∃ (r : Fin 256) (n : Fin 512), y = ix2 r n := ⟨y 0, y 1, (ix2_eta y).symm⟩
  refine (congrFun (flushed15_A m c t) (ix2 r n)).trans (Eq.trans ?_ (congrArg (cols (mx m c) (mg m c) (mw m c) 1536 (by decide)) (emb15 t r n).symm))
  refine (out15_at ..).trans ?_
  exact tok_eq m c t r _ _ _ _ rfl fun k => (col2 m c t k _).trans (congrArg (fun p => mw m c (ix3 0 k p)) (Fin.ext (by show 1536 + n.val = 1536 + n.val; rfl)))
theorem final18 (c : Dev nD) : (dats m 0 c).arrAt 18 cfg0.N = cols (mx m c) (mg m c) (mw m c) 3080 (by decide) := by
  refine (dats m 0 c).arrAt_eq_of_covers 18 (cols (mx m c) (mg m c) (mw m c) 3080 (by decide)) (by decide +kernel) fun t hf y => ?_
  obtain ⟨r, n, rfl⟩ : ∃ (r : Fin 256) (n : Fin 512), y = ix2 r n := ⟨y 0, y 1, (ix2_eta y).symm⟩
  refine (congrFun (flushed18_A m c t) (ix2 r n)).trans (Eq.trans ?_ (congrArg (cols (mx m c) (mg m c) (mw m c) 3080 (by decide)) (emb18 t r n).symm))
  refine (out18_at ..).trans ?_
  exact tok_eq m c t r _ _ _ _ rfl fun k => (col5 m c t k _).trans (congrArg (fun p => mw m c (ix3 0 k p)) (Fin.ext (by show 3080 + n.val = 3080 + n.val; rfl)))
theorem final19 (c : Dev nD) : (dats m 0 c).arrAt 19 cfg0.N = cols (mx m c) (mg m c) (mw m c) 3592 (by decide) := by
  refine (dats m 0 c).arrAt_eq_of_covers 19 (cols (mx m c) (mg m c) (mw m c) 3592 (by decide)) (by decide +kernel) fun t hf y => ?_
  obtain ⟨r, n, rfl⟩ : ∃ (r : Fin 256) (n : Fin 512), y = ix2 r n := ⟨y 0, y 1, (ix2_eta y).symm⟩
  refine (congrFun (flushed19_A m c t) (ix2 r n)).trans (Eq.trans ?_ (congrArg (cols (mx m c) (mg m c) (mw m c) 3592 (by decide)) (emb19 t r n).symm))
  refine (out19_at ..).trans ?_
  exact tok_eq m c t r _ _ _ _ rfl fun k => (col5 m c t k _).trans (congrArg (fun p => mw m c (ix3 0 k p)) (Fin.ext (by show 3080 + (512 + n.val) = 3592 + n.val; omega)))
theorem final20 (c : Dev nD) : (dats m 0 c).arrAt 20 cfg0.N = cols (mx m c) (mg m c) (mw m c) 4104 (by decide) := by
  refine (dats m 0 c).arrAt_eq_of_covers 20 (cols (mx m c) (mg m c) (mw m c) 4104 (by decide)) (by decide +kernel) fun t hf y => ?_
  obtain ⟨r, n, rfl⟩ : ∃ (r : Fin 256) (n : Fin 512), y = ix2 r n := ⟨y 0, y 1, (ix2_eta y).symm⟩
  refine (congrFun (flushed20_A m c t) (ix2 r n)).trans (Eq.trans ?_ (congrArg (cols (mx m c) (mg m c) (mw m c) 4104 (by decide)) (emb20 t r n).symm))
  refine (out20_at ..).trans ?_
  exact tok_eq m c t r _ _ _ _ rfl fun k => (col5 m c t k _).trans (congrArg (fun p => mw m c (ix3 0 k p)) (Fin.ext (by show 3080 + (1024 + n.val) = 4104 + n.val; omega)))
theorem final21 (c : Dev nD) : (dats m 0 c).arrAt 21 cfg0.N = heads (mx m c) (mg m c) (mw m c) 3592 (by decide) := by
  refine (dats m 0 c).arrAt_eq_of_covers 21 (heads (mx m c) (mg m c) (mw m c) 3592 (by decide)) (by decide +kernel) fun t hf y => ?_
  obtain ⟨r, n, rfl⟩ : ∃ (r : Fin 1024) (n : Fin 128), y = ix2 r n := ⟨y 0, y 1, (ix2_eta y).symm⟩
  refine (congrFun (flushed21_A m c t) (ix2 r n)).trans (Eq.trans ?_ (congrArg (heads (mx m c) (mg m c) (mw m c) 3592 (by decide)) (emb21 t r n).symm))
  refine (out21_at ..).trans ?_
  exact tok_eq m c t ⟨r.val / 4, by omega⟩ _ _ _ _ (Fin.ext (by show (t.val * 1024 + r.val) / 4 = t.val * 256 + r.val / 4; omega))
    fun k => (col5 m c t k _).trans (congrArg (fun p => mw m c (ix3 0 k p)) (Fin.ext (by show 3080 + (512 + r.val % 4 * 128 + n.val) = 3592 + (t.val * 1024 + r.val) % 4 * 128 + n.val; omega)))
theorem final22 (c : Dev nD) : (dats m 0 c).arrAt 22 cfg0.N = heads (mx m c) (mg m c) (mw m c) 4104 (by decide) := by
  refine (dats m 0 c).arrAt_eq_of_covers 22 (heads (mx m c) (mg m c) (mw m c) 4104 (by decide)) (by decide +kernel) fun t hf y => ?_
  obtain ⟨r, n, rfl⟩ : ∃ (r : Fin 1024) (n : Fin 128), y = ix2 r n := ⟨y 0, y 1, (ix2_eta y).symm⟩
  refine (congrFun (flushed22_A m c t) (ix2 r n)).trans (Eq.trans ?_ (congrArg (heads (mx m c) (mg m c) (mw m c) 4104 (by decide)) (emb22 t r n).symm))
  refine (out22_at ..).trans ?_
  exact tok_eq m c t ⟨r.val / 4, by omega⟩ _ _ _ _ (Fin.ext (by show (t.val * 1024 + r.val) / 4 = t.val * 256 + r.val / 4; omega))
    fun k => (col5 m c t k _).trans (congrArg (fun p => mw m c (ix3 0 k p)) (Fin.ext (by show 3080 + (1024 + r.val % 4 * 128 + n.val) = 4104 + (t.val * 1024 + r.val) % 4 * 128 + n.val; omega)))
theorem final23 (c : Dev nD) : (dats m 0 c).arrAt 23 cfg0.N = cols (mx m c) (mg m c) (mw m c) 4616 (by decide) := by
  refine (dats m 0 c).arrAt_eq_of_covers 23 (cols (mx m c) (mg m c) (mw m c) 4616 (by decide)) (by decide +kernel) fun t hf y => ?_
  obtain ⟨r, n, rfl⟩ : ∃ (r : Fin 256) (n : Fin 3072), y = ix2 r n := ⟨y 0, y 1, (ix2_eta y).symm⟩
  refine (congrFun (flushed23_A m c t) (ix2 r n)).trans (Eq.trans ?_ (congrArg (cols (mx m c) (mg m c) (mw m c) 4616 (by decide)) (emb23 t r n).symm))
  refine (out23_at ..).trans ?_
  by_cases h : n.val < 1536
  · refine (dif_pos h).trans ?_
    exact tok_eq m c t r _ _ _ _ rfl fun k => (col6 m c t k _).trans (congrArg (fun p => mw m c (ix3 0 k p)) (Fin.ext (by show 4616 + n.val = 4616 + n.val; rfl)))
  · refine (dif_neg h).trans ?_
    exact tok_eq m c t r _ _ _ _ rfl fun k => (col7 m c t k _).trans (congrArg (fun p => mw m c (ix3 0 k p)) (Fin.ext (by show 6152 + (n.val - 1536) = 4616 + n.val; omega)))
theorem final16 (c : Dev nD) : (dats m 0 c).arrAt 16 cfg0.N = small (mx m c) (mg m c) (mw m c) := by
  refine (dats m 0 c).arrAt_eq_of_covers 16 (small (mx m c) (mg m c) (mw m c)) (by decide +kernel) fun t hf y => ?_
  obtain ⟨r, n, rfl⟩ : ∃ (r : Fin 256) (n : Fin 128), y = ix2 r n := ⟨y 0, y 1, (ix2_eta y).symm⟩
  refine (congrFun (flushed16_A m c t) (ix2 r n)).trans (Eq.trans ?_ (congrArg (small (mx m c) (mg m c) (mw m c)) (emb16 t r n).symm))
  refine (out16_at ..).trans ?_
  by_cases h : n.val < 8
  · refine Eq.trans ?_ (dif_pos h).symm
    exact tok_eq m c t r _ _ _ _ rfl fun k => (col3 m c t k n).trans (dif_pos h)
  · refine Eq.trans ?_ (dif_neg h).symm
    exact Finset.sum_eq_zero fun k _ => (congrArg (_ * ·) ((col3 m c t k n).trans (dif_neg h))).trans (mul_zero _)

end Cert.Proof.InV

end
-- ==== Proof.InV.Ref.lean ====
/-
  The reference's result arrays for the input projections, read stage by stage.
-/
module

public import proofs.«01_k».proof.Proof.InV.Row
public import proofs.«01_k».proof.Proof.Gen.Reference4Ideal.Read
public import Idealize.ShloMosaic.Lib.Pointwise

@[expose] public section

set_option maxRecDepth 16384

noncomputable section

namespace Cert.Proof.InV.Ref

open Cert.Reference4Ideal Cert.Reference4Ideal.Gen Cert.Reference4Ideal.Read
open Idealize.ShloMosaic
open Cert.Proof.Post Cert.Proof.InV

variable (x0 : S32x16x1024.Idx → EReal) (x2 : S2x1024.Idx → EReal) (x3 : S2x1024x7688.Idx → EReal)

/-- The normalized rows. -/
theorem v14_at (s : Fin 32) (p : Fin 16) (n : Fin 1024) : val_main_v14 (F := Ideal) x0 x2 (ix3 s p n) = rms (fun k => x0 (ix3 s p k)) (fun k => x2 (ix2 0 k)) n := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

/-- All columns. -/
theorem v17_at (s : Fin 32) (p : Fin 16) (n : Fin 7688) : val_main_v17 (F := Ideal) x0 x2 x3 (ix3 s p n) = proj x0 x2 x3 s p n := by
  pointwise [val_main_v15, val_main_v16, val_main_v17]
  simp only [v14_at]
  rfl

/-- The same with the tokens of all samples one after the other. -/
theorem flat {N : ℕ} (y : (⟨3, ![32, 16, N]⟩ : Shape).Idx → EReal) (h : (⟨3, ![32, 16, N]⟩ : Shape).ShapeCasts ⟨2, ![512, N]⟩) (q : Fin 512) (n : Fin N) :
    shapeCast ⟨2, ![512, N]⟩ y h (ix2 q n) = y (ix3 ⟨q.val / 16, by omega⟩ ⟨q.val % 16, by omega⟩ n) :=
  shapeCast_apply y _ (ix2 q n) _ (by
    rewrite [Shape.rowMajor_val_three, Shape.rowMajor_val_two]
    show (q.val / 16 * 16 + q.val % 16) * N + n.val = q.val * N + n.val
    rw [show q.val / 16 * 16 + q.val % 16 = q.val by omega])

theorem split (y : (⟨3, ![32, 16, 512]⟩ : Shape).Idx → EReal) (h : (⟨3, ![32, 16, 512]⟩ : Shape).ShapeCasts ⟨2, ![2048, 128]⟩) (q : Fin 2048) (n : Fin 128) :
    shapeCast ⟨2, ![2048, 128]⟩ y h (ix2 q n) = y (ix3 ⟨q.val / 4 / 16, by omega⟩ ⟨q.val / 4 % 16, by omega⟩ ⟨q.val % 4 * 128 + n.val, by omega⟩) :=
  shapeCast_apply y _ (ix2 q n) _ (by
    rewrite [Shape.rowMajor_val_three, Shape.rowMajor_val_two]
    show (q.val / 4 / 16 * 16 + q.val / 4 % 16) * 512 + (q.val % 4 * 128 + n.val) = q.val * 128 + n.val
    omega)

theorem v31_eq : val_main_v31 (F := Ideal) x0 x2 x3 = cols x0 x2 x3 0 (by decide) := by
  funext j
  obtain ⟨q, n, rfl⟩ : ∃ (q : Fin 512) (n : Fin 1536), j = ix2 q n := ⟨j 0, j 1, (ix2_eta j).symm⟩
  refine (flat _ _ q n).trans ?_
  pointwise [val_main_v18]
  exact (v17_at x0 x2 x3 _ _ _).trans (congrArg (proj x0 x2 x3 _ _) (Fin.ext (show n.val = 0 + n.val by omega)))

theorem v32_eq : val_main_v32 (F := Ideal) x0 x2 x3 = cols x0 x2 x3 1536 (by decide) := by
  funext j
  obtain ⟨q, n, rfl⟩ : ∃ (q : Fin 512) (n : Fin 512), j = ix2 q n := ⟨j 0, j 1, (ix2_eta j).symm⟩
  refine (flat _ _ q n).trans ?_
  pointwise [val_main_v19]
  exact v17_at x0 x2 x3 _ _ _

theorem v34_eq : val_main_v34 (F := Ideal) x0 x2 x3 = cols x0 x2 x3 3080 (by decide) := by
  funext j
  obtain ⟨q, n, rfl⟩ : ∃ (q : Fin 512) (n : Fin 512), j = ix2 q n := ⟨j 0, j 1, (ix2_eta j).symm⟩
  refine (flat (val_main_v25 (F := Ideal) x0 x2 x3) shapeCasts_S32x16x512_S512x512 q n).trans ?_
  pointwise [val_main_v25, val_main_v23]
  exact v17_at x0 x2 x3 _ _ _

/-- The key's columns. -/
theorem v26_at (s : Fin 32) (p : Fin 16) (n : Fin 512) : val_main_v26 (F := Ideal) x0 x2 x3 (ix3 s p n) = proj x0 x2 x3 s p ⟨3592 + n.val, by omega⟩ := by
  pointwise [val_main_v26, val_main_v23]
  exact (v17_at x0 x2 x3 _ _ _).trans (congrArg (proj x0 x2 x3 _ _) (Fin.ext (show 3080 + (512 + n.val) = 3592 + n.val by omega)))

/-- The value's columns. -/
theorem v27_at (s : Fin 32) (p : Fin 16) (n : Fin 512) : val_main_v27 (F := Ideal) x0 x2 x3 (ix3 s p n) = proj x0 x2 x3 s p ⟨4104 + n.val, by omega⟩ := by
  pointwise [val_main_v27, val_main_v23]
  exact (v17_at x0 x2 x3 _ _ _).trans (congrArg (proj x0 x2 x3 _ _) (Fin.ext (show 3080 + (1024 + n.val) = 4104 + n.val by omega)))

theorem v36_eq : val_main_v36 (F := Ideal) x0 x2 x3 = cols x0 x2 x3 3592 (by decide) := by
  funext j
  obtain ⟨q, n, rfl⟩ : ∃ (q : Fin 512) (n : Fin 512), j = ix2 q n := ⟨j 0, j 1, (ix2_eta j).symm⟩
  exact (flat (val_main_v26 (F := Ideal) x0 x2 x3) shapeCasts_S32x16x512_S512x512 q n).trans (v26_at x0 x2 x3 _ _ n)

theorem v38_eq : val_main_v38 (F := Ideal) x0 x2 x3 = cols x0 x2 x3 4104 (by decide) := by
  funext j
  obtain ⟨q, n, rfl⟩ : ∃ (q : Fin 512) (n : Fin 512), j = ix2 q n := ⟨j 0, j 1, (ix2_eta j).symm⟩
  exact (flat (val_main_v27 (F := Ideal) x0 x2 x3) shapeCasts_S32x16x512_S512x512 q n).trans (v27_at x0 x2 x3 _ _ n)

theorem v39_eq : val_main_v39 (F := Ideal) x0 x2 x3 = heads x0 x2 x3 3592 (by decide) := by
  funext j
  obtain ⟨q, n, rfl⟩ : ∃ (q : Fin 2048) (n : Fin 128), j = ix2 q n := ⟨j 0, j 1, (ix2_eta j).symm⟩
  exact (split _ _ q n).trans ((v26_at x0 x2 x3 _ _ _).trans (congrArg (proj x0 x2 x3 _ _) (Fin.ext (show 3592 + (q.val % 4 * 128 + n.val) = 3592 + q.val % 4 * 128 + n.val by omega))))

theorem v40_eq : val_main_v40 (F := Ideal) x0 x2 x3 = heads x0 x2 x3 4104 (by decide) := by
  funext j
  obtain ⟨q, n, rfl⟩ : ∃ (q : Fin 2048) (n : Fin 128), j = ix2 q n := ⟨j 0, j 1, (ix2_eta j).symm⟩
  exact (split _ _ q n).trans ((v27_at x0 x2 x3 _ _ _).trans (congrArg (proj x0 x2 x3 _ _) (Fin.ext (show 4104 + (q.val % 4 * 128 + n.val) = 4104 + q.val % 4 * 128 + n.val by omega))))

theorem v41_eq : val_main_v41 (F := Ideal) x0 x2 x3 = cols x0 x2 x3 4616 (by decide) := by
  funext j
  obtain ⟨q, n, rfl⟩ : ∃ (q : Fin 512) (n : Fin 3072), j = ix2 q n := ⟨j 0, j 1, (ix2_eta j).symm⟩
  refine (flat _ _ q n).trans ?_
  pointwise [val_main_v24]
  exact v17_at x0 x2 x3 _ _ _

/-- The word zero is the number zero. -/
theorem zero_word : (FloatOps.sitofp FTy.f32 (0#32) : Ideal .f32) = 0 := by
  show (((0#32).toInt : ℝ) : EReal) = 0
  simp

/-- The eight small columns side by side. -/
theorem v28_at (s : Fin 32) (p : Fin 16) (n : Fin 8) : val_main_v28 (F := Ideal) x0 x2 x3 (ix3 s p n) = proj x0 x2 x3 s p ⟨2048 + n.val, by omega⟩ := by
  pointwise [val_main_v28, val_main_v20, val_main_v21]
  simp only [v17_at]
  split_ifs
  all_goals first
    | rfl
    | exact congrArg (proj x0 x2 x3 _ _) (Fin.ext (show 2052 + (n.val - 4) = 2048 + n.val by omega))

theorem v30_eq : val_main_v30 (F := Ideal) x0 x2 x3 = small x0 x2 x3 := by
  funext j
  obtain ⟨q, n, rfl⟩ : ∃ (q : Fin 512) (n : Fin 128), j = ix2 q n := ⟨j 0, j 1, (ix2_eta j).symm⟩
  have e (n : Fin 8) : val_main_v29 (F := Ideal) x0 x2 x3 (ix2 q n) = tok x0 x2 x3 q ⟨2048 + n.val, by omega⟩ :=
    (flat (val_main_v28 (F := Ideal) x0 x2 x3) shapeCasts_S32x16x8_S512x8 q n).trans (v28_at x0 x2 x3 _ _ n)
  unfold val_main_v30 small
  by_cases h : n.val < 8
  · refine Eq.trans ?_ (dif_pos (show n.val < 8 from h)).symm
    refine Eq.trans ?_ (e ⟨n.val, h⟩)
    pointwise
    simp [h]
  · refine Eq.trans ?_ (dif_neg (show ¬ n.val < 8 from h)).symm
    pointwise [val_main_call0_v0, val_main_c]
    simp only [h, dif_neg, not_false_eq_true]
    exact zero_word

end Cert.Proof.InV.Ref

end
-- ==== Proof.lean ====
/-
  The claims about the stick-breaking attention kernel, about the kernel that ends a layer, for the prompt and for the
  running streams, and about the input projection of the running streams: that each, its idealization and its reference run and leave everything but their results as it was, that
  the idealization is the kernel's, and that idealization and reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.ReferenceIdeal
public import proofs.«01_k».proof.Proof.Gen.ReferenceIdeal.Run
public import proofs.«01_k».proof.Proof.KI.Run
public import proofs.«01_k».proof.Proof.KB.Run
public import proofs.«01_k».proof.Proof.Val.Ref
public import proofs.«01_k».proof.Proof.Post.Same
public import proofs.«01_k».proof.Proof.PostS.Same
public import proofs.«01_k».proof.Proof.InB.Frame
public import proofs.«01_k».proof.Proof.InV.Final
public import proofs.«01_k».proof.Proof.InV.Ref
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The reference's frame: it is host operations only and names no semaphore. -/
theorem reference_frame : @Cert.quiescent_ReferenceIdeal Cert.ReferenceIdeal.Gen.facts := fun m ρ _ =>
  (θ_run _ _ _).mono (fun _ h => ⟨fun c => (h c).2, sem_eq_zero_of_no_sems rfl _⟩) (Cert.ReferenceIdeal.Value.run m ρ)

/-- The two named constants stand for what the kernel's text says. -/
theorem named : Cert.preserves_Kernel_KernelIdeal :=
  ⟨IdealRules.named_const.statement Cert.KernelIdeal.κ "neg_log2e" .f32 0xBFB8AA3B#32 _ rfl,
    IdealRules.named_const.statement Cert.KernelIdeal.κ "dead" .f32 0xC2D00000#32 _ rfl⟩

/-- Idealization and reference end with the same result array, the attention of the three arguments. -/
theorem equal : @Cert.algebraic_KernelIdeal_ReferenceIdeal Cert.KernelIdeal.Gen.facts Cert.ReferenceIdeal.Gen.facts := by
  intro m g m' g' _ hagree
  refine ⟨fun c => KI.attArr (m ((c.tc : Thread _ _).loc Cert.KernelIdeal.main_arg0)) (m ((c.tc : Thread _ _).loc Cert.KernelIdeal.main_arg1))
    (m ((c.tc : Thread _ _).loc Cert.KernelIdeal.main_arg2)), ?_, ?_⟩
  · refine (θ_run _ _ _).mono (fun r h c => ⟨?_, ?_, ?_, ?_⟩) (KI.run_main m g)
    · exact ((h c).1 3).trans (KI.final m c)
    · exact ((h c).2 Cert.KernelIdeal.main_arg0 KI.rest0).trans (KI.V_arg0 m c)
    · exact ((h c).2 Cert.KernelIdeal.main_arg1 KI.rest1).trans (KI.V_arg1 m c)
    · exact ((h c).2 Cert.KernelIdeal.main_arg2 KI.rest2).trans (KI.V_arg2 m c)
  · refine (θ_run _ _ _).mono (fun r h c => ⟨?_, (h c).2⟩) (Cert.ReferenceIdeal.Value.run m' g')
    refine (h c).1.trans ((Ref.result_att m' c).trans ?_)
    rw [(hagree c).1, (hagree c).2.1, (hagree c).2.2]

/-- The second reference's frame. -/
theorem reference2_frame : @Cert.quiescent_Reference2Ideal Cert.Reference2Ideal.Gen.facts := fun m ρ _ =>
  (θ_run _ _ _).mono (fun _ h => ⟨fun c => (h c).2, sem_eq_zero_of_no_sems rfl _⟩) (Cert.Reference2Ideal.Value.run m ρ)

/-- The end of the layer: idealization and reference end with the same result array, every row the row function of the arguments' rows. -/
theorem equal2 : @Cert.algebraic_Kernel2Ideal_Reference2Ideal Cert.Kernel2Ideal.Gen.facts Cert.Reference2Ideal.Gen.facts := by
  intro m g m' g' _ hagree
  refine ⟨fun c => Post.result m c, ?_, ?_⟩
  · refine (θ_run _ _ _).mono (fun r h c => ⟨(h c).1.trans (Post.final m c), (h c).2⟩) (Cert.Kernel2Ideal.Value.run_blocks m g)
  · refine (θ_run _ _ _).mono (fun r h c => ⟨?_, (h c).2⟩) (Cert.Reference2Ideal.Value.run m' g')
    refine (h c).1.trans ((Cert.Reference2Ideal.Read.val_main_v101_eq (StableHlo.launchContents m' c)).trans ?_)
    obtain ⟨h0, h1, h2, h3, h4, h5, h6, h7, h8, h9, h10, h11, h12, h13, h14, h15, h16⟩ := hagree c
    exact (PostRef.v101_eq _ _ _ _ _ _ _ _ _ _ _ _ _ _ _ _ _).trans (PostRef.postArr_congr h0 h1 h2 h3 h4 h5 h6 h7 h8 h9 h10 h11 h12 h13 h14 h15 h16)

/-- The third reference's frame. -/
theorem reference3_frame : @Cert.quiescent_Reference3Ideal Cert.Reference3Ideal.Gen.facts := fun m ρ _ =>
  (θ_run _ _ _).mono (fun _ h => ⟨fun c => (h c).2, sem_eq_zero_of_no_sems rfl _⟩) (Cert.Reference3Ideal.Value.run m ρ)

/-- The end of the layer for the running streams: idealization and reference end with the same result array, every row the row function of the arguments' rows. -/
theorem equal3 : @Cert.algebraic_Kernel3Ideal_Reference3Ideal Cert.Kernel3Ideal.Gen.facts Cert.Reference3Ideal.Gen.facts := by
  intro m g m' g' _ hagree
  refine ⟨fun c => PostS.result m c, ?_, ?_⟩
  · refine (θ_run _ _ _).mono (fun r h c => ⟨(h c).1.trans (PostS.final m c), (h c).2⟩) (Cert.Kernel3Ideal.Value.run_blocks m g)
  · refine (θ_run _ _ _).mono (fun r h c => ⟨?_, (h c).2⟩) (Cert.Reference3Ideal.Value.run m' g')
    refine (h c).1.trans ((Cert.Reference3Ideal.Read.val_main_v101_eq (StableHlo.launchContents m' c)).trans ?_)
    obtain ⟨h0, h1, h2, h3, h4, h5, h6, h7, h8, h9, h10, h11, h12, h13, h14, h15, h16⟩ := hagree c
    exact (PostSRef.v101_eq _ _ _ _ _ _ _ _ _ _ _ _ _ _ _ _ _).trans (PostSRef.postArr_congr h0 h1 h2 h3 h4 h5 h6 h7 h8 h9 h10 h11 h12 h13 h14 h15 h16)

/-- The fourth reference's frame. -/
theorem reference4_frame : @Cert.quiescent_Reference4Ideal Cert.Reference4Ideal.Gen.facts := fun m ρ _ =>
  (θ_run _ _ _).mono (fun _ h => ⟨fun c => (h c).2.2.2.2.2.2.2.2.2, sem_eq_zero_of_no_sems rfl _⟩) (Cert.Reference4Ideal.Value.run m ρ)

/-- The input projection of the running streams: idealization and reference end with the same nine arrays, columns of the projection of the normalized tokens. -/
theorem equal4 : @Cert.algebraic_Kernel4Ideal_Reference4Ideal Cert.Kernel4Ideal.Gen.facts Cert.Reference4Ideal.Gen.facts := by
  intro m g m' g' _ hagree
  refine ⟨fun c => InV.cols (InV.mx m c) (InV.mg m c) (InV.mw m c) 0 (by decide), fun c => InV.cols (InV.mx m c) (InV.mg m c) (InV.mw m c) 1536 (by decide),
    fun c => InV.small (InV.mx m c) (InV.mg m c) (InV.mw m c), fun c => InV.cols (InV.mx m c) (InV.mg m c) (InV.mw m c) 3080 (by decide),
    fun c => InV.cols (InV.mx m c) (InV.mg m c) (InV.mw m c) 3592 (by decide), fun c => InV.cols (InV.mx m c) (InV.mg m c) (InV.mw m c) 4104 (by decide),
    fun c => InV.heads (InV.mx m c) (InV.mg m c) (InV.mw m c) 3592 (by decide), fun c => InV.heads (InV.mx m c) (InV.mg m c) (InV.mw m c) 4104 (by decide),
    fun c => InV.cols (InV.mx m c) (InV.mg m c) (InV.mw m c) 4616 (by decide), ?_, ?_⟩
  · refine (θ_run _ _ _).mono (fun r h c => ?_) (InI.run_blocks m g)
    obtain ⟨h14, h15, h16, -, h18, h19, h20, h21, h22, h23, -, hk⟩ := h c
    exact ⟨h14.trans (InV.final14 m c), h15.trans (InV.final15 m c), h16.trans (InV.final16 m c), h18.trans (InV.final18 m c), h19.trans (InV.final19 m c),
      h20.trans (InV.final20 m c), h21.trans (InV.final21 m c), h22.trans (InV.final22 m c), h23.trans (InV.final23 m c), hk⟩
  · refine (θ_run _ _ _).mono (fun r h c => ?_) (Cert.Reference4Ideal.Value.run m' g')
    obtain ⟨a0, -, a2, a3, -⟩ := hagree c
    obtain ⟨h31, h32, h30, h34, h36, h38, h39, h40, h41, hk⟩ := h c
    have e31 := h31.trans ((Cert.Reference4Ideal.Read.val_main_v31_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v31_eq _ _ _))
    have e32 := h32.trans ((Cert.Reference4Ideal.Read.val_main_v32_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v32_eq _ _ _))
    have e30 := h30.trans ((Cert.Reference4Ideal.Read.val_main_v30_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v30_eq _ _ _))
    have e34 := h34.trans ((Cert.Reference4Ideal.Read.val_main_v34_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v34_eq _ _ _))
    have e36 := h36.trans ((Cert.Reference4Ideal.Read.val_main_v36_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v36_eq _ _ _))
    have e38 := h38.trans ((Cert.Reference4Ideal.Read.val_main_v38_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v38_eq _ _ _))
    have e39 := h39.trans ((Cert.Reference4Ideal.Read.val_main_v39_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v39_eq _ _ _))
    have e40 := h40.trans ((Cert.Reference4Ideal.Read.val_main_v40_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v40_eq _ _ _))
    have e41 := h41.trans ((Cert.Reference4Ideal.Read.val_main_v41_eq (F := Ideal) (m' ((c.tc : Thread _ _).loc Cert.Reference4Ideal.main_arg0)) (m' ((c.tc : Thread _ _).loc Cert.Reference4Ideal.main_arg2)) (m' ((c.tc : Thread _ _).loc Cert.Reference4Ideal.main_arg3))).trans (InV.Ref.v41_eq _ _ _))
    have agree {α : Sort _} (f : ((⟨3, ![32, 16, 1024]⟩ : Shape).Idx → EReal) → ((⟨2, ![2, 1024]⟩ : Shape).Idx → EReal) → ((⟨3, ![2, 1024, 7688]⟩ : Shape).Idx → EReal) → α) :
        f (m' ((c.tc : Thread _ _).loc Cert.Reference4Ideal.main_arg0)) (m' ((c.tc : Thread _ _).loc Cert.Reference4Ideal.main_arg2)) (m' ((c.tc : Thread _ _).loc Cert.Reference4Ideal.main_arg3))
          = f (InV.mx m c) (InV.mg m c) (InV.mw m c) := by
      rw [a0, a2, a3]
    exact ⟨e31.trans (agree fun x g w => InV.cols x g w 0 (by decide)), e32.trans (agree fun x g w => InV.cols x g w 1536 (by decide)),
      e30.trans (agree fun x g w => InV.small x g w), e34.trans (agree fun x g w => InV.cols x g w 3080 (by decide)),
      e36.trans (agree fun x g w => InV.cols x g w 3592 (by decide)), e38.trans (agree fun x g w => InV.cols x g w 4104 (by decide)),
      e39.trans (agree fun x g w => InV.heads x g w 3592 (by decide)), e40.trans (agree fun x g w => InV.heads x g w 4104 (by decide)),
      e41.trans (agree fun x g w => InV.cols x g w 4616 (by decide)), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => KB.frame m ρ, fun m ρ _ => KI.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => InB.frame m ρ, fun m ρ _ => InI.frame m ρ, reference4_frame,
  named, equal, trivial, equal2, trivial, equal3, trivial, equal4⟩

end Cert.Proof

end
